-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![4096]⟩ (Layout.meshBlock [2, 2, 2] ![[2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![2048, 1024]⟩ ⟨2, ![4096, 1024]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v99) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S2048x1 : Shape := ⟨2, ![2048, 1]⟩
abbrev S2048x2 : Shape := ⟨2, ![2048, 2]⟩
abbrev S1x1024x2048 : Shape := ⟨3, ![1, 1024, 2048]⟩
abbrev S1x2048x1024 : Shape := ⟨3, ![1, 2048, 1024]⟩
abbrev S2x512x1024 : Shape := ⟨3, ![2, 512, 1024]⟩
abbrev S_ : Shape := ⟨0, ![]⟩
abbrev S4 : Shape := ⟨1, ![4]⟩
abbrev S256x1 : Shape := ⟨2, ![256, 1]⟩
abbrev S256x1024 : Shape := ⟨2, ![256, 1024]⟩
abbrev S256x256 : Shape := ⟨2, ![256, 256]⟩
abbrev S1 : Shape := ⟨1, ![1]⟩
abbrev S512x1024 : Shape := ⟨2, ![512, 1024]⟩
abbrev S1x256x1 : Shape := ⟨3, ![1, 256, 1]⟩
abbrev S1x1x1 : Shape := ⟨3, ![1, 1, 1]⟩
abbrev S1024x2048 : Shape := ⟨2, ![1024, 2048]⟩
abbrev S256x2048 : Shape := ⟨2, ![256, 2048]⟩
abbrev S1x256x1024 : Shape := ⟨3, ![1, 256, 1024]⟩
abbrev S1x512x1024 : Shape := ⟨3, ![1, 512, 1024]⟩

abbrev nBuf : Space → Nat
  | .hbm => 17
  | .vmem => 19
  | .smem => 0
  | _ => 0

abbrev bufTy : (tb : Table) → Fin (tcTables nBuf tb) → BufTy
  | .hbm, ⟨0, _⟩ => ⟨S2048x1024, .bf16⟩
  | .hbm, ⟨1, _⟩ => ⟨S2048, .i32⟩
  | .hbm, ⟨2, _⟩ => ⟨S4x1024x2048, .bf16⟩
  | .hbm, ⟨3, _⟩ => ⟨S4x2048x1024, .bf16⟩
  | .hbm, ⟨4, _⟩ => ⟨S2048, .i32⟩
  | .hbm, ⟨5, _⟩ => ⟨S2048, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1, .i32⟩
  | .hbm, ⟨11, _⟩ => ⟨S2048x2, .i32⟩
  | .hbm, ⟨12, _⟩ => ⟨S2048x1, .i32⟩
  | .hbm, ⟨13, _⟩ => ⟨S4x1024x2048, .bf16⟩
  | .hbm, ⟨14, _⟩ => ⟨S4x2048x1024, .bf16⟩
  | .hbm, ⟨15, _⟩ => ⟨S2048x1024, .bf16⟩
  | .hbm, ⟨16, _⟩ => ⟨S2048x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S2048x1024, .bf16⟩
  | .local _ .vmem, ⟨9, _⟩ => ⟨S2048x2, .i32⟩
  | .local _ .vmem, ⟨10, _⟩ => ⟨S2048x1, .i32⟩
  | .local _ .vmem, ⟨11, _⟩ => ⟨S4x1024x2048, .bf16⟩
  | .local _ .vmem, ⟨12, _⟩ => ⟨S4x2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S2048x1, .i32⟩
  | .local _ .vmem, ⟨17, _⟩ => ⟨S2x512x1024, .bf16⟩
  | .local _ .vmem, ⟨18, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_scratch0 : Ref sig .tc := ⟨.vmem, 14, rfl⟩
abbrev cc2_scratch1 : Ref sig .tc := ⟨.vmem, 15, rfl⟩
abbrev cc2_scratch2 : Ref sig .tc := ⟨.vmem, 16, rfl⟩
abbrev cc2_scratch3 : Ref sig .tc := ⟨.vmem, 17, rfl⟩
abbrev cc2_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13
abbrev barrier0 : Sem sig := 0

abbrev nD : Nat := 8
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := .none

def k2_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v16 : BitVec 32 := Scalar.muli v9 c1_i32_8
  let v17 : BitVec 32 := Scalar.addi v15 v16
  v17.toNat
def k2_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_13 : BitVec 32 := 1#32
  let v22 : BitVec 32 := Scalar.muli v9 c1_i32_13
  let v23 : BitVec 32 := Scalar.addi v21 v22
  v23.toNat
@[reducible] def k2_t1_loop : Scf.Loop 32 :=
  let c0_i32_14 : BitVec 32 := 0#32
  let c2_i32_15 : BitVec 32 := 2#32
  let v24 : BitVec 32 := Scalar.addi c0_i32_14 c2_i32_15
  let c1_i32_16 : BitVec 32 := 1#32
  ⟨c0_i32_14, v24, c1_i32_16⟩
def k2_off1 (k2_t1 : Fin k2_t1_loop.trips) : Fin 2 → Nat :=
  let c0_i32_14 : BitVec 32 := 0#32
  let c1_i32_16 : BitVec 32 := 1#32
  let arg17 : BitVec 32 := Scf.iv c0_i32_14 c1_i32_16 k2_t1
  let c256_i32 : BitVec 32 := 256#32
  let v282 : BitVec 32 := Scalar.muli arg17 c256_i32
  let v283 : Index := Scalar.indexCast v282
  let c0_305 : Index := 0#32
  ![v283.toNat, 0]
@[reducible] def k2_t2_loop : Scf.Loop 32 :=
  let c0_i32_306 : BitVec 32 := 0#32
  let c8_i32_307 : BitVec 32 := 8#32
  let v287 : BitVec 32 := Scalar.addi c0_i32_306 c8_i32_307
  let c1_i32_308 : BitVec 32 := 1#32
  ⟨c0_i32_306, v287, c1_i32_308⟩
def k2_off2 (k2_t2 : Fin k2_t2_loop.trips) : Fin 2 → Nat :=
  let c0_i32_306 : BitVec 32 := 0#32
  let c1_i32_308 : BitVec 32 := 1#32
  let arg18 : BitVec 32 := Scf.iv c0_i32_306 c1_i32_308 k2_t2
  let c256_i32_312 : BitVec 32 := 256#32
  let v303 : BitVec 32 := Scalar.muli arg18 c256_i32_312
  let v304 : Index := Scalar.indexCast v303
  let c0_313 : Index := 0#32
  ![v304.toNat, 0]
def k2_off3 (k2_t1 : Fin k2_t1_loop.trips) : Fin 2 → Nat :=
  let c0_i32_14 : BitVec 32 := 0#32
  let c1_i32_16 : BitVec 32 := 1#32
  let arg17 : BitVec 32 := Scf.iv c0_i32_14 c1_i32_16 k2_t1
  let c256_i32 : BitVec 32 := 256#32
  let v282 : BitVec 32 := Scalar.muli arg17 c256_i32
  let v290 : Index := Scalar.indexCast v282
  let c0_310 : Index := 0#32
  ![v290.toNat, 0]
def k2_dev3 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v25 : BitVec 32 := Scalar.muli v2 c4_i32_20
  let v26 : BitVec 32 := Scalar.addi c0_i32_21 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v27 : BitVec 32 := Scalar.muli v5 c2_i32_22
  let v28 : BitVec 32 := Scalar.addi v26 v27
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_23 : BitVec 32 := 1#32
  let v29 : BitVec 32 := Scalar.muli v9 c1_i32_23
  let v30 : BitVec 32 := Scalar.addi v28 v29
  v30.toNat
@[reducible] def k2_t3_loop : Scf.Loop 32 :=
  let c2_i32_28 : BitVec 32 := 2#32
  let c2_i32_29 : BitVec 32 := 2#32
  let v37 : BitVec 32 := Scalar.addi c2_i32_28 c2_i32_29
  let c1_i32_30 : BitVec 32 := 1#32
  ⟨c2_i32_28, v37, c1_i32_30⟩
def k2_off4 (k2_t3 : Fin k2_t3_loop.trips) : Fin 2 → Nat :=
  let c2_i32_28 : BitVec 32 := 2#32
  let c1_i32_30 : BitVec 32 := 1#32
  let arg17 : BitVec 32 := Scf.iv c2_i32_28 c1_i32_30 k2_t3
  let c256_i32 : BitVec 32 := 256#32
  let v282 : BitVec 32 := Scalar.muli arg17 c256_i32
  let v283 : Index := Scalar.indexCast v282
  let c0_305 : Index := 0#32
  ![v283.toNat, 0]
@[reducible] def k2_t4_loop : Scf.Loop 32 :=
  let c0_i32_306 : BitVec 32 := 0#32
  let c8_i32_307 : BitVec 32 := 8#32
  let v287 : BitVec 32 := Scalar.addi c0_i32_306 c8_i32_307
  let c1_i32_308 : BitVec 32 := 1#32
  ⟨c0_i32_306, v287, c1_i32_308⟩
def k2_off5 (k2_t4 : Fin k2_t4_loop.trips) : Fin 2 → Nat :=
  let c0_i32_306 : BitVec 32 := 0#32
  let c1_i32_308 : BitVec 32 := 1#32
  let arg18 : BitVec 32 := Scf.iv c0_i32_306 c1_i32_308 k2_t4
  let c256_i32_312 : BitVec 32 := 256#32
  let v303 : BitVec 32 := Scalar.muli arg18 c256_i32_312
  let v304 : Index := Scalar.indexCast v303
  let c0_313 : Index := 0#32
  ![v304.toNat, 0]
def k2_off6 (k2_t3 : Fin k2_t3_loop.trips) : Fin 2 → Nat :=
  let c2_i32_28 : BitVec 32 := 2#32
  let c1_i32_30 : BitVec 32 := 1#32
  let arg17 : BitVec 32 := Scf.iv c2_i32_28 c1_i32_30 k2_t3
  let c256_i32 : BitVec 32 := 256#32
  let v282 : BitVec 32 := Scalar.muli arg17 c256_i32
  let v290 : Index := Scalar.indexCast v282
  let c0_310 : Index := 0#32
  ![v290.toNat, 0]
def k2_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v38 : BitVec 32 := Scalar.muli v2 c4_i32_34
  let v39 : BitVec 32 := Scalar.addi c0_i32_35 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v40 : BitVec 32 := Scalar.muli v5 c2_i32_36
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_37 : BitVec 32 := 1#32
  let v42 : BitVec 32 := Scalar.muli v9 c1_i32_37
  let v43 : BitVec 32 := Scalar.addi v41 v42
  v43.toNat
@[reducible] def k2_t5_loop : Scf.Loop 32 :=
  let c4_i32_41 : BitVec 32 := 4#32
  let c2_i32_42 : BitVec 32 := 2#32
  let v50 : BitVec 32 := Scalar.addi c4_i32_41 c2_i32_42
  let c1_i32_43 : BitVec 32 := 1#32
  ⟨c4_i32_41, v50, c1_i32_43⟩
def k2_off7 (k2_t5 : Fin k2_t5_loop.trips) : Fin 2 → Nat :=
  let c4_i32_41 : BitVec 32 := 4#32
  let c1_i32_43 : BitVec 32 := 1#32
  let arg17 : BitVec 32 := Scf.iv c4_i32_41 c1_i32_43 k2_t5
  let c256_i32 : BitVec 32 := 256#32
  let v282 : BitVec 32 := Scalar.muli arg17 c256_i32
  let v283 : Index := Scalar.indexCast v282
  let c0_305 : Index := 0#32
  ![v283.toNat, 0]
@[reducible] def k2_t6_loop : Scf.Loop 32 :=
  let c0_i32_306 : BitVec 32 := 0#32
  let c8_i32_307 : BitVec 32 := 8#32
  let v287 : BitVec 32 := Scalar.addi c0_i32_306 c8_i32_307
  let c1_i32_308 : BitVec 32 := 1#32
  ⟨c0_i32_306, v287, c1_i32_308⟩
def k2_off8 (k2_t6 : Fin k2_t6_loop.trips) : Fin 2 → Nat :=
  let c0_i32_306 : BitVec 32 := 0#32
  let c1_i32_308 : BitVec 32 := 1#32
  let arg18 : BitVec 32 := Scf.iv c0_i32_306 c1_i32_308 k2_t6
  let c256_i32_312 : BitVec 32 := 256#32
  let v303 : BitVec 32 := Scalar.muli arg18 c256_i32_312
  let v304 : Index := Scalar.indexCast v303
  let c0_313 : Index := 0#32
  ![v304.toNat, 0]
def k2_off9 (k2_t5 : Fin k2_t5_loop.trips) : Fin 2 → Nat :=
  let c4_i32_41 : BitVec 32 := 4#32
  let c1_i32_43 : BitVec 32 := 1#32
  let arg17 : BitVec 32 := Scf.iv c4_i32_41 c1_i32_43 k2_t5
  let c256_i32 : BitVec 32 := 256#32
  let v282 : BitVec 32 := Scalar.muli arg17 c256_i32
  let v290 : Index := Scalar.indexCast v282
  let c0_310 : Index := 0#32
  ![v290.toNat, 0]
def k2_dev5 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v51 : BitVec 32 := Scalar.muli v2 c4_i32_47
  let v52 : BitVec 32 := Scalar.addi c0_i32_48 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v53 : BitVec 32 := Scalar.muli v5 c2_i32_49
  let v54 : BitVec 32 := Scalar.addi v52 v53
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_50 : BitVec 32 := 1#32
  let v55 : BitVec 32 := Scalar.muli v9 c1_i32_50
  let v56 : BitVec 32 := Scalar.addi v54 v55
  v56.toNat
@[reducible] def k2_t7_loop : Scf.Loop 32 :=
  let c6_i32 : BitVec 32 := 6#32
  let c2_i32_54 : BitVec 32 := 2#32
  let v63 : BitVec 32 := Scalar.addi c6_i32 c2_i32_54
  let c1_i32_55 : BitVec 32 := 1#32
  ⟨c6_i32, v63, c1_i32_55⟩
def k2_off10 (k2_t7 : Fin k2_t7_loop.trips) : Fin 2 → Nat :=
  let c6_i32 : BitVec 32 := 6#32
  let c1_i32_55 : BitVec 32 := 1#32
  let arg17 : BitVec 32 := Scf.iv c6_i32 c1_i32_55 k2_t7
  let c256_i32 : BitVec 32 := 256#32
  let v282 : BitVec 32 := Scalar.muli arg17 c256_i32
  let v283 : Index := Scalar.indexCast v282
  let c0_305 : Index := 0#32
  ![v283.toNat, 0]
@[reducible] def k2_t8_loop : Scf.Loop 32 :=
  let c0_i32_306 : BitVec 32 := 0#32
  let c8_i32_307 : BitVec 32 := 8#32
  let v287 : BitVec 32 := Scalar.addi c0_i32_306 c8_i32_307
  let c1_i32_308 : BitVec 32 := 1#32
  ⟨c0_i32_306, v287, c1_i32_308⟩
def k2_off11 (k2_t8 : Fin k2_t8_loop.trips) : Fin 2 → Nat :=
  let c0_i32_306 : BitVec 32 := 0#32
  let c1_i32_308 : BitVec 32 := 1#32
  let arg18 : BitVec 32 := Scf.iv c0_i32_306 c1_i32_308 k2_t8
  let c256_i32_312 : BitVec 32 := 256#32
  let v303 : BitVec 32 := Scalar.muli arg18 c256_i32_312
  let v304 : Index := Scalar.indexCast v303
  let c0_313 : Index := 0#32
  ![v304.toNat, 0]
def k2_off12 (k2_t7 : Fin k2_t7_loop.trips) : Fin 2 → Nat :=
  let c6_i32 : BitVec 32 := 6#32
  let c1_i32_55 : BitVec 32 := 1#32
  let arg17 : BitVec 32 := Scf.iv c6_i32 c1_i32_55 k2_t7
  let c256_i32 : BitVec 32 := 256#32
  let v282 : BitVec 32 := Scalar.muli arg17 c256_i32
  let v290 : Index := Scalar.indexCast v282
  let c0_310 : Index := 0#32
  ![v290.toNat, 0]
def k2_dev6 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v64 : BitVec 32 := Scalar.muli v2 c4_i32_58
  let v65 : BitVec 32 := Scalar.addi c0_i32_59 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v66 : BitVec 32 := Scalar.muli v5 c2_i32_60
  let v67 : BitVec 32 := Scalar.addi v65 v66
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_61 : BitVec 32 := 1#32
  let v68 : BitVec 32 := Scalar.muli v9 c1_i32_61
  let v69 : BitVec 32 := Scalar.addi v67 v68
  v69.toNat
@[reducible] def k2_t9_loop : Scf.Loop 32 :=
  let c0_i32_65 : BitVec 32 := 0#32
  let c8_i32 : BitVec 32 := 8#32
  let v76 : BitVec 32 := Scalar.addi c0_i32_65 c8_i32
  let c1_i32_66 : BitVec 32 := 1#32
  ⟨c0_i32_65, v76, c1_i32_66⟩
def k2_off13 (k2_t9 : Fin k2_t9_loop.trips) : Fin 2 → Nat :=
  let c0_i32_65 : BitVec 32 := 0#32
  let c1_i32_66 : BitVec 32 := 1#32
  let arg17 : BitVec 32 := Scf.iv c0_i32_65 c1_i32_66 k2_t9
  let c256_i32 : BitVec 32 := 256#32
  let v282 : BitVec 32 := Scalar.muli arg17 c256_i32
  let v283 : Index := Scalar.indexCast v282
  let c0_305 : Index := 0#32
  ![v283.toNat, 0]
def k2_off14 (k2_t9 : Fin k2_t9_loop.trips) : Fin 2 → Nat :=
  let c0_i32_65 : BitVec 32 := 0#32
  let c1_i32_66 : BitVec 32 := 1#32
  let arg17 : BitVec 32 := Scf.iv c0_i32_65 c1_i32_66 k2_t9
  let c256_i32 : BitVec 32 := 256#32
  let v282 : BitVec 32 := Scalar.muli arg17 c256_i32
  let v285 : Index := Scalar.indexCast v282
  let c0_306 : Index := 0#32
  ![v285.toNat, 0]
def k2_off15 (k2_t9 : Fin k2_t9_loop.trips) : Fin 2 → Nat :=
  let c0_i32_65 : BitVec 32 := 0#32
  let c1_i32_66 : BitVec 32 := 1#32
  let arg17 : BitVec 32 := Scf.iv c0_i32_65 c1_i32_66 k2_t9
  let c256_i32 : BitVec 32 := 256#32
  let v282 : BitVec 32 := Scalar.muli arg17 c256_i32
  let v352 : Index := Scalar.indexCast v282
  let c0_341 : Index := 0#32
  ![v352.toNat, 0]
def k2_off16 (k2_t9 : Fin k2_t9_loop.trips) : Fin 2 → Nat :=
  let c0_i32_65 : BitVec 32 := 0#32
  let c1_i32_66 : BitVec 32 := 1#32
  let arg17 : BitVec 32 := Scf.iv c0_i32_65 c1_i32_66 k2_t9
  let c256_i32 : BitVec 32 := 256#32
  let v282 : BitVec 32 := Scalar.muli arg17 c256_i32
  let v352 : Index := Scalar.indexCast v282
  let c0_340 : Index := 0#32
  ![v352.toNat, 0]
def k2_off17 (k2_t9 : Fin k2_t9_loop.trips) : Fin 2 → Nat :=
  let c0_i32_65 : BitVec 32 := 0#32
  let c1_i32_66 : BitVec 32 := 1#32
  let arg17 : BitVec 32 := Scf.iv c0_i32_65 c1_i32_66 k2_t9
  let c256_i32 : BitVec 32 := 256#32
  let v282 : BitVec 32 := Scalar.muli arg17 c256_i32
  let v352 : Index := Scalar.indexCast v282
  let c0_340 : Index := 0#32
  ![v352.toNat, 0]
def k2_off18 (k2_t9 : Fin k2_t9_loop.trips) : Fin 2 → Nat :=
  let c0_i32_65 : BitVec 32 := 0#32
  let c1_i32_66 : BitVec 32 := 1#32
  let arg17 : BitVec 32 := Scf.iv c0_i32_65 c1_i32_66 k2_t9
  let c256_i32 : BitVec 32 := 256#32
  let v282 : BitVec 32 := Scalar.muli arg17 c256_i32
  let v352 : Index := Scalar.indexCast v282
  let c0_340 : Index := 0#32
  ![v352.toNat, 0]
@[reducible] def k2_t10_loop : Scf.Loop 32 :=
  let c0_i32_90 : BitVec 32 := 0#32
  let c2_i32_91 : BitVec 32 := 2#32
  let v97 : BitVec 32 := Scalar.addi c0_i32_90 c2_i32_91
  let c1_i32_92 : BitVec 32 := 1#32
  ⟨c0_i32_90, v97, c1_i32_92⟩
def k2_off19 (k2_t10 : Fin k2_t10_loop.trips) : Fin 2 → Nat :=
  let c0_i32_305 : BitVec 32 := 0#32
  let c0_i32_90 : BitVec 32 := 0#32
  let c1_i32_92 : BitVec 32 := 1#32
  let arg17 : BitVec 32 := Scf.iv c0_i32_90 c1_i32_92 k2_t10
  let c256_i32 : BitVec 32 := 256#32
  let v282 : BitVec 32 := Scalar.muli arg17 c256_i32
  let v283 : BitVec 32 := Scalar.addi c0_i32_305 v282
  let v285 : Index := Scalar.indexCast v283
  let c0_307 : Index := 0#32
  ![v285.toNat, 0]
def k2_off20 (k2_t10 : Fin k2_t10_loop.trips) : Fin 2 → Nat :=
  let c0_i32_305 : BitVec 32 := 0#32
  let c0_i32_90 : BitVec 32 := 0#32
  let c1_i32_92 : BitVec 32 := 1#32
  let arg17 : BitVec 32 := Scf.iv c0_i32_90 c1_i32_92 k2_t10
  let c256_i32 : BitVec 32 := 256#32
  let v282 : BitVec 32 := Scalar.muli arg17 c256_i32
  let v283 : BitVec 32 := Scalar.addi c0_i32_305 v282
  let v287 : Index := Scalar.indexCast v283
  let c0_308 : Index := 0#32
  ![v287.toNat, 0]
def k2_off21 (k2_t10 : Fin k2_t10_loop.trips) : Fin 3 → Nat :=
  let c0_309 : Index := 0#32
  let c0_i32_90 : BitVec 32 := 0#32
  let c1_i32_92 : BitVec 32 := 1#32
  let arg17 : BitVec 32 := Scf.iv c0_i32_90 c1_i32_92 k2_t10
  let c256_i32_306 : BitVec 32 := 256#32
  let v284 : BitVec 32 := Scalar.muli arg17 c256_i32_306
  let v290 : Index := Scalar.indexCast v284
  let c0_310 : Index := 0#32
  ![0, v290.toNat, 0]
def k2_off22 (k2_t10 : Fin k2_t10_loop.trips) : Fin 3 → Nat :=
  let c0_344 : Index := 0#32
  let c0_i32_90 : BitVec 32 := 0#32
  let c1_i32_92 : BitVec 32 := 1#32
  let arg17 : BitVec 32 := Scf.iv c0_i32_90 c1_i32_92 k2_t10
  let c256_i32_306 : BitVec 32 := 256#32
  let v284 : BitVec 32 := Scalar.muli arg17 c256_i32_306
  let v355 : Index := Scalar.indexCast v284
  let c0_345 : Index := 0#32
  ![0, v355.toNat, 0]
def k2_off23 (k2_t10 : Fin k2_t10_loop.trips) : Fin 3 → Nat :=
  let c0_343 : Index := 0#32
  let c0_i32_90 : BitVec 32 := 0#32
  let c1_i32_92 : BitVec 32 := 1#32
  let arg17 : BitVec 32 := Scf.iv c0_i32_90 c1_i32_92 k2_t10
  let c256_i32_306 : BitVec 32 := 256#32
  let v284 : BitVec 32 := Scalar.muli arg17 c256_i32_306
  let v355 : Index := Scalar.indexCast v284
  let c0_344 : Index := 0#32
  ![0, v355.toNat, 0]
def k2_off24 (k2_t10 : Fin k2_t10_loop.trips) : Fin 3 → Nat :=
  let c0_343 : Index := 0#32
  let c0_i32_90 : BitVec 32 := 0#32
  let c1_i32_92 : BitVec 32 := 1#32
  let arg17 : BitVec 32 := Scf.iv c0_i32_90 c1_i32_92 k2_t10
  let c256_i32_306 : BitVec 32 := 256#32
  let v284 : BitVec 32 := Scalar.muli arg17 c256_i32_306
  let v355 : Index := Scalar.indexCast v284
  let c0_344 : Index := 0#32
  ![0, v355.toNat, 0]
def k2_off25 (k2_t10 : Fin k2_t10_loop.trips) : Fin 3 → Nat :=
  let c0_343 : Index := 0#32
  let c0_i32_90 : BitVec 32 := 0#32
  let c1_i32_92 : BitVec 32 := 1#32
  let arg17 : BitVec 32 := Scf.iv c0_i32_90 c1_i32_92 k2_t10
  let c256_i32_306 : BitVec 32 := 256#32
  let v284 : BitVec 32 := Scalar.muli arg17 c256_i32_306
  let v355 : Index := Scalar.indexCast v284
  let c0_344 : Index := 0#32
  ![0, v355.toNat, 0]
def k2_dev7 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v98 : BitVec 32 := Scalar.muli v2 c4_i32_97
  let v99 : BitVec 32 := Scalar.addi c0_i32_98 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v100 : BitVec 32 := Scalar.muli v5 c2_i32_99
  let v101 : BitVec 32 := Scalar.addi v99 v100
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_100 : BitVec 32 := 1#32
  let v102 : BitVec 32 := Scalar.muli v9 c1_i32_100
  let v103 : BitVec 32 := Scalar.addi v101 v102
  v103.toNat
@[reducible] def k2_t11_loop : Scf.Loop 32 :=
  let c0_i32_122 : BitVec 32 := 0#32
  let c2_i32_123 : BitVec 32 := 2#32
  let v125 : BitVec 32 := Scalar.addi c0_i32_122 c2_i32_123
  let c1_i32_124 : BitVec 32 := 1#32
  ⟨c0_i32_122, v125, c1_i32_124⟩
def k2_off26 (k2_t11 : Fin k2_t11_loop.trips) : Fin 2 → Nat :=
  let c512_i32_305 : BitVec 32 := 512#32
  let c0_i32_122 : BitVec 32 := 0#32
  let c1_i32_124 : BitVec 32 := 1#32
  let arg17 : BitVec 32 := Scf.iv c0_i32_122 c1_i32_124 k2_t11
  let c256_i32 : BitVec 32 := 256#32
  let v282 : BitVec 32 := Scalar.muli arg17 c256_i32
  let v283 : BitVec 32 := Scalar.addi c512_i32_305 v282
  let v285 : Index := Scalar.indexCast v283
  let c0_307 : Index := 0#32
  ![v285.toNat, 0]
def k2_off27 (k2_t11 : Fin k2_t11_loop.trips) : Fin 2 → Nat :=
  let c512_i32_305 : BitVec 32 := 512#32
  let c0_i32_122 : BitVec 32 := 0#32
  let c1_i32_124 : BitVec 32 := 1#32
  let arg17 : BitVec 32 := Scf.iv c0_i32_122 c1_i32_124 k2_t11
  let c256_i32 : BitVec 32 := 256#32
  let v282 : BitVec 32 := Scalar.muli arg17 c256_i32
  let v283 : BitVec 32 := Scalar.addi c512_i32_305 v282
  let v287 : Index := Scalar.indexCast v283
  let c0_308 : Index := 0#32
  ![v287.toNat, 0]
def k2_off28 (k2_t11 : Fin k2_t11_loop.trips) : Fin 3 → Nat :=
  let c1 : Index := 1#32
  let c0_i32_122 : BitVec 32 := 0#32
  let c1_i32_124 : BitVec 32 := 1#32
  let arg17 : BitVec 32 := Scf.iv c0_i32_122 c1_i32_124 k2_t11
  let c256_i32_306 : BitVec 32 := 256#32
  let v284 : BitVec 32 := Scalar.muli arg17 c256_i32_306
  let v290 : Index := Scalar.indexCast v284
  let c0_309 : Index := 0#32
  ![1, v290.toNat, 0]
def k2_off29 (k2_t11 : Fin k2_t11_loop.trips) : Fin 3 → Nat :=
  let c1_343 : Index := 1#32
  let c0_i32_122 : BitVec 32 := 0#32
  let c1_i32_124 : BitVec 32 := 1#32
  let arg17 : BitVec 32 := Scf.iv c0_i32_122 c1_i32_124 k2_t11
  let c256_i32_306 : BitVec 32 := 256#32
  let v284 : BitVec 32 := Scalar.muli arg17 c256_i32_306
  let v355 : Index := Scalar.indexCast v284
  let c0_344 : Index := 0#32
  ![1, v355.toNat, 0]
def k2_off30 (k2_t11 : Fin k2_t11_loop.trips) : Fin 3 → Nat :=
  let c1_343 : Index := 1#32
  let c0_i32_122 : BitVec 32 := 0#32
  let c1_i32_124 : BitVec 32 := 1#32
  let arg17 : BitVec 32 := Scf.iv c0_i32_122 c1_i32_124 k2_t11
  let c256_i32_306 : BitVec 32 := 256#32
  let v284 : BitVec 32 := Scalar.muli arg17 c256_i32_306
  let v355 : Index := Scalar.indexCast v284
  let c0_344 : Index := 0#32
  ![1, v355.toNat, 0]
def k2_off31 (k2_t11 : Fin k2_t11_loop.trips) : Fin 3 → Nat :=
  let c1_342 : Index := 1#32
  let c0_i32_122 : BitVec 32 := 0#32
  let c1_i32_124 : BitVec 32 := 1#32
  let arg17 : BitVec 32 := Scf.iv c0_i32_122 c1_i32_124 k2_t11
  let c256_i32_306 : BitVec 32 := 256#32
  let v284 : BitVec 32 := Scalar.muli arg17 c256_i32_306
  let v355 : Index := Scalar.indexCast v284
  let c0_343 : Index := 0#32
  ![1, v355.toNat, 0]
def k2_off32 (k2_t11 : Fin k2_t11_loop.trips) : Fin 3 → Nat :=
  let c1_342 : Index := 1#32
  let c0_i32_122 : BitVec 32 := 0#32
  let c1_i32_124 : BitVec 32 := 1#32
  let arg17 : BitVec 32 := Scf.iv c0_i32_122 c1_i32_124 k2_t11
  let c256_i32_306 : BitVec 32 := 256#32
  let v284 : BitVec 32 := Scalar.muli arg17 c256_i32_306
  let v355 : Index := Scalar.indexCast v284
  let c0_343 : Index := 0#32
  ![1, v355.toNat, 0]
def k2_dev8 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v126 : BitVec 32 := Scalar.muli v2 c4_i32_129
  let v127 : BitVec 32 := Scalar.addi c0_i32_130 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v128 : BitVec 32 := Scalar.muli v5 c2_i32_131
  let v129 : BitVec 32 := Scalar.addi v127 v128
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_132 : BitVec 32 := 1#32
  let v130 : BitVec 32 := Scalar.muli v9 c1_i32_132
  let v131 : BitVec 32 := Scalar.addi v129 v130
  v131.toNat
@[reducible] def k2_t12_loop : Scf.Loop 32 :=
  let c0_i32_162 : BitVec 32 := 0#32
  let c2_i32_163 : BitVec 32 := 2#32
  let v158 : BitVec 32 := Scalar.addi c0_i32_162 c2_i32_163
  let c1_i32_164 : BitVec 32 := 1#32
  ⟨c0_i32_162, v158, c1_i32_164⟩
def k2_off33 (k2_t12 : Fin k2_t12_loop.trips) : Fin 2 → Nat :=
  let c1024_i32_305 : BitVec 32 := 1024#32
  let c0_i32_162 : BitVec 32 := 0#32
  let c1_i32_164 : BitVec 32 := 1#32
  let arg17 : BitVec 32 := Scf.iv c0_i32_162 c1_i32_164 k2_t12
  let c256_i32 : BitVec 32 := 256#32
  let v282 : BitVec 32 := Scalar.muli arg17 c256_i32
  let v283 : BitVec 32 := Scalar.addi c1024_i32_305 v282
  let v285 : Index := Scalar.indexCast v283
  let c0_307 : Index := 0#32
  ![v285.toNat, 0]
def k2_off34 (k2_t12 : Fin k2_t12_loop.trips) : Fin 2 → Nat :=
  let c1024_i32_305 : BitVec 32 := 1024#32
  let c0_i32_162 : BitVec 32 := 0#32
  let c1_i32_164 : BitVec 32 := 1#32
  let arg17 : BitVec 32 := Scf.iv c0_i32_162 c1_i32_164 k2_t12
  let c256_i32 : BitVec 32 := 256#32
  let v282 : BitVec 32 := Scalar.muli arg17 c256_i32
  let v283 : BitVec 32 := Scalar.addi c1024_i32_305 v282
  let v287 : Index := Scalar.indexCast v283
  let c0_308 : Index := 0#32
  ![v287.toNat, 0]
def k2_off35 (k2_t12 : Fin k2_t12_loop.trips) : Fin 3 → Nat :=
  let c0_309 : Index := 0#32
  let c0_i32_162 : BitVec 32 := 0#32
  let c1_i32_164 : BitVec 32 := 1#32
  let arg17 : BitVec 32 := Scf.iv c0_i32_162 c1_i32_164 k2_t12
  let c256_i32_306 : BitVec 32 := 256#32
  let v284 : BitVec 32 := Scalar.muli arg17 c256_i32_306
  let v290 : Index := Scalar.indexCast v284
  let c0_310 : Index := 0#32
  ![0, v290.toNat, 0]
def k2_off36 (k2_t12 : Fin k2_t12_loop.trips) : Fin 3 → Nat :=
  let c0_344 : Index := 0#32
  let c0_i32_162 : BitVec 32 := 0#32
  let c1_i32_164 : BitVec 32 := 1#32
  let arg17 : BitVec 32 := Scf.iv c0_i32_162 c1_i32_164 k2_t12
  let c256_i32_306 : BitVec 32 := 256#32
  let v284 : BitVec 32 := Scalar.muli arg17 c256_i32_306
  let v355 : Index := Scalar.indexCast v284
  let c0_345 : Index := 0#32
  ![0, v355.toNat, 0]
def k2_off37 (k2_t12 : Fin k2_t12_loop.trips) : Fin 3 → Nat :=
  let c0_343 : Index := 0#32
  let c0_i32_162 : BitVec 32 := 0#32
  let c1_i32_164 : BitVec 32 := 1#32
  let arg17 : BitVec 32 := Scf.iv c0_i32_162 c1_i32_164 k2_t12
  let c256_i32_306 : BitVec 32 := 256#32
  let v284 : BitVec 32 := Scalar.muli arg17 c256_i32_306
  let v355 : Index := Scalar.indexCast v284
  let c0_344 : Index := 0#32
  ![0, v355.toNat, 0]
def k2_off38 (k2_t12 : Fin k2_t12_loop.trips) : Fin 3 → Nat :=
  let c0_343 : Index := 0#32
  let c0_i32_162 : BitVec 32 := 0#32
  let c1_i32_164 : BitVec 32 := 1#32
  let arg17 : BitVec 32 := Scf.iv c0_i32_162 c1_i32_164 k2_t12
  let c256_i32_306 : BitVec 32 := 256#32
  let v284 : BitVec 32 := Scalar.muli arg17 c256_i32_306
  let v355 : Index := Scalar.indexCast v284
  let c0_344 : Index := 0#32
  ![0, v355.toNat, 0]
def k2_off39 (k2_t12 : Fin k2_t12_loop.trips) : Fin 3 → Nat :=
  let c0_343 : Index := 0#32
  let c0_i32_162 : BitVec 32 := 0#32
  let c1_i32_164 : BitVec 32 := 1#32
  let arg17 : BitVec 32 := Scf.iv c0_i32_162 c1_i32_164 k2_t12
  let c256_i32_306 : BitVec 32 := 256#32
  let v284 : BitVec 32 := Scalar.muli arg17 c256_i32_306
  let v355 : Index := Scalar.indexCast v284
  let c0_344 : Index := 0#32
  ![0, v355.toNat, 0]
def k2_dev9 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v159 : BitVec 32 := Scalar.muli v2 c4_i32_169
  let v160 : BitVec 32 := Scalar.addi c0_i32_170 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v161 : BitVec 32 := Scalar.muli v5 c2_i32_171
  let v162 : BitVec 32 := Scalar.addi v160 v161
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_172 : BitVec 32 := 1#32
  let v163 : BitVec 32 := Scalar.muli v9 c1_i32_172
  let v164 : BitVec 32 := Scalar.addi v162 v163
  v164.toNat
@[reducible] def k2_t13_loop : Scf.Loop 32 :=
  let c0_i32_202 : BitVec 32 := 0#32
  let c2_i32_203 : BitVec 32 := 2#32
  let v191 : BitVec 32 := Scalar.addi c0_i32_202 c2_i32_203
  let c1_i32_204 : BitVec 32 := 1#32
  ⟨c0_i32_202, v191, c1_i32_204⟩
def k2_off40 (k2_t13 : Fin k2_t13_loop.trips) : Fin 2 → Nat :=
  let c1536_i32_305 : BitVec 32 := 1536#32
  let c0_i32_202 : BitVec 32 := 0#32
  let c1_i32_204 : BitVec 32 := 1#32
  let arg17 : BitVec 32 := Scf.iv c0_i32_202 c1_i32_204 k2_t13
  let c256_i32 : BitVec 32 := 256#32
  let v282 : BitVec 32 := Scalar.muli arg17 c256_i32
  let v283 : BitVec 32 := Scalar.addi c1536_i32_305 v282
  let v285 : Index := Scalar.indexCast v283
  let c0_307 : Index := 0#32
  ![v285.toNat, 0]
def k2_off41 (k2_t13 : Fin k2_t13_loop.trips) : Fin 2 → Nat :=
  let c1536_i32_305 : BitVec 32 := 1536#32
  let c0_i32_202 : BitVec 32 := 0#32
  let c1_i32_204 : BitVec 32 := 1#32
  let arg17 : BitVec 32 := Scf.iv c0_i32_202 c1_i32_204 k2_t13
  let c256_i32 : BitVec 32 := 256#32
  let v282 : BitVec 32 := Scalar.muli arg17 c256_i32
  let v283 : BitVec 32 := Scalar.addi c1536_i32_305 v282
  let v287 : Index := Scalar.indexCast v283
  let c0_308 : Index := 0#32
  ![v287.toNat, 0]
def k2_off42 (k2_t13 : Fin k2_t13_loop.trips) : Fin 3 → Nat :=
  let c1 : Index := 1#32
  let c0_i32_202 : BitVec 32 := 0#32
  let c1_i32_204 : BitVec 32 := 1#32
  let arg17 : BitVec 32 := Scf.iv c0_i32_202 c1_i32_204 k2_t13
  let c256_i32_306 : BitVec 32 := 256#32
  let v284 : BitVec 32 := Scalar.muli arg17 c256_i32_306
  let v290 : Index := Scalar.indexCast v284
  let c0_309 : Index := 0#32
  ![1, v290.toNat, 0]
def k2_off43 (k2_t13 : Fin k2_t13_loop.trips) : Fin 3 → Nat :=
  let c1_343 : Index := 1#32
  let c0_i32_202 : BitVec 32 := 0#32
  let c1_i32_204 : BitVec 32 := 1#32
  let arg17 : BitVec 32 := Scf.iv c0_i32_202 c1_i32_204 k2_t13
  let c256_i32_306 : BitVec 32 := 256#32
  let v284 : BitVec 32 := Scalar.muli arg17 c256_i32_306
  let v355 : Index := Scalar.indexCast v284
  let c0_344 : Index := 0#32
  ![1, v355.toNat, 0]
def k2_off44 (k2_t13 : Fin k2_t13_loop.trips) : Fin 3 → Nat :=
  let c1_343 : Index := 1#32
  let c0_i32_202 : BitVec 32 := 0#32
  let c1_i32_204 : BitVec 32 := 1#32
  let arg17 : BitVec 32 := Scf.iv c0_i32_202 c1_i32_204 k2_t13
  let c256_i32_306 : BitVec 32 := 256#32
  let v284 : BitVec 32 := Scalar.muli arg17 c256_i32_306
  let v355 : Index := Scalar.indexCast v284
  let c0_344 : Index := 0#32
  ![1, v355.toNat, 0]
def k2_off45 (k2_t13 : Fin k2_t13_loop.trips) : Fin 3 → Nat :=
  let c1_342 : Index := 1#32
  let c0_i32_202 : BitVec 32 := 0#32
  let c1_i32_204 : BitVec 32 := 1#32
  let arg17 : BitVec 32 := Scf.iv c0_i32_202 c1_i32_204 k2_t13
  let c256_i32_306 : BitVec 32 := 256#32
  let v284 : BitVec 32 := Scalar.muli arg17 c256_i32_306
  let v355 : Index := Scalar.indexCast v284
  let c0_343 : Index := 0#32
  ![1, v355.toNat, 0]
def k2_off46 (k2_t13 : Fin k2_t13_loop.trips) : Fin 3 → Nat :=
  let c1_342 : Index := 1#32
  let c0_i32_202 : BitVec 32 := 0#32
  let c1_i32_204 : BitVec 32 := 1#32
  let arg17 : BitVec 32 := Scf.iv c0_i32_202 c1_i32_204 k2_t13
  let c256_i32_306 : BitVec 32 := 256#32
  let v284 : BitVec 32 := Scalar.muli arg17 c256_i32_306
  let v355 : Index := Scalar.indexCast v284
  let c0_343 : Index := 0#32
  ![1, v355.toNat, 0]
def k2_dev10 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_209 : BitVec 32 := 4#32
  let v192 : BitVec 32 := Scalar.muli v2 c4_i32_209
  let v193 : BitVec 32 := Scalar.addi c0_i32_210 v192
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_211 : BitVec 32 := 2#32
  let v194 : BitVec 32 := Scalar.muli v5 c2_i32_211
  let v195 : BitVec 32 := Scalar.addi v193 v194
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_212 : BitVec 32 := 1#32
  let v196 : BitVec 32 := Scalar.muli v9 c1_i32_212
  let v197 : BitVec 32 := Scalar.addi v195 v196
  v197.toNat
@[reducible] def k2_t14_loop : Scf.Loop 32 :=
  let c0_i32_297 : BitVec 32 := 0#32
  let c8_i32_298 : BitVec 32 := 8#32
  let v279 : BitVec 32 := Scalar.addi c0_i32_297 c8_i32_298
  let c1_i32_299 : BitVec 32 := 1#32
  ⟨c0_i32_297, v279, c1_i32_299⟩
def k2_off47 (k2_t14 : Fin k2_t14_loop.trips) : Fin 2 → Nat :=
  let c0_i32_297 : BitVec 32 := 0#32
  let c1_i32_299 : BitVec 32 := 1#32
  let arg17 : BitVec 32 := Scf.iv c0_i32_297 c1_i32_299 k2_t14
  let c256_i32 : BitVec 32 := 256#32
  let v282 : BitVec 32 := Scalar.muli arg17 c256_i32
  let v283 : Index := Scalar.indexCast v282
  let c1 : Index := 1#32
  ![v283.toNat, 1]
@[reducible] def k2_t15_loop : Scf.Loop 32 :=
  let c0_i32_305 : BitVec 32 := 0#32
  let c8_i32_306 : BitVec 32 := 8#32
  let v287 : BitVec 32 := Scalar.addi c0_i32_305 c8_i32_306
  let c1_i32_307 : BitVec 32 := 1#32
  ⟨c0_i32_305, v287, c1_i32_307⟩
def k2_off48 (k2_t15 : Fin k2_t15_loop.trips) : Fin 2 → Nat :=
  let c0_i32_305 : BitVec 32 := 0#32
  let c1_i32_307 : BitVec 32 := 1#32
  let arg18 : BitVec 32 := Scf.iv c0_i32_305 c1_i32_307 k2_t15
  let c256_i32_311 : BitVec 32 := 256#32
  let v303 : BitVec 32 := Scalar.muli arg18 c256_i32_311
  let v304 : Index := Scalar.indexCast v303
  let c0_312 : Index := 0#32
  ![v304.toNat, 0]
def k2_off49 (k2_t14 : Fin k2_t14_loop.trips) : Fin 2 → Nat :=
  let c0_i32_297 : BitVec 32 := 0#32
  let c1_i32_299 : BitVec 32 := 1#32
  let arg17 : BitVec 32 := Scf.iv c0_i32_297 c1_i32_299 k2_t14
  let c256_i32 : BitVec 32 := 256#32
  let v282 : BitVec 32 := Scalar.muli arg17 c256_i32
  let v290 : Index := Scalar.indexCast v282
  let c0_309 : Index := 0#32
  ![v290.toNat, 0]
abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2048x2 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2048x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S4x1024x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S4x2048x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S2048x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S_ : Shape := ⟨0, ![]⟩
abbrev S1x1024x2048 : Shape := ⟨3, ![1, 1024, 2048]⟩
abbrev S1024x2048 : Shape := ⟨2, ![1024, 2048]⟩
abbrev S4096x2048 : Shape := ⟨2, ![4096, 2048]⟩
abbrev S1x2048x1024 : Shape := ⟨3, ![1, 2048, 1024]⟩
abbrev S2048x1024 : Shape := ⟨2, ![2048, 1024]⟩
abbrev S4096x1 : Shape := ⟨2, ![4096, 1]⟩

abbrev nBuf : Space → Nat
  | .hbm => 129
  | .vmem => 0
  | .smem => 0
  | _ => 0

abbrev hbmTy0_0 (i : Nat) : BufTy := match i % 128 with
  | 0 => ⟨S4096x1024, .bf16⟩
  | 1 => ⟨S4096, .i32⟩
  | 2 => ⟨S8x1024x2048, .bf16⟩
  | 3 => ⟨S8x2048x1024, .bf16⟩
  | 4 => ⟨S4096x1024, .f32⟩
  | 5 => ⟨S8x1024x2048, .f32⟩
  | 6 => ⟨S8x2048x1024, .f32⟩
  | 7 => ⟨S_, .f32⟩
  | 8 => ⟨S4096x1024, .f32⟩
  | 9 => ⟨S1x1024x2048, .f32⟩
  | 10 => ⟨S1024x2048, .f32⟩
  | 11 => ⟨S4096x2048, .f32⟩
  | 12 => ⟨S_, .f32⟩
  | 13 => ⟨S4096x2048, .f32⟩
  | 14 => ⟨S4096x2048, .f32⟩
  | 15 => ⟨S1x2048x1024, .f32⟩
  | 16 => ⟨S2048x1024, .f32⟩
  | 17 => ⟨S4096x1024, .f32⟩
  | 18 => ⟨S_, .i32⟩
  | 19 => ⟨S4096, .i32⟩
  | 20 => ⟨S4096, .i1⟩
  | 21 => ⟨S4096x1, .i1⟩
  | 22 => ⟨S4096x1024, .i1⟩
  | 23 => ⟨S4096x1024, .f32⟩
  | 24 => ⟨S1x1024x2048, .f32⟩
  | 25 => ⟨S1024x2048, .f32⟩
  | 26 => ⟨S4096x2048, .f32⟩
  | 27 => ⟨S_, .f32⟩
  | 28 => ⟨S4096x2048, .f32⟩
  | 29 => ⟨S4096x2048, .f32⟩
  | 30 => ⟨S1x2048x1024, .f32⟩
  | 31 => ⟨S2048x1024, .f32⟩
  | 32 => ⟨S4096x1024, .f32⟩
  | 33 => ⟨S_, .i32⟩
  | 34 => ⟨S4096, .i32⟩
  | 35 => ⟨S4096, .i1⟩
  | 36 => ⟨S4096x1, .i1⟩
  | 37 => ⟨S4096x1024, .i1⟩
  | 38 => ⟨S4096x1024, .f32⟩
  | 39 => ⟨S1x1024x2048, .f32⟩
  | 40 => ⟨S1024x2048, .f32⟩
  | 41 => ⟨S4096x2048, .f32⟩
  | 42 => ⟨S_, .f32⟩
  | 43 => ⟨S4096x2048, .f32⟩
  | 44 => ⟨S4096x2048, .f32⟩
  | 45 => ⟨S1x2048x1024, .f32⟩
  | 46 => ⟨S2048x1024, .f32⟩
  | 47 => ⟨S4096x1024, .f32⟩
  | 48 => ⟨S_, .i32⟩
  | 49 => ⟨S4096, .i32⟩
  | 50 => ⟨S4096, .i1⟩
  | 51 => ⟨S4096x1, .i1⟩
  | 52 => ⟨S4096x1024, .i1⟩
  | 53 => ⟨S4096x1024, .f32⟩
  | 54 => ⟨S1x1024x2048, .f32⟩
  | 55 => ⟨S1024x2048, .f32⟩
  | 56 => ⟨S4096x2048, .f32⟩
  | 57 => ⟨S_, .f32⟩
  | 58 => ⟨S4096x2048, .f32⟩
  | 59 => ⟨S4096x2048, .f32⟩
  | 60 => ⟨S1x2048x1024, .f32⟩
  | 61 => ⟨S2048x1024, .f32⟩
  | 62 => ⟨S4096x1024, .f32⟩
  | 63 => ⟨S_, .i32⟩
  | 64 => ⟨S4096, .i32⟩
  | 65 => ⟨S4096, .i1⟩
  | 66 => ⟨S4096x1, .i1⟩
  | 67 => ⟨S4096x1024, .i1⟩
  | 68 => ⟨S4096x1024, .f32⟩
  | 69 => ⟨S1x1024x2048, .f32⟩
  | 70 => ⟨S1024x2048, .f32⟩
  | 71 => ⟨S4096x2048, .f32⟩
  | 72 => ⟨S_, .f32⟩
  | 73 => ⟨S4096x2048, .f32⟩
  | 74 => ⟨S4096x2048, .f32⟩
  | 75 => ⟨S1x2048x1024, .f32⟩
  | 76 => ⟨S2048x1024, .f32⟩
  | 77 => ⟨S4096x1024, .f32⟩
  | 78 => ⟨S_, .i32⟩
  | 79 => ⟨S4096, .i32⟩
  | 80 => ⟨S4096, .i1⟩
  | 81 => ⟨S4096x1, .i1⟩
  | 82 => ⟨S4096x1024, .i1⟩
  | 83 => ⟨S4096x1024, .f32⟩
  | 84 => ⟨S1x1024x2048, .f32⟩
  | 85 => ⟨S1024x2048, .f32⟩
  | 86 => ⟨S4096x2048, .f32⟩
  | 87 => ⟨S_, .f32⟩
  | 88 => ⟨S4096x2048, .f32⟩
  | 89 => ⟨S4096x2048, .f32⟩
  | 90 => ⟨S1x2048x1024, .f32⟩
  | 91 => ⟨S2048x1024, .f32⟩
  | 92 => ⟨S4096x1024, .f32⟩
  | 93 => ⟨S_, .i32⟩
  | 94 => ⟨S4096, .i32⟩
  | 95 => ⟨S4096, .i1⟩
  | 96 => ⟨S4096x1, .i1⟩
  | 97 => ⟨S4096x1024, .i1⟩
  | 98 => ⟨S4096x1024, .f32⟩
  | 99 => ⟨S1x1024x2048, .f32⟩
  | 100 => ⟨S1024x2048, .f32⟩
  | 101 => ⟨S4096x2048, .f32⟩
  | 102 => ⟨S_, .f32⟩
  | 103 => ⟨S4096x2048, .f32⟩
  | 104 => ⟨S4096x2048, .f32⟩
  | 105 => ⟨S1x2048x1024, .f32⟩
  | 106 => ⟨S2048x1024, .f32⟩
  | 107 => ⟨S4096x1024, .f32⟩
  | 108 => ⟨S_, .i32⟩
  | 109 => ⟨S4096, .i32⟩
  | 110 => ⟨S4096, .i1⟩
  | 111 => ⟨S4096x1, .i1⟩
  | 112 => ⟨S4096x1024, .i1⟩
  | 113 => ⟨S4096x1024, .f32⟩
  | 114 => ⟨S1x1024x2048, .f32⟩
  | 115 => ⟨S1024x2048, .f32⟩
  | 116 => ⟨S4096x2048, .f32⟩
  | 117 => ⟨S_, .f32⟩
  | 118 => ⟨S4096x2048, .f32⟩
  | 119 => ⟨S4096x2048, .f32⟩
  | 120 => ⟨S1x2048x1024, .f32⟩
  | 121 => ⟨S2048x1024, .f32⟩
  | 122 => ⟨S4096x1024, .f32⟩
  | 123 => ⟨S_, .i32⟩
  | 124 => ⟨S4096, .i32⟩
  | 125 => ⟨S4096, .i1⟩
  | 126 => ⟨S4096x1, .i1⟩
  | 127 => ⟨S4096x1024, .i1⟩
  | _ => ⟨S4096x1024, .bf16⟩

abbrev hbmTy0_1 (i : Nat) : BufTy := match i % 128 with
  | 0 => ⟨S4096x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call1_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call2_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call3_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_call4_v0 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_10 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call5_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_11 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_12 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_call6_v0 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_13 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_c_14 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_call7_v0 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== Proof.Base.lean ====
module

public import proofs.«01_k».proof.Proof.Gen.KernelIdeal.Skeleton
public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.ValueIdx
public import Idealize.ShloMosaic.Lib.Pipeline.Value

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

/-! ## Blocks of 256 rows and chunks of 512 rows of a [2048, 1024] array -/

theorem rows_inb (b : Fin 8) : ∀ a, (![256 * b.val, 0] : Fin 2 → ℕ) a + S256x1024.size a ≤ S2048x1024.size a := by
  revert b; decide
/-- Rows 256 b … 256 b + 255. -/
abbrev rows (b : Fin 8) : Rect S2048x1024 := Rect.unit (s := S2048x1024) ![256 * b.val, 0] S256x1024.size (rows_inb b)

theorem col_inb (j : Fin 2) (b : Fin 8) : ∀ a, (![256 * b.val, j.val] : Fin 2 → ℕ) a + S256x1.size a ≤ S2048x2.size a := by
  revert j b; decide
/-- Rows 256 b … 256 b + 255 of column j of the index table. -/
abbrev colR (j : Fin 2) (b : Fin 8) : Rect S2048x2 := Rect.unit (s := S2048x2) ![256 * b.val, j.val] S256x1.size (col_inb j b)

theorem one_inb (b : Fin 8) : ∀ a, (![256 * b.val, 0] : Fin 2 → ℕ) a + S256x1.size a ≤ S2048x1.size a := by
  revert b; decide
/-- Rows 256 b … 256 b + 255 of a one-column array. -/
abbrev oneR (b : Fin 8) : Rect S2048x1 := Rect.unit (s := S2048x1) ![256 * b.val, 0] S256x1.size (one_inb b)

theorem chunk_inb (k : Fin 4) : ∀ a, (![512 * k.val, 0] : Fin 2 → ℕ) a + S512x1024.size a ≤ S2048x1024.size a := by
  revert k; decide
/-- Rows 512 k … 512 k + 511. -/
abbrev chunk (k : Fin 4) : Rect S2048x1024 := Rect.unit (s := S2048x1024) ![512 * k.val, 0] S512x1024.size (chunk_inb k)

/-- The block a row lies in. -/
def blk (y : S2048x1024.Idx) : Fin 8 := ⟨(y 0).val / 256, by have : (y 0).val < 2048 := (y 0).isLt; omega⟩
/-- The row's place in its block. -/
def loc (y : S2048x1024.Idx) : S256x1024.Idx := fun a =>
  match a with
  | ⟨0, _⟩ => (⟨(y 0).val % 256, Nat.mod_lt _ (by decide)⟩ : Fin 256)
  | ⟨1, _⟩ => (y 1 : Fin 1024)

theorem emb_blk_loc (y : S2048x1024.Idx) : (rows (blk y)).emb (loc y) = y := by
  funext a
  apply Fin.ext
  match a with
  | ⟨0, _⟩ => show 256 * ((y 0).val / 256) + 1 * ((y 0).val % 256) = (y 0).val; omega
  | ⟨1, _⟩ => show 0 + 1 * (y 1).val = (y 1).val; omega

theorem blk_emb (b : Fin 8) (x : S256x1024.Idx) : blk ((rows b).emb x) = b := by
  apply Fin.ext
  have : (x 0).val < 256 := (x 0).isLt
  show (256 * b.val + 1 * (x 0).val) / 256 = b.val; omega

theorem loc_emb (b : Fin 8) (x : S256x1024.Idx) : loc ((rows b).emb x) = x := by
  funext a
  have h0 : (x 0).val < 256 := (x 0).isLt
  apply Fin.ext
  match a with
  | ⟨0, _⟩ => show (256 * b.val + 1 * (x 0).val) % 256 = (x 0).val; omega
  | ⟨1, _⟩ => show 0 + 1 * (x 1).val = (x 1).val; omega

/-- The array with the given eight blocks. -/
def glue {α : Type} (B : Fin 8 → S256x1024.Idx → α) : S2048x1024.Idx → α := fun y => B (blk y) (loc y)

theorem glue_emb {α : Type} (B : Fin 8 → S256x1024.Idx → α) (b : Fin 8) (x : S256x1024.Idx) : glue B ((rows b).emb x) = B b x := by
  unfold glue; rw [blk_emb, loc_emb]

/-- Two arrays that agree on every block are equal. -/
theorem eq_of_rows {α : Type} {f g : S2048x1024.Idx → α} (h : ∀ b x, f ((rows b).emb x) = g ((rows b).emb x)) : f = g :=
  funext fun y => by rw [← emb_blk_loc y]; exact h _ _

theorem rows_mem {b : Fin 8} {y : S2048x1024.Idx} : y ∈ (rows b).set ↔ blk y = b := by
  constructor
  · intro h
    rw [← Rect.map_emb_univ] at h
    obtain ⟨x, -, rfl⟩ := Finset.mem_map.mp h
    exact blk_emb b x
  · intro h
    subst h
    rw [← Rect.map_emb_univ]
    exact Finset.mem_map.mpr ⟨loc y, Finset.mem_univ _, emb_blk_loc y⟩

theorem chunk_mem {k : Fin 4} {y : S2048x1024.Idx} : y ∈ (chunk k).set ↔ (y 0).val / 512 = k.val := by
  rw [Rect.mem_set_unit]
  constructor
  · intro h
    have := h 0
    have h1 : 512 * k.val ≤ (y 0).val ∧ (y 0).val < 512 * k.val + 512 := this
    omega
  · intro h a
    match a with
    | ⟨0, _⟩ => show 512 * k.val ≤ (y 0).val ∧ (y 0).val < 512 * k.val + 512; omega
    | ⟨1, _⟩ => show 0 ≤ (y 1).val ∧ (y 1).val < 0 + 1024; have : (y 1).val < 1024 := (y 1).isLt; omega

theorem rows_sub_chunk {b : Fin 8} {k : Fin 4} (h : b.val / 2 = k.val) : (rows b).set ⊆ (chunk k).set := by
  intro y hy
  rw [rows_mem] at hy; rw [chunk_mem]
  have : (y 0).val / 256 = b.val := by rw [← hy]; rfl
  omega

end Cert.KernelIdeal.P
-- ==== Proof.Gather.lean ====
module

public import proofs.«01_k».proof.Proof.Base

@[expose] public section

set_option maxRecDepth 8192

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

/-- The resource algebra: the pipeline's rounds and the protocol's. -/
abbrev UU := UR sig nD τ × UR sig nD τ
/-- No loop of this program needs a variant. -/
abbrev 𝒱₀ : Variants := Variants.none

variable {F : FTy → Type} [FloatOps F]

local notation "𝕄" => MT nD τ sig Unit (Elt F) ℕ UU ℕ

/-- A device's program and what holds of its result. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The elements of a memref, at a share, holding f. -/
abbrev pts (c : Dev nD) {sp : CoreSpace} {s : Shape} {e : EltTy} (m : Memref sig .tc sp s e) (q : PosShare TreeShare)
    (f : Buf (Elt F) (m.view.loc (c : Thread nD τ))) : sProp 𝕄 :=
  m.view.loc (c : Thread nD τ) ↦[m.view.set]{q} f

/-- What a load at an offset in closed form reads. -/
theorem read_unit {sp : CoreSpace} {s : Shape} {e : EltTy} (m : Memref sig .tc sp s e) {off off' : Fin s.rank → ℕ} (h : off = off')
    (size : Fin s.rank → ℕ) (inb : ∀ a, off a + size a ≤ s.size a) (inb' : ∀ a, off' a + size a ≤ s.size a)
    (f : m.view.ty.Contents (Elt F)) :
    (m.access (Rect.unit off size inb)).read (Elt F) f = fun x => m.view.read (Elt F) f ((Rect.unit off' size inb').emb x) := by
  subst h; rfl

/-- A program that returns. -/
theorem wp_done (c : Dev nD) {α : Type} {a : α} {Q : α → sProp 𝕄} : iprop(|={Set.univ}=> Q a) ⊢ WP c (.ret a) Q := by
  show _ ⊢ wp frame (wpE (defs₀ (F := F)) 𝒱₀ (c : Thread nD τ) none) Set.univ (.ret a) Q
  rw [wp_ret]

/-! ## One block of the one-hot gather -/

theorem trips2 : k2_t2_loop.trips = 8 := by decide
/-- The block a trip of the inner loop reads. -/
abbrev bk (k : Fin k2_t2_loop.trips) : Fin 8 := Fin.cast trips2 k

/-- The running sum of the one-hot products over the source's first k blocks. -/
def gacc (v : Vec F S256x1 .i32) (X : Fin 8 → Vec F S256x1024 .bf16) : ℕ → FVec F S256x1024 .f32
  | 0 => k2_pay28 (F := F)
  | k + 1 => if h : k < k2_t2_loop.trips then k2_pay29 v ⟨k, h⟩ (gacc v X k) (X (bk ⟨k, h⟩)) else gacc v X k

theorem gacc_succ (v : Vec F S256x1 .i32) (X : Fin 8 → Vec F S256x1024 .bf16) (k : Fin k2_t2_loop.trips) :
    gacc v X (k.val + 1) = k2_pay29 v k (gacc v X k.val) (X (bk k)) := by
  show (if h : k.val < k2_t2_loop.trips then k2_pay29 v ⟨k.val, h⟩ (gacc v X k.val) (X (bk ⟨k.val, h⟩)) else gacc v X k.val) = _
  rw [dif_pos k.isLt]

theorem off2_eq (k : Fin k2_t2_loop.trips) : k2_off2 k = ![256 * (bk k).val, 0] := by revert k; decide

/-- Block b of the gather of X by column j of the table M. -/
def gatherBlock (j : Fin 2) (M : S2048x2.Idx → BitVec 32) (X : S2048x1024.Idx → F .bf16) (b : Fin 8) : FVec F S256x1024 .bf16 :=
  k2_pay30 (gacc (fun x => M ((colR j b).emb x)) (fun k x => X ((rows k).emb x)) k2_t2_loop.trips)

/-- The gather of X by column j of the table M. -/
def GATH (j : Fin 2) (M : S2048x2.Idx → BitVec 32) (X : S2048x1024.Idx → F .bf16) : S2048x1024.Idx → F .bf16 :=
  glue (gatherBlock j M X)

/-- The sum over the source's blocks, as the program runs it. -/
abbrev gInner (src : Memref sig .tc .vmem S2048x1024 .bf16) (v : Vec F S256x1 .i32) :
    Fin k2_t2_loop.trips → FVec F S256x1024 .f32 → Prog (TpuEff nD τ sig (Elt F) Λ₀ .tc) (FVec F S256x1024 .f32) :=
  fun k acc => do
    let b : Vec F S256x1024 .bf16 ← Prog.lift (.load src (Rect.unit (s := S2048x1024) (k2_off2 k) S256x1024.size (k2_off2_inb k)).toLoadRect (View.loadsAt_vmem h_S256x1024))
    pure (k2_pay29 v k acc b)

theorem wp_gInner (c : Dev nD) (src : Memref sig .tc .vmem S2048x1024 .bf16) (q : PosShare TreeShare) (v : Vec F S256x1 .i32)
    (f : Buf (Elt F) (src.view.loc (c : Thread nD τ))) {β : Type} (kk : FVec F S256x1024 .f32 → Prog (TpuEff nD τ sig (Elt F) Λ₀ .tc) β)
    (Q : β → sProp 𝕄) :
    pts c src q f ⊢ iprop((pts c src q f -∗ WP c (kk (gacc v (fun k x => src.view.read (Elt F) f ((rows k).emb x)) k2_t2_loop.trips)) Q)
      -∗ WP c (Scf.Loop.for k2_t2_loop k2_t2_ok (k2_pay28 (F := F)) (gInner src v) >>= kk) Q) := by
  have hb : ∀ (k : Fin k2_t2_loop.trips) (acc : FVec F S256x1024 .f32),
      iprop(⌜acc = gacc v (fun k x => src.view.read (Elt F) f ((rows k).emb x)) k.val⌝ ∗ pts c src q f)
      ⊢ WP c (gInner src v k acc)
        (fun acc => iprop(⌜acc = gacc v (fun k x => src.view.read (Elt F) f ((rows k).emb x)) (k.val + 1)⌝ ∗ pts c src q f)) := by
    intro k acc
    iintro ⟨%hacc, Hs⟩
    subst hacc
    iapply (wp_load_rect (defs := defs₀ (F := F)) 𝒱₀ (c : Thread nD τ) none Set.univ (m := src)
      (r := (Rect.unit (s := S2048x1024) (k2_off2 k) S256x1024.size (k2_off2_inb k))) (View.set_slice_subset src.view _)) $$ Hs
    iintro Hs
    iapply (wp_done c)
    imodintro
    isplitr
    · ipureintro
      rw [gacc_succ, read_unit src (off2_eq k) _ _ (rows_inb _)]
      rfl
    · iexact Hs
  iintro Hs HK
  iapply (Scf.wp_for_bind frame (wpE (defs₀ (F := F)) 𝒱₀ (c : Thread nD τ) none) Set.univ _ _ _ k2_t2_ok (k2_pay28 (F := F)) (gInner src v)
    (fun k acc => iprop(⌜acc = gacc v (fun k x => src.view.read (Elt F) f ((rows k).emb x)) k⌝ ∗ pts c src q f)) hb) $$ [Hs]
  · isplitr
    · ipureintro; rfl
    · iexact Hs
  · iintro %acc ⟨%hacc, Hs⟩
    subst hacc
    iapply HK $$ Hs

/-! ## The loop over a destination's blocks -/

/-- One trip: the block of the index table, the one-hot sum, the store of the block. -/
abbrev gBody (l : Scf.Loop 32) (off1 : Fin l.trips → Fin 2 → ℕ) (h1 : ∀ t, ∀ a, off1 t a + S256x1.size a ≤ S2048x2.size a)
    (off3 : Fin l.trips → Fin 2 → ℕ) (h3 : ∀ t, ∀ a, off3 t a + S256x1024.size a ≤ S2048x1024.size a)
    (a1 : Memref sig .tc .vmem S2048x2 .i32) (src dst : Memref sig .tc .vmem S2048x1024 .bf16)
    (hst : ∀ t, (dst.access (Rect.unit (s := S2048x1024) (off3 t) S256x1024.size (h3 t))).Stores Finset.univ) :
    Fin l.trips → Unit → Prog (TpuEff nD τ sig (Elt F) Λ₀ .tc) Unit :=
  fun t _ => do
    let v : Vec F S256x1 .i32 ← Prog.lift (.load a1 (Rect.unit (s := S2048x2) (off1 t) S256x1.size (h1 t)).toLoadRect (View.loadsAt_vmem h_S256x1))
    let w : FVec F S256x1024 .f32 ← Scf.Loop.for k2_t2_loop k2_t2_ok (k2_pay28 (F := F)) (gInner src v)
    let _ : Vec F S256x1024 .bf16 ← Prog.lift (.load dst (Rect.unit (s := S2048x1024) (off3 t) S256x1024.size (h3 t)).toLoadRect (View.loadsAt_vmem h_S256x1024))
    Prog.lift (.store dst (Rect.unit (s := S2048x1024) (off3 t) S256x1024.size (h3 t)) (k2_pay30 w) Finset.univ (hst t) (.inl rfl))
    pure ⟨⟩

/-- Reading a block after writing a block. -/
theorem read_rows_write (dst : Memref sig .tc .vmem S2048x1024 .bf16) {off : Fin 2 → ℕ} (b : Fin 8) (h : off = ![256 * b.val, 0])
    (inb : ∀ a, off a + S256x1024.size a ≤ S2048x1024.size a) (f : dst.view.ty.Contents (Elt F)) (w : S256x1024.Idx → F .bf16)
    (b' : Fin 8) (x : S256x1024.Idx) :
    dst.view.read (Elt F) ((dst.access (Rect.unit (s := S2048x1024) off S256x1024.size inb)).write (Elt F) f w Finset.univ) ((rows b').emb x)
      = if b' = b then w x else dst.view.read (Elt F) f ((rows b').emb x) := by
  subst h
  by_cases hb : b' = b
  · subst hb
    rw [if_pos rfl]
    exact View.read_slice_write_emb (rows b') f w (Finset.mem_univ x)
  · rw [if_neg hb]
    refine View.read_slice_write_of_not_mem (rows b) f w Finset.univ ?_
    rw [Rect.map_emb_univ, rows_mem, blk_emb]
    exact hb

/-- After a loop over blocks base … base + l.trips - 1 of the destination, those blocks hold the gather. -/
theorem wp_gLoop (c : Dev nD) (l : Scf.Loop 32) (hok : l.OK) (j : Fin 2)
    (off1 : Fin l.trips → Fin 2 → ℕ) (h1 : ∀ t, ∀ a, off1 t a + S256x1.size a ≤ S2048x2.size a)
    (off3 : Fin l.trips → Fin 2 → ℕ) (h3 : ∀ t, ∀ a, off3 t a + S256x1024.size a ≤ S2048x1024.size a)
    (a1 : Memref sig .tc .vmem S2048x2 .i32) (src dst : Memref sig .tc .vmem S2048x1024 .bf16)
    (hst : ∀ t, (dst.access (Rect.unit (s := S2048x1024) (off3 t) S256x1024.size (h3 t))).Stores Finset.univ)
    (bi : Fin l.trips → Fin 8) (hbi : Function.Injective bi)
    (e1 : ∀ t, off1 t = ![256 * (bi t).val, j.val]) (e3 : ∀ t, off3 t = ![256 * (bi t).val, 0])
    (S : Finset (Idx (dst.view.loc (c : Thread nD τ)))) (hS : ∀ t, (dst.access (rows (bi t))).set ⊆ S)
    (q1 q0 : PosShare TreeShare) (f1 : Buf (Elt F) (a1.view.loc (c : Thread nD τ))) (f0 : Buf (Elt F) (src.view.loc (c : Thread nD τ)))
    (g0 : Buf (Elt F) (dst.view.loc (c : Thread nD τ)))
    {β : Type} (kk : Unit → Prog (TpuEff nD τ sig (Elt F) Λ₀ .tc) β) (Q : β → sProp 𝕄) :
    iprop(pts c a1 q1 f1 ∗ pts c src q0 f0 ∗ (dst.view.loc (c : Thread nD τ) ↦[S]{fullShare} g0))
    ⊢ iprop((∀ g, ⌜∀ t x, dst.view.read (Elt F) g ((rows (bi t)).emb x)
            = gatherBlock j (a1.view.read (Elt F) f1) (src.view.read (Elt F) f0) (bi t) x⌝
          -∗ pts c a1 q1 f1 -∗ pts c src q0 f0 -∗ (dst.view.loc (c : Thread nD τ) ↦[S]{fullShare} g) -∗ WP c (kk ⟨⟩) Q)
      -∗ WP c (Scf.Loop.for l hok ⟨⟩ (gBody l off1 h1 off3 h3 a1 src dst hst) >>= kk) Q) := by
  let I : ℕ → Unit → sProp 𝕄 := fun k _ =>
    iprop(∃ g, ⌜∀ t : Fin l.trips, t.val < k → ∀ x, dst.view.read (Elt F) g ((rows (bi t)).emb x)
            = gatherBlock j (a1.view.read (Elt F) f1) (src.view.read (Elt F) f0) (bi t) x⌝
          ∗ pts c a1 q1 f1 ∗ pts c src q0 f0 ∗ (dst.view.loc (c : Thread nD τ) ↦[S]{fullShare} g))
  have hb : ∀ (k : Fin l.trips) (acc : Unit), I k.val acc ⊢ WP c (gBody l off1 h1 off3 h3 a1 src dst hst k acc) (I (k.val + 1)) := by
    intro k acc
    have hsub : (dst.access (Rect.unit (s := S2048x1024) (off3 k) S256x1024.size (h3 k))).set ⊆ S := by
      rw [Rect.unit_congr (e3 k) _ (rows_inb _)]; exact hS k
    iintro ⟨%g, %hg, H1, H0, Hd⟩
    iapply (wp_load_rect (defs := defs₀ (F := F)) 𝒱₀ (c : Thread nD τ) none Set.univ (m := a1)
      (r := (Rect.unit (s := S2048x2) (off1 k) S256x1.size (h1 k))) (View.set_slice_subset a1.view _)) $$ H1
    iintro H1
    iapply (wp_gInner c src q0 _ f0) $$ H0
    iintro H0
    iapply (wp_load_rect (defs := defs₀ (F := F)) 𝒱₀ (c : Thread nD τ) none Set.univ (m := dst)
      (r := (Rect.unit (s := S2048x1024) (off3 k) S256x1024.size (h3 k))) hsub) $$ Hd
    iintro Hd
    iapply (wp_store (defs := defs₀ (F := F)) 𝒱₀ (c : Thread nD τ) none Set.univ (m := dst)
      (r := (Rect.unit (s := S2048x1024) (off3 k) S256x1024.size (h3 k))) hsub) $$ Hd
    iintro Hd
    iapply (wp_done c)
    imodintro
    iexists _
    isplitr
    rotate_left
    · isplitl [H1]
      · iexact H1
      isplitl [H0]
      · iexact H0
      iexact Hd
    · ipureintro
      intro t ht x
      rw [read_rows_write dst (bi k) (e3 k)]
      by_cases htk : t = k
      · subst htk
        rw [if_pos rfl, read_unit a1 (e1 t) _ _ (col_inb _ _)]
        rfl
      · rw [if_neg (fun h => htk (hbi h))]
        exact hg t (by have : t.val ≠ k.val := fun h => htk (Fin.ext h); omega) x
  iintro ⟨H1, H0, Hd⟩ HK
  iapply (Scf.wp_for_bind frame (wpE (defs₀ (F := F)) 𝒱₀ (c : Thread nD τ) none) Set.univ _ _ _ hok ⟨⟩
    (gBody l off1 h1 off3 h3 a1 src dst hst) I hb) $$ [H1 H0 Hd]
  · iexists g0
    isplitr
    · ipureintro; intro t ht; exact absurd ht (Nat.not_lt_zero _)
    isplitl [H1]
    · iexact H1
    isplitl [H0]
    · iexact H0
    iexact Hd
  · iintro %acc ⟨%g, %hg, H1, H0, Hd⟩
    iapply HK $$ %g %(fun t x => hg t t.isLt x) H1 H0 Hd

end Cert.KernelIdeal.P
-- ==== Proof.Gathers.lean ====
module

public import proofs.«01_k».proof.Proof.Gather

@[expose] public section

set_option maxRecDepth 8192

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ UU ℕ

/-! ## The talking call's buffers -/

abbrev mXb : Memref sig .tc .vmem S2048x1024 .bf16 := Memref.whole cc2_stg0_0
theorem hXb : mXb.IsWhole := Memref.isWhole_whole _
abbrev mMeta : Memref sig .tc .vmem S2048x2 .i32 := Memref.whole cc2_stg1_0
theorem hMeta : mMeta.IsWhole := Memref.isWhole_whole _
abbrev mSa : Memref sig .tc .vmem S2048x1 .i32 := Memref.whole cc2_stg2_0
theorem hSa : mSa.IsWhole := Memref.isWhole_whole _
abbrev mW1 : Memref sig .tc .vmem S4x1024x2048 .bf16 := Memref.whole cc2_stg3_0
theorem hW1 : mW1.IsWhole := Memref.isWhole_whole _
abbrev mW2 : Memref sig .tc .vmem S4x2048x1024 .bf16 := Memref.whole cc2_stg4_0
theorem hW2 : mW2.IsWhole := Memref.isWhole_whole _
abbrev mFin : Memref sig .tc .vmem S2048x1024 .bf16 := Memref.whole cc2_stg5_0
theorem hFin : mFin.IsWhole := Memref.isWhole_whole _
abbrev mXs : Memref sig .tc .vmem S2048x1024 .bf16 := Memref.whole cc2_scratch0
theorem hXs : mXs.IsWhole := Memref.isWhole_whole _
abbrev mXrem : Memref sig .tc .vmem S2048x1024 .bf16 := Memref.whole cc2_scratch1
theorem hXrem : mXrem.IsWhole := Memref.isWhole_whole _
abbrev mArem : Memref sig .tc .vmem S2048x1 .i32 := Memref.whole cc2_scratch2
theorem hArem : mArem.IsWhole := Memref.isWhole_whole _
abbrev mOrem : Memref sig .tc .vmem S2x512x1024 .bf16 := Memref.whole cc2_scratch3
theorem hOrem : mOrem.IsWhole := Memref.isWhole_whole _
abbrev mOrecv : Memref sig .tc .vmem S2048x1024 .bf16 := Memref.whole cc2_scratch4
theorem hOrecv : mOrecv.IsWhole := Memref.isWhole_whole _

/-- The elements of a set of a memref's buffer. -/
abbrev ptsOn (c : Dev nD) {sp : CoreSpace} {s : Shape} {e : EltTy} (m : Memref sig .tc sp s e) (S : Finset (Idx (m.view.loc (c : Thread nD τ))))
    (q : PosShare TreeShare) (f : Buf (Elt F) (m.view.loc (c : Thread nD τ))) : sProp 𝕄 :=
  m.view.loc (c : Thread nD τ) ↦[S]{q} f

/-- A gather loop whose destination blocks are those of a set S of the sorted activations: S ends up holding the gather. -/
theorem wp_gSet (c : Dev nD) (l : Scf.Loop 32) (hok : l.OK) (j : Fin 2)
    (off1 : Fin l.trips → Fin 2 → ℕ) (h1 : ∀ t, ∀ a, off1 t a + S256x1.size a ≤ S2048x2.size a)
    (off3 : Fin l.trips → Fin 2 → ℕ) (h3 : ∀ t, ∀ a, off3 t a + S256x1024.size a ≤ S2048x1024.size a)
    (src : Memref sig .tc .vmem S2048x1024 .bf16)
    (hst : ∀ t, (mXs.access (Rect.unit (s := S2048x1024) (off3 t) S256x1024.size (h3 t))).Stores Finset.univ)
    (bi : Fin l.trips → Fin 8) (hbi : Function.Injective bi)
    (e1 : ∀ t, off1 t = ![256 * (bi t).val, j.val]) (e3 : ∀ t, off3 t = ![256 * (bi t).val, 0])
    (S : Finset S2048x1024.Idx) (hS : ∀ t, (rows (bi t)).set ⊆ S) (hC : ∀ y ∈ S, ∃ t, bi t = blk y)
    (q1 q0 : PosShare TreeShare) (M : S2048x2.Idx → BitVec 32) (f0 : Buf (Elt F) (src.view.loc (c : Thread nD τ)))
    (g0 : S2048x1024.Idx → F .bf16)
    {β : Type} (kk : Unit → Prog (TpuEff nD τ sig (Elt F) Λ₀ .tc) β) (Q : β → sProp 𝕄) :
    iprop(pts (F := F) c mMeta q1 M ∗ pts c src q0 f0 ∗ ptsOn c mXs S fullShare g0)
    ⊢ iprop((pts (F := F) c mMeta q1 M -∗ pts c src q0 f0 -∗ ptsOn c mXs S fullShare (GATH j M (src.view.read (Elt F) f0)) -∗ WP c (kk ⟨⟩) Q)
      -∗ WP c (Scf.Loop.for l hok ⟨⟩ (gBody l off1 h1 off3 h3 mMeta src mXs hst) >>= kk) Q) := by
  iintro ⟨H1, H0, Hd⟩ HK
  iapply (wp_gLoop c l hok j off1 h1 off3 h3 mMeta src mXs hst bi hbi e1 e3 S
    (fun t => by
      have := hS t
      rw [View.set_slice_whole]; exact this) q1 q0 M f0 g0 kk Q) $$ [H1 H0 Hd]
  · isplitl [H1]
    · iexact H1
    isplitl [H0]
    · iexact H0
    iexact Hd
  · iintro %g %hg H1 H0 Hd
    iapply HK $$ H1 H0
    iapply (show ptsOn c mXs S fullShare g ⊢ ptsOn c mXs S fullShare (GATH j M (src.view.read (Elt F) f0)) from
      Entails.of_eq (pointsTo_congr (fun y hy => by
        obtain ⟨t, ht⟩ := hC y hy
        have := hg t (loc y)
        rw [ht, emb_blk_loc] at this
        exact this))) $$ Hd

theorem t1_eq  : k2_t1_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10
    = gBody k2_t1_loop k2_off1 k2_off1_inb k2_off3 k2_off3_inb mMeta mXb mXs (fun t => View.stores_vmem h_S256x1024 (hXs.storeExact_slice rfl _ (k2_off3_packedbf16 t)) (fun _ => rfl)) := rfl

/-- The block of trip t. -/
def bi_t1 (t : Fin k2_t1_loop.trips) : Fin 8 := ⟨2 * 0 + t.val, by revert t; decide⟩

theorem wp_t1 (c : Dev nD)  (q1 q0 : PosShare TreeShare) (M : S2048x2.Idx → BitVec 32) (X g0 : S2048x1024.Idx → F .bf16)
    {β : Type} (kk : Unit → Prog (TpuEff nD τ sig (Elt F) Λ₀ .tc) β) (Q : β → sProp 𝕄) :
    iprop(pts (F := F) c mMeta q1 M ∗ pts c mXb q0 X ∗ ptsOn c mXs (chunk 0).set fullShare g0)
    ⊢ iprop((pts (F := F) c mMeta q1 M -∗ pts c mXb q0 X -∗ ptsOn c mXs (chunk 0).set fullShare (GATH 0 M X) -∗ WP c (kk ⟨⟩) Q)
      -∗ WP c (Scf.Loop.for k2_t1_loop k2_t1_ok ⟨⟩ (k2_t1_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 ) >>= kk) Q) := by
  rw [t1_eq]
  exact wp_gSet c k2_t1_loop k2_t1_ok 0 k2_off1 k2_off1_inb k2_off3 k2_off3_inb mXb _ bi_t1 (by decide)
    (by decide) (by decide) (chunk 0).set (fun t => rows_sub_chunk (by revert t; decide))
    (fun y hy => by
      have h := chunk_mem.mp hy
      have hb : ∀ b : Fin 8, b.val / 2 = 0 → ∃ t, bi_t1 t = b := by decide
      refine hb (blk y) ?_
      show (y 0).val / 256 / 2 = 0
      have h' : (y 0).val / 512 = 0 := h
      omega)
    q1 q0 M X g0 kk Q

theorem t3_eq (d0 : Dev nD) (v2 v5 v9 v26 c2 : BitVec 32) : k2_t3_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v26 c2
    = gBody k2_t3_loop k2_off4 k2_off4_inb k2_off6 k2_off6_inb mMeta mXb mXs (fun t => View.stores_vmem h_S256x1024 (hXs.storeExact_slice rfl _ (k2_off6_packedbf16 t)) (fun _ => rfl)) := rfl

/-- The block of trip t. -/
def bi_t3 (t : Fin k2_t3_loop.trips) : Fin 8 := ⟨2 * 1 + t.val, by revert t; decide⟩

theorem wp_t3 (c : Dev nD) (d0 : Dev nD) (v2 v5 v9 v26 c2 : BitVec 32) (q1 q0 : PosShare TreeShare) (M : S2048x2.Idx → BitVec 32) (X g0 : S2048x1024.Idx → F .bf16)
    {β : Type} (kk : Unit → Prog (TpuEff nD τ sig (Elt F) Λ₀ .tc) β) (Q : β → sProp 𝕄) :
    iprop(pts (F := F) c mMeta q1 M ∗ pts c mXb q0 X ∗ ptsOn c mXs (chunk 1).set fullShare g0)
    ⊢ iprop((pts (F := F) c mMeta q1 M -∗ pts c mXb q0 X -∗ ptsOn c mXs (chunk 1).set fullShare (GATH 0 M X) -∗ WP c (kk ⟨⟩) Q)
      -∗ WP c (Scf.Loop.for k2_t3_loop k2_t3_ok ⟨⟩ (k2_t3_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v26 c2) >>= kk) Q) := by
  rw [t3_eq]
  exact wp_gSet c k2_t3_loop k2_t3_ok 0 k2_off4 k2_off4_inb k2_off6 k2_off6_inb mXb _ bi_t3 (by decide)
    (by decide) (by decide) (chunk 1).set (fun t => rows_sub_chunk (by revert t; decide))
    (fun y hy => by
      have h := chunk_mem.mp hy
      have hb : ∀ b : Fin 8, b.val / 2 = 1 → ∃ t, bi_t3 t = b := by decide
      refine hb (blk y) ?_
      show (y 0).val / 256 / 2 = 1
      have h' : (y 0).val / 512 = 1 := h
      omega)
    q1 q0 M X g0 kk Q

theorem t5_eq (d0 : Dev nD) (v2 v5 v9 v26 c2 : BitVec 32) : k2_t5_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v26 c2
    = gBody k2_t5_loop k2_off7 k2_off7_inb k2_off9 k2_off9_inb mMeta mXb mXs (fun t => View.stores_vmem h_S256x1024 (hXs.storeExact_slice rfl _ (k2_off9_packedbf16 t)) (fun _ => rfl)) := rfl

/-- The block of trip t. -/
def bi_t5 (t : Fin k2_t5_loop.trips) : Fin 8 := ⟨2 * 2 + t.val, by revert t; decide⟩

theorem wp_t5 (c : Dev nD) (d0 : Dev nD) (v2 v5 v9 v26 c2 : BitVec 32) (q1 q0 : PosShare TreeShare) (M : S2048x2.Idx → BitVec 32) (X g0 : S2048x1024.Idx → F .bf16)
    {β : Type} (kk : Unit → Prog (TpuEff nD τ sig (Elt F) Λ₀ .tc) β) (Q : β → sProp 𝕄) :
    iprop(pts (F := F) c mMeta q1 M ∗ pts c mXb q0 X ∗ ptsOn c mXs (chunk 2).set fullShare g0)
    ⊢ iprop((pts (F := F) c mMeta q1 M -∗ pts c mXb q0 X -∗ ptsOn c mXs (chunk 2).set fullShare (GATH 0 M X) -∗ WP c (kk ⟨⟩) Q)
      -∗ WP c (Scf.Loop.for k2_t5_loop k2_t5_ok ⟨⟩ (k2_t5_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v26 c2) >>= kk) Q) := by
  rw [t5_eq]
  exact wp_gSet c k2_t5_loop k2_t5_ok 0 k2_off7 k2_off7_inb k2_off9 k2_off9_inb mXb _ bi_t5 (by decide)
    (by decide) (by decide) (chunk 2).set (fun t => rows_sub_chunk (by revert t; decide))
    (fun y hy => by
      have h := chunk_mem.mp hy
      have hb : ∀ b : Fin 8, b.val / 2 = 2 → ∃ t, bi_t5 t = b := by decide
      refine hb (blk y) ?_
      show (y 0).val / 256 / 2 = 2
      have h' : (y 0).val / 512 = 2 := h
      omega)
    q1 q0 M X g0 kk Q

theorem t7_eq (d0 : Dev nD) (v2 v5 v9 v10 v54 : BitVec 32) : k2_t7_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v10 v54
    = gBody k2_t7_loop k2_off10 k2_off10_inb k2_off12 k2_off12_inb mMeta mXb mXs (fun t => View.stores_vmem h_S256x1024 (hXs.storeExact_slice rfl _ (k2_off12_packedbf16 t)) (fun _ => rfl)) := rfl

/-- The block of trip t. -/
def bi_t7 (t : Fin k2_t7_loop.trips) : Fin 8 := ⟨2 * 3 + t.val, by revert t; decide⟩

theorem wp_t7 (c : Dev nD) (d0 : Dev nD) (v2 v5 v9 v10 v54 : BitVec 32) (q1 q0 : PosShare TreeShare) (M : S2048x2.Idx → BitVec 32) (X g0 : S2048x1024.Idx → F .bf16)
    {β : Type} (kk : Unit → Prog (TpuEff nD τ sig (Elt F) Λ₀ .tc) β) (Q : β → sProp 𝕄) :
    iprop(pts (F := F) c mMeta q1 M ∗ pts c mXb q0 X ∗ ptsOn c mXs (chunk 3).set fullShare g0)
    ⊢ iprop((pts (F := F) c mMeta q1 M -∗ pts c mXb q0 X -∗ ptsOn c mXs (chunk 3).set fullShare (GATH 0 M X) -∗ WP c (kk ⟨⟩) Q)
      -∗ WP c (Scf.Loop.for k2_t7_loop k2_t7_ok ⟨⟩ (k2_t7_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v10 v54) >>= kk) Q) := by
  rw [t7_eq]
  exact wp_gSet c k2_t7_loop k2_t7_ok 0 k2_off10 k2_off10_inb k2_off12 k2_off12_inb mXb _ bi_t7 (by decide)
    (by decide) (by decide) (chunk 3).set (fun t => rows_sub_chunk (by revert t; decide))
    (fun y hy => by
      have h := chunk_mem.mp hy
      have hb : ∀ b : Fin 8, b.val / 2 = 3 → ∃ t, bi_t7 t = b := by decide
      refine hb (blk y) ?_
      show (y 0).val / 256 / 2 = 3
      have h' : (y 0).val / 512 = 3 := h
      omega)
    q1 q0 M X g0 kk Q

theorem t14_eq  : k2_t14_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10
    = gBody k2_t14_loop k2_off47 k2_off47_inb k2_off49 k2_off49_inb mMeta mFin mXs (fun t => View.stores_vmem h_S256x1024 (hXs.storeExact_slice rfl _ (k2_off49_packedbf16 t)) (fun _ => rfl)) := rfl

/-- The block of trip t. -/
def bi_t14 (t : Fin k2_t14_loop.trips) : Fin 8 := ⟨t.val, by revert t; decide⟩

theorem wp_t14 (c : Dev nD)  (q1 q0 : PosShare TreeShare) (M : S2048x2.Idx → BitVec 32) (X g0 : S2048x1024.Idx → F .bf16)
    {β : Type} (kk : Unit → Prog (TpuEff nD τ sig (Elt F) Λ₀ .tc) β) (Q : β → sProp 𝕄) :
    iprop(pts (F := F) c mMeta q1 M ∗ pts c mFin q0 X ∗ ptsOn c mXs Finset.univ fullShare g0)
    ⊢ iprop((pts (F := F) c mMeta q1 M -∗ pts c mFin q0 X -∗ ptsOn c mXs Finset.univ fullShare (GATH 1 M X) -∗ WP c (kk ⟨⟩) Q)
      -∗ WP c (Scf.Loop.for k2_t14_loop k2_t14_ok ⟨⟩ (k2_t14_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 ) >>= kk) Q) := by
  rw [t14_eq]
  exact wp_gSet c k2_t14_loop k2_t14_ok 1 k2_off47 k2_off47_inb k2_off49 k2_off49_inb mFin _ bi_t14 (by decide)
    (by decide) (by decide) Finset.univ (fun t => Finset.subset_univ _)
    (fun y _ => by
      have hb : ∀ b : Fin 8, ∃ t, bi_t14 t = b := by decide
      exact hb (blk y))
    q1 q0 M X g0 kk Q

end Cert.KernelIdeal.P
-- ==== Proof.Expert.lean ====
module

public import proofs.«01_k».proof.Proof.Gathers

@[expose] public section

set_option maxRecDepth 65536

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ UU ℕ

/-! ## What one block of the experts computes -/

theorem w1_inb (i : Fin 4) : ∀ a, (![i.val, 0, 0] : Fin 3 → ℕ) a + S1x1024x2048.size a ≤ S4x1024x2048.size a := by
  revert i; decide
theorem w2_inb (i : Fin 4) : ∀ a, (![i.val, 0, 0] : Fin 3 → ℕ) a + S1x2048x1024.size a ≤ S4x2048x1024.size a := by
  revert i; decide
/-- Expert i's first matrix. -/
abbrev w1R (i : Fin 4) : Rect S4x1024x2048 := Rect.unit (s := S4x1024x2048) ![i.val, 0, 0] S1x1024x2048.size (w1_inb i)
/-- Expert i's second matrix. -/
abbrev w2R (i : Fin 4) : Rect S4x2048x1024 := Rect.unit (s := S4x2048x1024) ![i.val, 0, 0] S1x2048x1024.size (w2_inb i)

/-- Whether some row of the block goes to expert e. -/
def exGuard (e : BitVec 32) (s : Vec F S256x1 .i32) : BitVec 1 :=
  Scalar.cmpi .ne (Scalar.extui (Scalar.cmpf .ogt (k2_pay40 (F := F) (cmpi .eq s (broadcast S256x1 e))) (Scalar.ofBits .f32 0x00000000#32)) : BitVec 32) 0#32

/-- One expert's update of a block. -/
def exUpd (e : BitVec 32) (x : Vec F S256x1024 .bf16) (s : Vec F S256x1 .i32) (w1 : Vec F S1x1024x2048 .bf16) (w2 : Vec F S1x2048x1024 .bf16)
    (cur : FVec F S256x1024 .bf16) : FVec F S256x1024 .bf16 :=
  if exGuard (F := F) e s = 1#1 then k2_pay41 x s e w1 w2 cur else cur

/-- A block after the four experts from v on. -/
def exBlock (v : BitVec 32) (x : Vec F S256x1024 .bf16) (s : Vec F S256x1 .i32) (W1 : S4x1024x2048.Idx → F .bf16) (W2 : S4x2048x1024.Idx → F .bf16) :
    FVec F S256x1024 .bf16 :=
  exUpd (Scalar.addi v 3#32) x s (fun i => W1 ((w1R 3).emb i)) (fun i => W2 ((w2R 3).emb i))
    (exUpd (Scalar.addi v 2#32) x s (fun i => W1 ((w1R 2).emb i)) (fun i => W2 ((w2R 2).emb i))
      (exUpd (Scalar.addi v 1#32) x s (fun i => W1 ((w1R 1).emb i)) (fun i => W2 ((w2R 1).emb i))
        (exUpd (Scalar.addi v 0#32) x s (fun i => W1 ((w1R 0).emb i)) (fun i => W2 ((w2R 0).emb i)) k2_pay6)))

/-- All rows after the four experts from v on. -/
def EXP (v : BitVec 32) (X : S2048x1024.Idx → F .bf16) (s : S2048x1.Idx → BitVec 32) (W1 : S4x1024x2048.Idx → F .bf16) (W2 : S4x2048x1024.Idx → F .bf16) :
    S2048x1024.Idx → F .bf16 :=
  glue fun b => exBlock v (fun x => X ((rows b).emb x)) (fun x => s ((oneR b).emb x)) W1 W2

theorem pay5_eq (s : Vec F S256x1 .i32) : k2_pay5 s = s := shapeCast_self _ _

/-- A block seen as a one-slot block. -/
abbrev up3 (x : FVec F S256x1024 .bf16) : FVec F S1x256x1024 .bf16 := shapeCast S1x256x1024 x shapeCasts_S256x1024_S1x256x1024

theorem pay14_eq (v : BitVec 32) (x : Vec F S256x1024 .bf16) (s : Vec F S256x1 .i32) (a : Vec F S1x1024x2048 .bf16) (b : Vec F S1x2048x1024 .bf16)
    (cur : FVec F S256x1024 .bf16) : k2_pay14 v x s a b (up3 cur) = up3 (k2_pay41 x s (Scalar.addi v 0#32) a b cur) := by
  have h1 : shapeCast S256x1024 (up3 cur) shapeCasts_S1x256x1024_S256x1024 = cur := shapeCast_shapeCast _ _ _
  have h2 : shapeCast S256x1024 cur shapeCasts_S256x1024_S256x1024 = cur := shapeCast_self _ _
  unfold k2_pay14 k2_pay41
  simp only [h1, h2]

theorem pay44_eq (e : BitVec 32) (x : Vec F S256x1024 .bf16) (s : Vec F S256x1 .i32) (a : Vec F S1x1024x2048 .bf16) (b : Vec F S1x2048x1024 .bf16)
    (cur : FVec F S256x1024 .bf16) : k2_pay44 x s e a b (up3 cur) = up3 (k2_pay41 x s e a b cur) := by
  have h1 : shapeCast S256x1024 (up3 cur) shapeCasts_S1x256x1024_S256x1024 = cur := shapeCast_shapeCast _ _ _
  have h2 : shapeCast S256x1024 cur shapeCasts_S256x1024_S256x1024 = cur := shapeCast_self _ _
  unfold k2_pay44 k2_pay41
  simp only [h1, h2]

/-! ## A guarded update -/

/-- If some row goes to the expert: its two matrices, the target block, the update stored. -/
abbrev gUpd {st : Shape} (g : BitVec 1) (a3 : Memref sig .tc .vmem S4x1024x2048 .bf16) (o3 : Fin 3 → ℕ)
    (h3 : ∀ a, o3 a + S1x1024x2048.size a ≤ S4x1024x2048.size a) (a4 : Memref sig .tc .vmem S4x2048x1024 .bf16) (o4 : Fin 3 → ℕ)
    (h4 : ∀ a, o4 a + S1x2048x1024.size a ≤ S4x2048x1024.size a) (tgt : Memref sig .tc .vmem st .bf16) (r : Rect st)
    (hl : tgt.view.LoadsAt r.toLoadRect) (hst : (tgt.access r).Stores Finset.univ)
    (pay : Vec F S1x1024x2048 .bf16 → Vec F S1x2048x1024 .bf16 → (r.shape.Idx → Elt F .bf16) → (r.shape.Idx → Elt F .bf16))
    {α : Type} (K : Prog (TpuEff nD τ sig (Elt F) Λ₀ .tc) α) : Prog (TpuEff nD τ sig (Elt F) Λ₀ .tc) α :=
  if g = 1#1 then
    .op (.load a3 (Rect.unit (s := S4x1024x2048) o3 S1x1024x2048.size h3).toLoadRect (View.loadsAt_vmem h_S1x1024x2048)) fun a =>
    .op (.load a4 (Rect.unit (s := S4x2048x1024) o4 S1x2048x1024.size h4).toLoadRect (View.loadsAt_vmem h_S1x2048x1024)) fun b =>
    .op (.load tgt r.toLoadRect hl) fun cur =>
    .op (.load tgt r.toLoadRect hl) fun _ =>
    .op (.store tgt r (pay a b cur) Finset.univ hst (.inl rfl)) fun _ => K
  else K

/-- Writing a view twice. -/
theorem write_write {κ : Kind} {sp : Space} {s : Shape} {e : EltTy} (v : View sig κ sp s e) (f : v.ty.Contents (Elt F)) (w w' : s.Idx → Elt F e) :
    v.write (Elt F) (v.write (Elt F) f w Finset.univ) w' Finset.univ = v.write (Elt F) f w' Finset.univ := by
  funext i
  exact View.write_congr (fun _ _ _ => rfl) (fun h => View.write_of_not_mem _ _ _ h)

theorem wp_gUpd (c : Dev nD) {st : Shape} (g : BitVec 1) (a3 : Memref sig .tc .vmem S4x1024x2048 .bf16) (o3 : Fin 3 → ℕ)
    (h3 : ∀ a, o3 a + S1x1024x2048.size a ≤ S4x1024x2048.size a) (a4 : Memref sig .tc .vmem S4x2048x1024 .bf16) (o4 : Fin 3 → ℕ)
    (h4 : ∀ a, o4 a + S1x2048x1024.size a ≤ S4x2048x1024.size a) (tgt : Memref sig .tc .vmem st .bf16) (r : Rect st)
    (hl : tgt.view.LoadsAt r.toLoadRect) (hst : (tgt.access r).Stores Finset.univ)
    (pay : Vec F S1x1024x2048 .bf16 → Vec F S1x2048x1024 .bf16 → (r.shape.Idx → Elt F .bf16) → (r.shape.Idx → Elt F .bf16))
    {α : Type} (K : Prog (TpuEff nD τ sig (Elt F) Λ₀ .tc) α) (Q : α → sProp 𝕄)
    (q3 q4 : PosShare TreeShare) (W1 : Buf (Elt F) (a3.view.loc (c : Thread nD τ))) (W2 : Buf (Elt F) (a4.view.loc (c : Thread nD τ)))
    (f : Buf (Elt F) (tgt.view.loc (c : Thread nD τ))) (cur : r.shape.Idx → Elt F .bf16)
    (S : Finset (Idx (tgt.view.loc (c : Thread nD τ)))) (hS : (tgt.access r).set ⊆ S) (res : r.shape.Idx → Elt F .bf16)
    (hres : (if g = 1#1 then pay ((a3.access (Rect.unit (s := S4x1024x2048) o3 S1x1024x2048.size h3)).read (Elt F) W1)
            ((a4.access (Rect.unit (s := S4x2048x1024) o4 S1x2048x1024.size h4)).read (Elt F) W2) cur else cur) = res) :
    iprop(pts c a3 q3 W1 ∗ pts c a4 q4 W2 ∗ (tgt.view.loc (c : Thread nD τ) ↦[S]{fullShare} ((tgt.access r).write (Elt F) f cur Finset.univ)))
    ⊢ iprop((pts c a3 q3 W1 -∗ pts c a4 q4 W2 -∗ (tgt.view.loc (c : Thread nD τ) ↦[S]{fullShare} ((tgt.access r).write (Elt F) f res Finset.univ))
          -∗ WP c K Q)
      -∗ WP c (gUpd g a3 o3 h3 a4 o4 h4 tgt r hl hst pay K) Q) := by
  subst hres
  by_cases hg : g = 1#1
  · unfold gUpd
    rw [if_pos hg, if_pos hg]
    iintro ⟨H3, H4, Ht⟩ HK
    iapply (wp_load_rect (defs := defs₀ (F := F)) 𝒱₀ (c : Thread nD τ) none Set.univ (m := a3)
      (r := (Rect.unit (s := S4x1024x2048) o3 S1x1024x2048.size h3)) (View.set_slice_subset a3.view _)) $$ H3
    iintro H3
    iapply (wp_load_rect (defs := defs₀ (F := F)) 𝒱₀ (c : Thread nD τ) none Set.univ (m := a4)
      (r := (Rect.unit (s := S4x2048x1024) o4 S1x2048x1024.size h4)) (View.set_slice_subset a4.view _)) $$ H4
    iintro H4
    iapply (wp_load_rect (defs := defs₀ (F := F)) 𝒱₀ (c : Thread nD τ) none Set.univ (m := tgt) (r := r) hS) $$ Ht
    iintro Ht
    iapply (wp_load_rect (defs := defs₀ (F := F)) 𝒱₀ (c : Thread nD τ) none Set.univ (m := tgt) (r := r) hS) $$ Ht
    iintro Ht
    iapply (wp_store (defs := defs₀ (F := F)) 𝒱₀ (c : Thread nD τ) none Set.univ (m := tgt) (r := r) hS) $$ Ht
    iintro Ht
    rw [write_write, View.read_write_univ]
    iapply HK $$ H3 H4 Ht
  · unfold gUpd
    rw [if_neg hg, if_neg hg]
    iintro ⟨H3, H4, Ht⟩ HK
    iapply HK $$ H3 H4 Ht

end Cert.KernelIdeal.P
-- ==== Proof.Local.lean ====
module

public import proofs.«01_k».proof.Proof.Expert

@[expose] public section

set_option maxRecDepth 65536

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ UU ℕ

/-! ## The device's own rows through its own experts -/

/-- Whether a maximum is above zero, as the guard the program branches on. -/
abbrev pos (m : F .f32) : BitVec 1 :=
  Scalar.cmpi .ne (Scalar.extui (Scalar.cmpf .ogt m (Scalar.ofBits .f32 0x00000000#32)) : BitVec 32) 0#32

/-- The block's rectangle in the own results. -/
abbrev lr (t : Fin k2_t9_loop.trips) : Rect S2048x1024 := Rect.unit (s := S2048x1024) (k2_off13 t) S256x1024.size (k2_off13_inb t)
theorem lst (t : Fin k2_t9_loop.trips) : (mFin.access (lr t)).Stores Finset.univ :=
  View.stores_vmem h_S256x1024 (hFin.storeExact_slice rfl _ (k2_off13_packedbf16 t)) (fun _ => rfl)

/-- One trip's first half: the block's rows and experts, the zero store, experts 0 and 1. -/
def lPart (v10 : BitVec 32) (t : Fin k2_t9_loop.trips) :
    Prog (TpuEff nD τ sig (Elt F) Λ₀ .tc) (Σ' (_ : BitVec 32) (_ : Vec F S256x1024 .bf16) (_ : IVec S256x1 32) (_ : BitVec 32), IVec S256x1 1) := do
  let x : Vec F S256x1024 .bf16 ← Prog.lift (.load mXs (lr t).toLoadRect (View.loadsAt_vmem h_S256x1024))
  let s : Vec F S256x1 .i32 ← Prog.lift (.load mSa (Rect.unit (s := S2048x1) (k2_off14 t) S256x1.size (k2_off14_inb t)).toLoadRect (View.loadsAt_vmem h_S256x1))
  let _ : Vec F S256x1024 .bf16 ← Prog.lift (.load mFin (lr t).toLoadRect (View.loadsAt_vmem h_S256x1024))
  Prog.lift (.store mFin (lr t) (k2_pay6 (F := F)) Finset.univ (lst t) (.inl rfl))
  gUpd (pos (k2_pay7 v10 s)) mW1 ![0, 0, 0] inb_S4x1024x2048_S1x1024x2048_0_0_0 mW2 ![0, 0, 0] inb_S4x2048x1024_S1x2048x1024_0_0_0 mFin (lr t)
    (View.loadsAt_vmem h_S256x1024) (lst t) (k2_pay8 v10 x s)
    (gUpd (pos (k2_pay9 v10 s)) mW1 ![1, 0, 0] inb_S4x1024x2048_S1x1024x2048_1_0_0 mW2 ![1, 0, 0] inb_S4x2048x1024_S1x2048x1024_1_0_0 mFin (lr t)
      (View.loadsAt_vmem h_S256x1024) (lst t) (k2_pay10 v10 x s)
      (pure ⟨Scalar.muli (Scf.iv 0#32 1#32 t) 256#32, x, k2_pay5 s, Scalar.addi v10 2#32, k2_pay11 v10 s⟩))

/-- One trip. -/
def lTrip (v10 : BitVec 32) (t : Fin k2_t9_loop.trips) (_ : Unit) : Prog (TpuEff nD τ sig (Elt F) Λ₀ .tc) Unit :=
  lPart v10 t >>= fun r =>
    gUpd (pos (k2_pay40 (F := F) r.2.2.2.2)) mW1 ![2, 0, 0] inb_S4x1024x2048_S1x1024x2048_2_0_0 mW2 ![2, 0, 0] inb_S4x2048x1024_S1x2048x1024_2_0_0 mFin (lr t)
      (View.loadsAt_vmem h_S256x1024) (lst t) (k2_pay41 r.2.1 r.2.2.1 r.2.2.2.1)
      (gUpd (pos (k2_pay42 (F := F) v10 r.2.2.1)) mW1 ![3, 0, 0] inb_S4x1024x2048_S1x1024x2048_3_0_0 mW2 ![3, 0, 0] inb_S4x2048x1024_S1x2048x1024_3_0_0 mFin (lr t)
        (View.loadsAt_vmem h_S256x1024) (lst t) (k2_pay43 v10 r.2.1 r.2.2.1)
        (pure ⟨⟩))

theorem lPart_eq (v10 : BitVec 32) (t : Fin k2_t9_loop.trips) :
    k2_part1 (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 v10 0#32 1#32 t = lPart v10 t := by
  rw [k2_part1_eq_skeleton]; rfl

theorem t9_eq (d0 : Dev nD) (v2 v5 v9 v10 v54 : BitVec 32) :
    k2_t9_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v10 v54 = lTrip v10 := by
  funext t u
  unfold k2_t9_body lTrip
  rw [lPart_eq]
  rfl

theorem trips9 : k2_t9_loop.trips = 8 := by decide
/-- The block of trip t. -/
abbrev bi_t9 (t : Fin k2_t9_loop.trips) : Fin 8 := Fin.cast trips9 t
theorem off13_eq (t : Fin k2_t9_loop.trips) : k2_off13 t = ![256 * (bi_t9 t).val, 0] := by revert t; decide
theorem off14_eq (t : Fin k2_t9_loop.trips) : k2_off14 t = ![256 * (bi_t9 t).val, 0] := by revert t; decide

theorem upd_eq (e : BitVec 32) (x : Vec F S256x1024 .bf16) (s : IVec S256x1 32) (g : BitVec 1)
    (pay : Vec F S1x1024x2048 .bf16 → Vec F S1x2048x1024 .bf16 → Vec F S256x1024 .bf16 → Vec F S256x1024 .bf16)
    (a a' : Vec F S1x1024x2048 .bf16) (b b' : Vec F S1x2048x1024 .bf16) (cur : Vec F S256x1024 .bf16)
    (hg : g = exGuard (F := F) e s) (hp : ∀ a b cur, pay a b cur = k2_pay41 x s e a b cur) (ha : a = a') (hb : b = b') :
    (if g = 1#1 then pay a b cur else cur) = exUpd e x s a' b' cur := by
  subst ha hb hg
  unfold exUpd
  simp only [hp]

theorem lg0 (v10 : BitVec 32) (s : IVec S256x1 32) : pos (k2_pay7 (F := F) v10 s) = exGuard (F := F) (Scalar.addi v10 0#32) s := by
  conv_rhs => rw [← pay5_eq (F := F) s]
  rfl
theorem lg1 (v10 : BitVec 32) (s : IVec S256x1 32) : pos (k2_pay9 (F := F) v10 s) = exGuard (F := F) (Scalar.addi v10 1#32) s := by
  conv_rhs => rw [← pay5_eq (F := F) s]
  rfl
theorem lg2 (v10 : BitVec 32) (s : IVec S256x1 32) : pos (k2_pay40 (F := F) (k2_pay11 (F := F) v10 s)) = exGuard (F := F) (Scalar.addi v10 2#32) s := by
  conv_rhs => rw [← pay5_eq (F := F) s]
  rfl
theorem lg3 (v10 : BitVec 32) (s : IVec S256x1 32) : pos (k2_pay42 (F := F) v10 s) = exGuard (F := F) (Scalar.addi v10 3#32) s := rfl
theorem lp0 (v10 : BitVec 32) (x : Vec F S256x1024 .bf16) (s : IVec S256x1 32) (a : Vec F S1x1024x2048 .bf16) (b : Vec F S1x2048x1024 .bf16) (cur : Vec F S256x1024 .bf16) :
    k2_pay8 v10 x s a b cur = k2_pay41 x s (Scalar.addi v10 0#32) a b cur := by
  conv_rhs => rw [← pay5_eq (F := F) s]
  rfl
theorem lp1 (v10 : BitVec 32) (x : Vec F S256x1024 .bf16) (s : IVec S256x1 32) (a : Vec F S1x1024x2048 .bf16) (b : Vec F S1x2048x1024 .bf16) (cur : Vec F S256x1024 .bf16) :
    k2_pay10 v10 x s a b cur = k2_pay41 x s (Scalar.addi v10 1#32) a b cur := by
  conv_rhs => rw [← pay5_eq (F := F) s]
  rfl
theorem lp3 (v10 : BitVec 32) (x : Vec F S256x1024 .bf16) (s : IVec S256x1 32) (a : Vec F S1x1024x2048 .bf16) (b : Vec F S1x2048x1024 .bf16) (cur : Vec F S256x1024 .bf16) :
    k2_pay43 v10 x s a b cur = k2_pay41 x s (Scalar.addi v10 3#32) a b cur := rfl

/-- One trip: its block of the results is what the four experts give. -/
theorem wp_lTrip (c : Dev nD) (v10 : BitVec 32) (t : Fin k2_t9_loop.trips) (qx qs q3 q4 : PosShare TreeShare)
    (X : S2048x1024.Idx → F .bf16) (s : S2048x1.Idx → BitVec 32) (W1 : S4x1024x2048.Idx → F .bf16) (W2 : S4x2048x1024.Idx → F .bf16)
    (g : S2048x1024.Idx → F .bf16) (Q : Unit → sProp 𝕄) :
    iprop(pts (F := F) c mXs qx X ∗ pts (F := F) c mSa qs s ∗ pts (F := F) c mW1 q3 W1 ∗ pts (F := F) c mW2 q4 W2 ∗ ptsOn (F := F) c mFin Finset.univ fullShare g)
    ⊢ iprop((pts (F := F) c mXs qx X -∗ pts (F := F) c mSa qs s -∗ pts (F := F) c mW1 q3 W1 -∗ pts (F := F) c mW2 q4 W2
        -∗ ptsOn (F := F) c mFin Finset.univ fullShare ((mFin.access (lr t)).write (Elt F) g
          (exBlock v10 ((mXs.access (lr t)).read (Elt F) X) ((mSa.access (Rect.unit (s := S2048x1) (k2_off14 t) S256x1.size (k2_off14_inb t))).read (Elt F) s) W1 W2) Finset.univ)
        -∗ Q ⟨⟩)
      -∗ WP c (lTrip v10 t ⟨⟩) Q) := by
  have hS : (mFin.access (lr t)).set ⊆ Finset.univ := Finset.subset_univ _
  iintro ⟨Hx, Hs, H3, H4, Ht⟩ HK
  unfold lTrip
  rw [WP, wp_bind]
  unfold lPart
  iapply (wp_load_rect (defs := defs₀ (F := F)) 𝒱₀ (c : Thread nD τ) none Set.univ (m := mXs) (r := lr t) (View.set_slice_subset mXs.view _)) $$ Hx
  iintro Hx
  iapply (wp_load_rect (defs := defs₀ (F := F)) 𝒱₀ (c : Thread nD τ) none Set.univ (m := mSa)
    (r := Rect.unit (s := S2048x1) (k2_off14 t) S256x1.size (k2_off14_inb t)) (View.set_slice_subset mSa.view _)) $$ Hs
  iintro Hs
  iapply (wp_load_rect (defs := defs₀ (F := F)) 𝒱₀ (c : Thread nD τ) none Set.univ (m := mFin) (r := lr t) hS) $$ Ht
  iintro Ht
  iapply (wp_store (defs := defs₀ (F := F)) 𝒱₀ (c : Thread nD τ) none Set.univ (m := mFin) (r := lr t) hS) $$ Ht
  iintro Ht
  generalize hx : (mXs.access (lr t)).read (Elt F) X = x
  generalize hs : (mSa.access (Rect.unit (s := S2048x1) (k2_off14 t) S256x1.size (k2_off14_inb t))).read (Elt F) s = sv
  have h0 := upd_eq (Scalar.addi v10 0#32) x sv _ (k2_pay8 v10 x sv)
    ((mW1.access (Rect.unit (s := S4x1024x2048) ![0, 0, 0] S1x1024x2048.size inb_S4x1024x2048_S1x1024x2048_0_0_0)).read (Elt F) W1) (fun i => W1 ((w1R 0).emb i))
    ((mW2.access (Rect.unit (s := S4x2048x1024) ![0, 0, 0] S1x2048x1024.size inb_S4x2048x1024_S1x2048x1024_0_0_0)).read (Elt F) W2) (fun i => W2 ((w2R 0).emb i))
    k2_pay6 (lg0 v10 sv) (lp0 v10 x sv) rfl rfl
  iapply (wp_gUpd c _ mW1 _ _ mW2 _ _ mFin (lr t) _ _ _ _ _ q3 q4 W1 W2 g k2_pay6 Finset.univ hS _ h0) $$ [H3 H4 Ht]
  · isplitl [H3]
    · iexact H3
    isplitl [H4]
    · iexact H4
    iexact Ht
  iintro H3 H4 Ht
  have h1 := upd_eq (Scalar.addi v10 1#32) x sv _ (k2_pay10 v10 x sv)
    ((mW1.access (Rect.unit (s := S4x1024x2048) ![1, 0, 0] S1x1024x2048.size inb_S4x1024x2048_S1x1024x2048_1_0_0)).read (Elt F) W1) (fun i => W1 ((w1R 1).emb i))
    ((mW2.access (Rect.unit (s := S4x2048x1024) ![1, 0, 0] S1x2048x1024.size inb_S4x2048x1024_S1x2048x1024_1_0_0)).read (Elt F) W2) (fun i => W2 ((w2R 1).emb i))
    (exUpd (Scalar.addi v10 0#32) x sv (fun i => W1 ((w1R 0).emb i)) (fun i => W2 ((w2R 0).emb i)) k2_pay6) (lg1 v10 sv) (lp1 v10 x sv) rfl rfl
  iapply (wp_gUpd c _ mW1 _ _ mW2 _ _ mFin (lr t) _ _ _ _ _ q3 q4 W1 W2 g _ Finset.univ hS _ h1) $$ [H3 H4 Ht]
  · isplitl [H3]
    · iexact H3
    isplitl [H4]
    · iexact H4
    iexact Ht
  iintro H3 H4 Ht
  iapply wp_done c
  imodintro
  have h2 := upd_eq (Scalar.addi v10 2#32) x sv _ (k2_pay41 x (k2_pay5 (F := F) sv) (Scalar.addi v10 2#32))
    ((mW1.access (Rect.unit (s := S4x1024x2048) ![2, 0, 0] S1x1024x2048.size inb_S4x1024x2048_S1x1024x2048_2_0_0)).read (Elt F) W1) (fun i => W1 ((w1R 2).emb i))
    ((mW2.access (Rect.unit (s := S4x2048x1024) ![2, 0, 0] S1x2048x1024.size inb_S4x2048x1024_S1x2048x1024_2_0_0)).read (Elt F) W2) (fun i => W2 ((w2R 2).emb i))
    (exUpd (Scalar.addi v10 1#32) x sv (fun i => W1 ((w1R 1).emb i)) (fun i => W2 ((w2R 1).emb i))
      (exUpd (Scalar.addi v10 0#32) x sv (fun i => W1 ((w1R 0).emb i)) (fun i => W2 ((w2R 0).emb i)) k2_pay6)) (lg2 v10 sv) (by intro a b cur; rw [pay5_eq]) rfl rfl
  iapply (wp_gUpd c _ mW1 _ _ mW2 _ _ mFin (lr t) _ _ _ _ _ q3 q4 W1 W2 g _ Finset.univ hS _ h2) $$ [H3 H4 Ht]
  · isplitl [H3]
    · iexact H3
    isplitl [H4]
    · iexact H4
    iexact Ht
  iintro H3 H4 Ht
  have h3 := upd_eq (Scalar.addi v10 3#32) x sv (pos (k2_pay42 (F := F) v10 (k2_pay5 (F := F) sv))) (k2_pay43 v10 x (k2_pay5 (F := F) sv))
    ((mW1.access (Rect.unit (s := S4x1024x2048) ![3, 0, 0] S1x1024x2048.size inb_S4x1024x2048_S1x1024x2048_3_0_0)).read (Elt F) W1) (fun i => W1 ((w1R 3).emb i))
    ((mW2.access (Rect.unit (s := S4x2048x1024) ![3, 0, 0] S1x2048x1024.size inb_S4x2048x1024_S1x2048x1024_3_0_0)).read (Elt F) W2) (fun i => W2 ((w2R 3).emb i))
    (exUpd (Scalar.addi v10 2#32) x sv (fun i => W1 ((w1R 2).emb i)) (fun i => W2 ((w2R 2).emb i))
      (exUpd (Scalar.addi v10 1#32) x sv (fun i => W1 ((w1R 1).emb i)) (fun i => W2 ((w2R 1).emb i))
        (exUpd (Scalar.addi v10 0#32) x sv (fun i => W1 ((w1R 0).emb i)) (fun i => W2 ((w2R 0).emb i)) k2_pay6)))
    (by rw [pay5_eq]; exact lg3 v10 sv) (by intro a b cur; rw [pay5_eq]; exact lp3 v10 x sv a b cur) rfl rfl
  iapply (wp_gUpd c _ mW1 _ _ mW2 _ _ mFin (lr t) _ _ _ _ _ q3 q4 W1 W2 g _ Finset.univ hS _ h3) $$ [H3 H4 Ht]
  · isplitl [H3]
    · iexact H3
    isplitl [H4]
    · iexact H4
    iexact Ht
  iintro H3 H4 Ht
  iapply wp_done c
  imodintro
  iapply HK $$ Hx Hs H3 H4
  iexact Ht

/-- The whole loop: the results are the four experts' on every row. -/
theorem wp_t9 (c : Dev nD) (d0 : Dev nD) (v2 v5 v9 v10 v54 : BitVec 32) (qx qs q3 q4 : PosShare TreeShare)
    (X : S2048x1024.Idx → F .bf16) (s : S2048x1.Idx → BitVec 32) (W1 : S4x1024x2048.Idx → F .bf16) (W2 : S4x2048x1024.Idx → F .bf16)
    (g0 : S2048x1024.Idx → F .bf16) {β : Type} (kk : Unit → Prog (TpuEff nD τ sig (Elt F) Λ₀ .tc) β) (Q : β → sProp 𝕄) :
    iprop(pts (F := F) c mXs qx X ∗ pts (F := F) c mSa qs s ∗ pts (F := F) c mW1 q3 W1 ∗ pts (F := F) c mW2 q4 W2 ∗ ptsOn (F := F) c mFin Finset.univ fullShare g0)
    ⊢ iprop((pts (F := F) c mXs qx X -∗ pts (F := F) c mSa qs s -∗ pts (F := F) c mW1 q3 W1 -∗ pts (F := F) c mW2 q4 W2
        -∗ ptsOn (F := F) c mFin Finset.univ fullShare (EXP v10 X s W1 W2)
        -∗ WP c (kk ⟨⟩) Q)
      -∗ WP c (Scf.Loop.for k2_t9_loop k2_t9_ok ⟨⟩ (k2_t9_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v10 v54) >>= kk) Q) := by
  rw [t9_eq]
  let I : ℕ → Unit → sProp 𝕄 := fun k _ =>
    iprop(∃ g : S2048x1024.Idx → F .bf16, ⌜∀ t : Fin k2_t9_loop.trips, t.val < k → ∀ x, mFin.view.read (Elt F) g ((rows (bi_t9 t)).emb x) = EXP v10 X s W1 W2 ((rows (bi_t9 t)).emb x)⌝
      ∗ pts (F := F) c mXs qx X ∗ pts (F := F) c mSa qs s ∗ pts (F := F) c mW1 q3 W1 ∗ pts (F := F) c mW2 q4 W2 ∗ ptsOn (F := F) c mFin Finset.univ fullShare g)
  have hb : ∀ (k : Fin k2_t9_loop.trips) (acc : Unit), I k.val acc ⊢ WP c (lTrip v10 k acc) (I (k.val + 1)) := by
    intro k acc
    iintro ⟨%g, %hg, Hx, Hs, H3, H4, Ht⟩
    iapply (wp_lTrip c v10 k qx qs q3 q4 X s W1 W2 g) $$ [Hx Hs H3 H4 Ht]
    · isplitl [Hx]
      · iexact Hx
      isplitl [Hs]
      · iexact Hs
      isplitl [H3]
      · iexact H3
      isplitl [H4]
      · iexact H4
      iexact Ht
    iintro Hx Hs H3 H4 Ht
    iexists _
    isplitr
    rotate_left
    · isplitl [Hx]
      · iexact Hx
      isplitl [Hs]
      · iexact Hs
      isplitl [H3]
      · iexact H3
      isplitl [H4]
      · iexact H4
      iexact Ht
    · ipureintro
      intro t ht x
      have hw := read_rows_write (F := F) mFin (bi_t9 k) (off13_eq k) (k2_off13_inb k) g
        (exBlock v10 ((mXs.access (lr k)).read (Elt F) X) ((mSa.access (Rect.unit (s := S2048x1) (k2_off14 k) S256x1.size (k2_off14_inb k))).read (Elt F) s) W1 W2)
        (bi_t9 t) x
      refine hw.trans ?_
      by_cases htk : t = k
      · subst htk
        rw [if_pos rfl]
        unfold EXP
        rw [glue_emb, read_unit mXs (off13_eq t) _ _ (rows_inb _), read_unit mSa (off14_eq t) _ _ (one_inb _)]
        rfl
      · rw [if_neg (fun h => htk (Fin.cast_injective _ h))]
        exact hg t (by have : t.val ≠ k.val := fun h => htk (Fin.ext h); omega) x
  iintro ⟨Hx, Hs, H3, H4, Ht⟩ HK
  iapply (Scf.wp_for_bind frame (wpE (defs₀ (F := F)) 𝒱₀ (c : Thread nD τ) none) Set.univ _ _ _ k2_t9_ok ⟨⟩
    (lTrip v10) I hb) $$ [Hx Hs H3 H4 Ht]
  · iexists g0
    isplitr
    · ipureintro; intro t ht; exact absurd ht (Nat.not_lt_zero _)
    isplitl [Hx]
    · iexact Hx
    isplitl [Hs]
    · iexact Hs
    isplitl [H3]
    · iexact H3
    isplitl [H4]
    · iexact H4
    iexact Ht
  · iintro %acc ⟨%g, %hg, Hx, Hs, H3, H4, Ht⟩
    have e : g = EXP v10 X s W1 W2 := eq_of_rows fun b x => hg (Fin.cast trips9.symm b) (Fin.isLt _) x
    subst e
    iapply HK $$ Hx Hs H3 H4 Ht

end Cert.KernelIdeal.P
-- ==== Proof.Remote.lean ====
module

public import proofs.«01_k».proof.Proof.Local

@[expose] public section

set_option maxRecDepth 65536

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ UU ℕ

/-! ## The peer's rows through the device's experts, one chunk into one slot -/

theorem slot_inb (σ : Fin 2) : ∀ a, (![σ.val, 0, 0] : Fin 3 → ℕ) a + S1x512x1024.size a ≤ S2x512x1024.size a := by
  revert σ; decide
/-- Slot σ of the two-slot buffer. -/
abbrev slotR (σ : Fin 2) : Rect S2x512x1024 := Rect.unit (s := S2x512x1024) ![σ.val, 0, 0] S1x512x1024.size (slot_inb σ)
theorem half_inb (σ t : Fin 2) : ∀ a, (![σ.val, 256 * t.val, 0] : Fin 3 → ℕ) a + S1x256x1024.size a ≤ S2x512x1024.size a := by
  revert σ t; decide
/-- Half t of slot σ. -/
abbrev halfR (σ t : Fin 2) : Rect S2x512x1024 := Rect.unit (s := S2x512x1024) ![σ.val, 256 * t.val, 0] S1x256x1024.size (half_inb σ t)

theorem slot_mem {σ : Fin 2} {y : S2x512x1024.Idx} : y ∈ (slotR σ).set ↔ (y 0).val = σ.val := by
  rw [Rect.mem_set_unit]
  constructor
  · intro h
    have h1 : σ.val ≤ (y 0).val ∧ (y 0).val < σ.val + 1 := h 0
    omega
  · intro h a
    match a with
    | ⟨0, _⟩ => show σ.val ≤ (y 0).val ∧ (y 0).val < σ.val + 1; omega
    | ⟨1, _⟩ => show 0 ≤ (y 1).val ∧ (y 1).val < 0 + 512; have : (y 1).val < 512 := (y 1).isLt; omega
    | ⟨2, _⟩ => show 0 ≤ (y 2).val ∧ (y 2).val < 0 + 1024; have : (y 2).val < 1024 := (y 2).isLt; omega

theorem half_mem {σ t : Fin 2} {y : S2x512x1024.Idx} : y ∈ (halfR σ t).set ↔ (y 0).val = σ.val ∧ (y 1).val / 256 = t.val := by
  rw [Rect.mem_set_unit]
  constructor
  · intro h
    have h0 : σ.val ≤ (y 0).val ∧ (y 0).val < σ.val + 1 := h 0
    have h1 : 256 * t.val ≤ (y 1).val ∧ (y 1).val < 256 * t.val + 256 := h 1
    omega
  · intro h a
    match a with
    | ⟨0, _⟩ => show σ.val ≤ (y 0).val ∧ (y 0).val < σ.val + 1; omega
    | ⟨1, _⟩ => show 256 * t.val ≤ (y 1).val ∧ (y 1).val < 256 * t.val + 256; omega
    | ⟨2, _⟩ => show 0 ≤ (y 2).val ∧ (y 2).val < 0 + 1024; have : (y 2).val < 1024 := (y 2).isLt; omega

theorem half_sub (σ t : Fin 2) : (mOrem.access (halfR σ t)).set ⊆ (slotR σ).set := by
  rw [show (mOrem.access (halfR σ t)).set = (halfR σ t).set from View.set_slice_whole _ _]
  intro y hy
  exact slot_mem.mpr (half_mem.mp hy).1

/-- What a slot holds when it carries chunk k of an array. -/
def slotC {α : Type} (k : Fin 4) (G : S2048x1024.Idx → α) : S2x512x1024.Idx → α := fun y =>
  G (ValueIdx.ix2 (⟨512 * k.val + (y 1).val, by have : (y 1).val < 512 := (y 1).isLt; omega⟩ : Fin 2048) (y 2 : Fin 1024))

/-- Block t of chunk k. -/
abbrev blkOf (k : Fin 4) (t : Fin 2) : Fin 8 := ⟨2 * k.val + t.val, by omega⟩

theorem slotC_half {α : Type} (k : Fin 4) (σ t : Fin 2) (G : S2048x1024.Idx → α) (x : S1x256x1024.Idx) :
    slotC k G ((halfR σ t).emb x) = G ((rows (blkOf k t)).emb (fun a => x a.succ)) := by
  unfold slotC
  congr 1
  funext a
  apply Fin.ext
  match a with
  | ⟨0, _⟩ =>
    show 512 * k.val + (256 * t.val + 1 * (x 1).val) = 256 * (2 * k.val + t.val) + 1 * (x 1).val
    omega
  | ⟨1, _⟩ =>
    show 0 + 1 * (x 2).val = 0 + 1 * (x 2).val
    rfl

section Trip

variable (l : Scf.Loop 32)
  (offx : Fin l.trips → Fin 2 → ℕ) (hx : ∀ t, ∀ a, offx t a + S256x1024.size a ≤ S2048x1024.size a)
  (offs : Fin l.trips → Fin 2 → ℕ) (hs : ∀ t, ∀ a, offs t a + S256x1.size a ≤ S2048x1.size a)
  (offt : Fin l.trips → Fin 3 → ℕ) (ht : ∀ t, ∀ a, offt t a + S1x256x1024.size a ≤ S2x512x1024.size a)

/-- The half slot a trip writes. -/
abbrev tR (t : Fin l.trips) : Rect S2x512x1024 := Rect.unit (s := S2x512x1024) (offt t) S1x256x1024.size (ht t)

variable (hst : ∀ t, (mOrem.access (tR l offt ht t)).Stores Finset.univ)

/-- One trip's first half: the block's rows and experts, the zero store, the first expert. -/
def rPart (v10 : BitVec 32) (t : Fin l.trips) :
    Prog (TpuEff nD τ sig (Elt F) Λ₀ .tc)
      (Σ' (_ : BitVec 32) (_ : Vec F S256x1024 .bf16) (_ : Vec F S256x1 .i32) (_ : BitVec 32) (_ : BitVec 32), BitVec 32) := do
  let x : Vec F S256x1024 .bf16 ← Prog.lift (.load mXrem (Rect.unit (s := S2048x1024) (offx t) S256x1024.size (hx t)).toLoadRect (View.loadsAt_vmem h_S256x1024))
  let s : Vec F S256x1 .i32 ← Prog.lift (.load mArem (Rect.unit (s := S2048x1) (offs t) S256x1.size (hs t)).toLoadRect (View.loadsAt_vmem h_S256x1))
  let _ : Vec F S1x256x1024 .bf16 ← Prog.lift (.load mOrem (tR l offt ht t).toLoadRect (View.loadsAt_vmem h_S1x256x1024))
  Prog.lift (.store mOrem (tR l offt ht t) (k2_pay12 (F := F)) Finset.univ (hst t) (.inl rfl))
  gUpd (pos (k2_pay13 v10 s)) mW1 ![0, 0, 0] inb_S4x1024x2048_S1x1024x2048_0_0_0 mW2 ![0, 0, 0] inb_S4x2048x1024_S1x2048x1024_0_0_0 mOrem (tR l offt ht t)
    (View.loadsAt_vmem h_S1x256x1024) (hst t) (k2_pay14 v10 x s)
    (pure ⟨Scalar.muli (Scf.iv 0#32 1#32 t) 256#32, x, s, Scalar.addi v10 1#32,
      Scalar.extui (Scalar.cmpf .ogt (k2_pay15 (F := F) v10 s) (Scalar.ofBits .f32 0x00000000#32)), 0#32⟩)

/-- One trip. -/
def rTrip (v10 : BitVec 32) (t : Fin l.trips) (_ : Unit) : Prog (TpuEff nD τ sig (Elt F) Λ₀ .tc) Unit :=
  rPart l offx hx offs hs offt ht hst v10 t >>= fun r =>
    gUpd (Scalar.cmpi .ne r.2.2.2.2.1 r.2.2.2.2.2) mW1 ![1, 0, 0] inb_S4x1024x2048_S1x1024x2048_1_0_0 mW2 ![1, 0, 0] inb_S4x2048x1024_S1x2048x1024_1_0_0 mOrem (tR l offt ht t)
      (View.loadsAt_vmem h_S1x256x1024) (hst t) (k2_pay44 r.2.1 r.2.2.1 r.2.2.2.1)
      (gUpd (pos (k2_pay45 (F := F) v10 r.2.2.1)) mW1 ![2, 0, 0] inb_S4x1024x2048_S1x1024x2048_2_0_0 mW2 ![2, 0, 0] inb_S4x2048x1024_S1x2048x1024_2_0_0 mOrem (tR l offt ht t)
        (View.loadsAt_vmem h_S1x256x1024) (hst t) (k2_pay46 v10 r.2.1 r.2.2.1)
        (gUpd (pos (k2_pay47 (F := F) v10 r.2.2.1)) mW1 ![3, 0, 0] inb_S4x1024x2048_S1x1024x2048_3_0_0 mW2 ![3, 0, 0] inb_S4x2048x1024_S1x2048x1024_3_0_0 mOrem (tR l offt ht t)
          (View.loadsAt_vmem h_S1x256x1024) (hst t) (k2_pay48 v10 r.2.1 r.2.2.1)
          (pure ⟨⟩)))

end Trip

theorem upd3_eq (e : BitVec 32) (x : Vec F S256x1024 .bf16) (s : IVec S256x1 32) (g : BitVec 1)
    (pay : Vec F S1x1024x2048 .bf16 → Vec F S1x2048x1024 .bf16 → Vec F S1x256x1024 .bf16 → Vec F S1x256x1024 .bf16)
    (a a' : Vec F S1x1024x2048 .bf16) (b b' : Vec F S1x2048x1024 .bf16) (cur : Vec F S256x1024 .bf16) (cur3 : Vec F S1x256x1024 .bf16)
    (hg : g = exGuard (F := F) e s) (hp : ∀ a b cur, pay a b (up3 cur) = up3 (k2_pay41 x s e a b cur)) (ha : a = a') (hb : b = b')
    (hc : cur3 = up3 cur) :
    (if g = 1#1 then pay a b cur3 else cur3) = up3 (exUpd e x s a' b' cur) := by
  subst ha hb hg hc
  unfold exUpd
  by_cases h : exGuard (F := F) e s = 1#1
  · rw [if_pos h, if_pos h, hp]
  · rw [if_neg h, if_neg h]

theorem rg0 (v10 : BitVec 32) (s : IVec S256x1 32) : pos (k2_pay13 (F := F) v10 s) = exGuard (F := F) (Scalar.addi v10 0#32) s := rfl
theorem rg1 (v10 : BitVec 32) (s : IVec S256x1 32) :
    (Scalar.cmpi .ne (Scalar.extui (Scalar.cmpf .ogt (k2_pay15 (F := F) v10 s) (Scalar.ofBits .f32 0x00000000#32)) : BitVec 32) 0#32 : BitVec 1)
      = exGuard (F := F) (Scalar.addi v10 1#32) s := rfl
theorem rg2 (v10 : BitVec 32) (s : IVec S256x1 32) : pos (k2_pay45 (F := F) v10 s) = exGuard (F := F) (Scalar.addi v10 2#32) s := rfl
theorem rg3 (v10 : BitVec 32) (s : IVec S256x1 32) : pos (k2_pay47 (F := F) v10 s) = exGuard (F := F) (Scalar.addi v10 3#32) s := rfl
theorem rp2 (v10 : BitVec 32) (x : Vec F S256x1024 .bf16) (s : IVec S256x1 32) (a : Vec F S1x1024x2048 .bf16) (b : Vec F S1x2048x1024 .bf16) (cur : Vec F S256x1024 .bf16) :
    k2_pay46 v10 x s a b (up3 cur) = up3 (k2_pay41 x s (Scalar.addi v10 2#32) a b cur) := pay44_eq (Scalar.addi v10 2#32) x s a b cur
theorem rp3 (v10 : BitVec 32) (x : Vec F S256x1024 .bf16) (s : IVec S256x1 32) (a : Vec F S1x1024x2048 .bf16) (b : Vec F S1x2048x1024 .bf16) (cur : Vec F S256x1024 .bf16) :
    k2_pay48 v10 x s a b (up3 cur) = up3 (k2_pay41 x s (Scalar.addi v10 3#32) a b cur) := pay44_eq (Scalar.addi v10 3#32) x s a b cur

section Wp

variable (l : Scf.Loop 32)
  (offx : Fin l.trips → Fin 2 → ℕ) (hx : ∀ t, ∀ a, offx t a + S256x1024.size a ≤ S2048x1024.size a)
  (offs : Fin l.trips → Fin 2 → ℕ) (hs : ∀ t, ∀ a, offs t a + S256x1.size a ≤ S2048x1.size a)
  (offt : Fin l.trips → Fin 3 → ℕ) (ht : ∀ t, ∀ a, offt t a + S1x256x1024.size a ≤ S2x512x1024.size a)
  (hst : ∀ t, (mOrem.access (tR l offt ht t)).Stores Finset.univ)

/-- One trip: its half slot is what the four experts give. -/
theorem wp_rTrip (c : Dev nD) (v10 : BitVec 32) (t : Fin l.trips) (qx qs q3 q4 : PosShare TreeShare)
    (Sx : Finset (Idx (mXrem.view.loc (c : Thread nD τ)))) (hSx : (mXrem.access (Rect.unit (s := S2048x1024) (offx t) S256x1024.size (hx t))).set ⊆ Sx)
    (So : Finset (Idx (mOrem.view.loc (c : Thread nD τ)))) (hSo : (mOrem.access (tR l offt ht t)).set ⊆ So)
    (X : S2048x1024.Idx → F .bf16) (s : S2048x1.Idx → BitVec 32) (W1 : S4x1024x2048.Idx → F .bf16) (W2 : S4x2048x1024.Idx → F .bf16)
    (g : S2x512x1024.Idx → F .bf16) (Q : Unit → sProp 𝕄) :
    iprop(ptsOn (F := F) c mXrem Sx qx X ∗ pts (F := F) c mArem qs s ∗ pts (F := F) c mW1 q3 W1 ∗ pts (F := F) c mW2 q4 W2 ∗ ptsOn (F := F) c mOrem So fullShare g)
    ⊢ iprop((ptsOn (F := F) c mXrem Sx qx X -∗ pts (F := F) c mArem qs s -∗ pts (F := F) c mW1 q3 W1 -∗ pts (F := F) c mW2 q4 W2
        -∗ ptsOn (F := F) c mOrem So fullShare ((mOrem.access (tR l offt ht t)).write (Elt F) g
          (up3 (exBlock v10 ((mXrem.access (Rect.unit (s := S2048x1024) (offx t) S256x1024.size (hx t))).read (Elt F) X)
            ((mArem.access (Rect.unit (s := S2048x1) (offs t) S256x1.size (hs t))).read (Elt F) s) W1 W2)) Finset.univ)
        -∗ Q ⟨⟩)
      -∗ WP c (rTrip l offx hx offs hs offt ht hst v10 t ⟨⟩) Q) := by
  iintro ⟨Hx, Hs, H3, H4, Ht⟩ HK
  unfold rTrip
  rw [WP, wp_bind]
  unfold rPart
  iapply (wp_load_rect (defs := defs₀ (F := F)) 𝒱₀ (c : Thread nD τ) none Set.univ (m := mXrem)
    (r := Rect.unit (s := S2048x1024) (offx t) S256x1024.size (hx t)) hSx) $$ Hx
  iintro Hx
  iapply (wp_load_rect (defs := defs₀ (F := F)) 𝒱₀ (c : Thread nD τ) none Set.univ (m := mArem)
    (r := Rect.unit (s := S2048x1) (offs t) S256x1.size (hs t)) (View.set_slice_subset mArem.view _)) $$ Hs
  iintro Hs
  iapply (wp_load_rect (defs := defs₀ (F := F)) 𝒱₀ (c : Thread nD τ) none Set.univ (m := mOrem) (r := tR l offt ht t) hSo) $$ Ht
  iintro Ht
  iapply (wp_store (defs := defs₀ (F := F)) 𝒱₀ (c : Thread nD τ) none Set.univ (m := mOrem) (r := tR l offt ht t) hSo) $$ Ht
  iintro Ht
  generalize hx : (mXrem.access (Rect.unit (s := S2048x1024) (offx t) S256x1024.size (hx t))).read (Elt F) X = x
  generalize hs : (mArem.access (Rect.unit (s := S2048x1) (offs t) S256x1.size (hs t))).read (Elt F) s = sv
  have h0 := upd3_eq (Scalar.addi v10 0#32) x sv _ (k2_pay14 v10 x sv)
    ((mW1.access (Rect.unit (s := S4x1024x2048) ![0, 0, 0] S1x1024x2048.size inb_S4x1024x2048_S1x1024x2048_0_0_0)).read (Elt F) W1) (fun i => W1 ((w1R 0).emb i))
    ((mW2.access (Rect.unit (s := S4x2048x1024) ![0, 0, 0] S1x2048x1024.size inb_S4x2048x1024_S1x2048x1024_0_0_0)).read (Elt F) W2) (fun i => W2 ((w2R 0).emb i))
    k2_pay6 k2_pay12 (rg0 v10 sv) (pay14_eq v10 x sv) rfl rfl rfl
  iapply (wp_gUpd c _ mW1 _ _ mW2 _ _ mOrem (tR l offt ht t) _ _ _ _ _ q3 q4 W1 W2 g k2_pay12 So hSo _ h0) $$ [H3 H4 Ht]
  · isplitl [H3]
    · iexact H3
    isplitl [H4]
    · iexact H4
    iexact Ht
  iintro H3 H4 Ht
  iapply wp_done c
  imodintro
  have h1 := upd3_eq (Scalar.addi v10 1#32) x sv _ (k2_pay44 x sv (Scalar.addi v10 1#32))
    ((mW1.access (Rect.unit (s := S4x1024x2048) ![1, 0, 0] S1x1024x2048.size inb_S4x1024x2048_S1x1024x2048_1_0_0)).read (Elt F) W1) (fun i => W1 ((w1R 1).emb i))
    ((mW2.access (Rect.unit (s := S4x2048x1024) ![1, 0, 0] S1x2048x1024.size inb_S4x2048x1024_S1x2048x1024_1_0_0)).read (Elt F) W2) (fun i => W2 ((w2R 1).emb i))
    (exUpd (Scalar.addi v10 0#32) x sv (fun i => W1 ((w1R 0).emb i)) (fun i => W2 ((w2R 0).emb i)) k2_pay6) _ (rg1 v10 sv) (pay44_eq _ x sv) rfl rfl rfl
  iapply (wp_gUpd c _ mW1 _ _ mW2 _ _ mOrem (tR l offt ht t) _ _ _ _ _ q3 q4 W1 W2 g _ So hSo _ h1) $$ [H3 H4 Ht]
  · isplitl [H3]
    · iexact H3
    isplitl [H4]
    · iexact H4
    iexact Ht
  iintro H3 H4 Ht
  have h2 := upd3_eq (Scalar.addi v10 2#32) x sv _ (k2_pay46 v10 x sv)
    ((mW1.access (Rect.unit (s := S4x1024x2048) ![2, 0, 0] S1x1024x2048.size inb_S4x1024x2048_S1x1024x2048_2_0_0)).read (Elt F) W1) (fun i => W1 ((w1R 2).emb i))
    ((mW2.access (Rect.unit (s := S4x2048x1024) ![2, 0, 0] S1x2048x1024.size inb_S4x2048x1024_S1x2048x1024_2_0_0)).read (Elt F) W2) (fun i => W2 ((w2R 2).emb i))
    (exUpd (Scalar.addi v10 1#32) x sv (fun i => W1 ((w1R 1).emb i)) (fun i => W2 ((w2R 1).emb i))
      (exUpd (Scalar.addi v10 0#32) x sv (fun i => W1 ((w1R 0).emb i)) (fun i => W2 ((w2R 0).emb i)) k2_pay6)) _ (rg2 v10 sv) (rp2 v10 x sv) rfl rfl rfl
  iapply (wp_gUpd c _ mW1 _ _ mW2 _ _ mOrem (tR l offt ht t) _ _ _ _ _ q3 q4 W1 W2 g _ So hSo _ h2) $$ [H3 H4 Ht]
  · isplitl [H3]
    · iexact H3
    isplitl [H4]
    · iexact H4
    iexact Ht
  iintro H3 H4 Ht
  have h3 := upd3_eq (Scalar.addi v10 3#32) x sv _ (k2_pay48 v10 x sv)
    ((mW1.access (Rect.unit (s := S4x1024x2048) ![3, 0, 0] S1x1024x2048.size inb_S4x1024x2048_S1x1024x2048_3_0_0)).read (Elt F) W1) (fun i => W1 ((w1R 3).emb i))
    ((mW2.access (Rect.unit (s := S4x2048x1024) ![3, 0, 0] S1x2048x1024.size inb_S4x2048x1024_S1x2048x1024_3_0_0)).read (Elt F) W2) (fun i => W2 ((w2R 3).emb i))
    (exUpd (Scalar.addi v10 2#32) x sv (fun i => W1 ((w1R 2).emb i)) (fun i => W2 ((w2R 2).emb i))
      (exUpd (Scalar.addi v10 1#32) x sv (fun i => W1 ((w1R 1).emb i)) (fun i => W2 ((w2R 1).emb i))
        (exUpd (Scalar.addi v10 0#32) x sv (fun i => W1 ((w1R 0).emb i)) (fun i => W2 ((w2R 0).emb i)) k2_pay6))) _ (rg3 v10 sv) (rp3 v10 x sv) rfl rfl rfl
  iapply (wp_gUpd c _ mW1 _ _ mW2 _ _ mOrem (tR l offt ht t) _ _ _ _ _ q3 q4 W1 W2 g _ So hSo _ h3) $$ [H3 H4 Ht]
  · isplitl [H3]
    · iexact H3
    isplitl [H4]
    · iexact H4
    iexact Ht
  iintro H3 H4 Ht
  iapply wp_done c
  imodintro
  iapply HK $$ Hx Hs H3 H4
  iexact Ht

theorem read_half_write (dst : Memref sig .tc .vmem S2x512x1024 .bf16) (σ t : Fin 2) {off : Fin 3 → ℕ} (h : off = ![σ.val, 256 * t.val, 0])
    (inb : ∀ a, off a + S1x256x1024.size a ≤ S2x512x1024.size a) (g : dst.view.ty.Contents (Elt F))
    (w : S1x256x1024.Idx → F .bf16) (t' : Fin 2) (x : S1x256x1024.Idx) :
    dst.view.read (Elt F) ((dst.access (Rect.unit (s := S2x512x1024) off S1x256x1024.size inb)).write (Elt F) g w Finset.univ) ((halfR σ t').emb x)
      = if t' = t then w x else dst.view.read (Elt F) g ((halfR σ t').emb x) := by
  subst h
  by_cases e : t' = t
  · subst e
    rw [if_pos rfl]
    exact View.read_slice_write_emb (halfR σ t') g w (Finset.mem_univ x)
  · rw [if_neg e]
    refine View.read_slice_write_of_not_mem (halfR σ t) g w Finset.univ ?_
    intro hm
    rw [Rect.map_emb_univ, half_mem] at hm
    have h2 : (halfR σ t').emb x ∈ (halfR σ t').set := by
      rw [← Rect.map_emb_univ]; exact Finset.mem_map_of_mem _ (Finset.mem_univ _)
    rw [half_mem] at h2
    exact e (Fin.ext (h2.2.symm.trans hm.2))

theorem rows_acc_sub (k : Fin 4) (t : Fin 2) : (mXrem.access (rows (blkOf k t))).set ⊆ (chunk k).set := by
  rw [show (mXrem.access (rows (blkOf k t))).set = (rows (blkOf k t)).set from View.set_slice_whole _ _]
  exact rows_sub_chunk (by show (2 * k.val + t.val) / 2 = k.val; omega)

/-- The loop over chunk k of the peer's rows: slot σ holds the four experts' results on the chunk. -/
theorem wp_rLoop (c : Dev nD) (hok : l.OK) (htr : l.trips = 2) (k : Fin 4) (σ : Fin 2) (v10 : BitVec 32)
    (ex : ∀ t, offx t = ![256 * (blkOf k (Fin.cast htr t)).val, 0]) (es : ∀ t, offs t = ![256 * (blkOf k (Fin.cast htr t)).val, 0])
    (et : ∀ t, offt t = ![σ.val, 256 * (Fin.cast htr t).val, 0])
    (qx qs q3 q4 : PosShare TreeShare)
    (X : S2048x1024.Idx → F .bf16) (s : S2048x1.Idx → BitVec 32) (W1 : S4x1024x2048.Idx → F .bf16) (W2 : S4x2048x1024.Idx → F .bf16)
    (g0 : S2x512x1024.Idx → F .bf16) {β : Type} (kk : Unit → Prog (TpuEff nD τ sig (Elt F) Λ₀ .tc) β) (Q : β → sProp 𝕄) :
    iprop(ptsOn (F := F) c mXrem (chunk k).set qx X ∗ pts (F := F) c mArem qs s ∗ pts (F := F) c mW1 q3 W1 ∗ pts (F := F) c mW2 q4 W2 ∗ ptsOn (F := F) c mOrem (slotR σ).set fullShare g0)
    ⊢ iprop((ptsOn (F := F) c mXrem (chunk k).set qx X -∗ pts (F := F) c mArem qs s -∗ pts (F := F) c mW1 q3 W1 -∗ pts (F := F) c mW2 q4 W2
        -∗ ptsOn (F := F) c mOrem (slotR σ).set fullShare (slotC k (EXP v10 X s W1 W2)) -∗ WP c (kk ⟨⟩) Q)
      -∗ WP c (Scf.Loop.for l hok ⟨⟩ (rTrip l offx hx offs hs offt ht hst v10) >>= kk) Q) := by
  let I : ℕ → Unit → sProp 𝕄 := fun n _ =>
    iprop(∃ g : S2x512x1024.Idx → F .bf16, ⌜∀ t : Fin l.trips, t.val < n → ∀ x, mOrem.view.read (Elt F) g ((halfR σ (Fin.cast htr t)).emb x)
          = slotC k (EXP v10 X s W1 W2) ((halfR σ (Fin.cast htr t)).emb x)⌝
      ∗ ptsOn (F := F) c mXrem (chunk k).set qx X ∗ pts (F := F) c mArem qs s ∗ pts (F := F) c mW1 q3 W1 ∗ pts (F := F) c mW2 q4 W2
      ∗ ptsOn (F := F) c mOrem (slotR σ).set fullShare g)
  have hb : ∀ (n : Fin l.trips) (acc : Unit), I n.val acc ⊢ WP c (rTrip l offx hx offs hs offt ht hst v10 n acc) (I (n.val + 1)) := by
    intro n acc
    have hSx : (mXrem.access (Rect.unit (s := S2048x1024) (offx n) S256x1024.size (hx n))).set ⊆ (chunk k).set := by
      rw [Rect.unit_congr (ex n) _ (rows_inb _)]; exact rows_acc_sub k _
    have hSo : (mOrem.access (tR l offt ht n)).set ⊆ (slotR σ).set := by
      rw [tR, Rect.unit_congr (et n) _ (half_inb _ _)]; exact half_sub σ _
    iintro ⟨%g, %hg, Hx, Hs, H3, H4, Ht⟩
    iapply (wp_rTrip l offx hx offs hs offt ht hst c v10 n qx qs q3 q4 _ hSx _ hSo X s W1 W2 g) $$ [Hx Hs H3 H4 Ht]
    · isplitl [Hx]
      · iexact Hx
      isplitl [Hs]
      · iexact Hs
      isplitl [H3]
      · iexact H3
      isplitl [H4]
      · iexact H4
      iexact Ht
    iintro Hx Hs H3 H4 Ht
    iexists _
    isplitr
    rotate_left
    · isplitl [Hx]
      · iexact Hx
      isplitl [Hs]
      · iexact Hs
      isplitl [H3]
      · iexact H3
      isplitl [H4]
      · iexact H4
      iexact Ht
    · ipureintro
      intro t htn x
      have hw := read_half_write (F := F) mOrem σ (Fin.cast htr n) (et n) (ht n) g
        (up3 (exBlock v10 ((mXrem.access (Rect.unit (s := S2048x1024) (offx n) S256x1024.size (hx n))).read (Elt F) X)
            ((mArem.access (Rect.unit (s := S2048x1) (offs n) S256x1.size (hs n))).read (Elt F) s) W1 W2))
        (Fin.cast htr t) x
      refine hw.trans ?_
      by_cases htk : t = n
      · subst htk
        rw [if_pos rfl, slotC_half, read_unit mXrem (ex t) _ _ (rows_inb _), read_unit mArem (es t) _ _ (one_inb _)]
        exact (shapeCast_addUnit_apply ![256, 1024] _ shapeCasts_S256x1024_S1x256x1024 x).trans
          (glue_emb (fun b => exBlock v10 (fun x => X ((rows b).emb x)) (fun x => s ((oneR b).emb x)) W1 W2) _ _).symm
      · rw [if_neg (fun h => htk (Fin.cast_injective _ h))]
        exact hg t (by have : t.val ≠ n.val := fun h => htk (Fin.ext h); omega) x
  iintro ⟨Hx, Hs, H3, H4, Ht⟩ HK
  iapply (Scf.wp_for_bind frame (wpE (defs₀ (F := F)) 𝒱₀ (c : Thread nD τ) none) Set.univ _ _ _ hok ⟨⟩
    (rTrip l offx hx offs hs offt ht hst v10) I hb) $$ [Hx Hs H3 H4 Ht]
  · iexists g0
    isplitr
    · ipureintro; intro t ht; exact absurd ht (Nat.not_lt_zero _)
    isplitl [Hx]
    · iexact Hx
    isplitl [Hs]
    · iexact Hs
    isplitl [H3]
    · iexact H3
    isplitl [H4]
    · iexact H4
    iexact Ht
  · iintro %acc ⟨%g, %hg, Hx, Hs, H3, H4, Ht⟩
    have e : ∀ y ∈ (slotR σ).set, g y = slotC k (EXP v10 X s W1 W2) y := by
      intro y hy
      have h1 : (y 1).val < 512 := (y 1).isLt
      have hy0 := slot_mem.mp hy
      have hm : y ∈ (halfR σ ⟨(y 1).val / 256, by omega⟩).set := half_mem.mpr ⟨hy0, rfl⟩
      rw [← Rect.map_emb_univ] at hm
      obtain ⟨x, -, hxy⟩ := Finset.mem_map.mp hm
      have := hg (Fin.cast htr.symm ⟨(y 1).val / 256, by omega⟩) (Fin.isLt _) x
      rw [← hxy]
      exact this
    ihave Ht2 := (Entails.of_eq (pointsTo_congr e)) $$ Ht
    iapply HK $$ Hx Hs H3 H4
    iexact Ht2

end Wp

/-! ### The four printed loops -/

theorem t10_eq (v2 v5 v9 : BitVec 32) (v10 : BitVec 32) (v80 v81 : BitVec 32) :
    k2_t10_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 v2 v5 v9 v10 v80 v81
      = rTrip k2_t10_loop k2_off19 k2_off19_inb k2_off20 k2_off20_inb k2_off21 k2_off21_inb
          (fun t => View.stores_vmem h_S1x256x1024 (hOrem.storeExact_slice rfl _ (k2_off21_packedbf16 t)) (fun _ => rfl)) v10 := by
  funext t u
  unfold k2_t10_body rTrip
  rw [k2_part2_eq_skeleton]
  rfl

theorem wp_t10 (c : Dev nD) (v2 v5 v9 : BitVec 32) (v10 : BitVec 32) (v80 v81 : BitVec 32) (qx qs q3 q4 : PosShare TreeShare)
    (X : S2048x1024.Idx → F .bf16) (s : S2048x1.Idx → BitVec 32) (W1 : S4x1024x2048.Idx → F .bf16) (W2 : S4x2048x1024.Idx → F .bf16)
    (g0 : S2x512x1024.Idx → F .bf16) {β : Type} (kk : Unit → Prog (TpuEff nD τ sig (Elt F) Λ₀ .tc) β) (Q : β → sProp 𝕄) :
    iprop(ptsOn (F := F) c mXrem (chunk 0).set qx X ∗ pts (F := F) c mArem qs s ∗ pts (F := F) c mW1 q3 W1 ∗ pts (F := F) c mW2 q4 W2 ∗ ptsOn (F := F) c mOrem (slotR 0).set fullShare g0)
    ⊢ iprop((ptsOn (F := F) c mXrem (chunk 0).set qx X -∗ pts (F := F) c mArem qs s -∗ pts (F := F) c mW1 q3 W1 -∗ pts (F := F) c mW2 q4 W2
        -∗ ptsOn (F := F) c mOrem (slotR 0).set fullShare (slotC 0 (EXP v10 X s W1 W2)) -∗ WP c (kk ⟨⟩) Q)
      -∗ WP c (Scf.Loop.for k2_t10_loop k2_t10_ok ⟨⟩ (k2_t10_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 v2 v5 v9 v10 v80 v81) >>= kk) Q) := by
  rw [t10_eq]
  exact wp_rLoop k2_t10_loop k2_off19 k2_off19_inb k2_off20 k2_off20_inb k2_off21 k2_off21_inb _ c k2_t10_ok (by decide) 0 0 v10
    (by decide) (by decide) (by decide) qx qs q3 q4 X s W1 W2 g0 kk Q

theorem t11_eq (d0 : Dev nD) (v2 v5 v9 : BitVec 32) (v10 : BitVec 32) :
    k2_t11_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v10
      = rTrip k2_t11_loop k2_off26 k2_off26_inb k2_off27 k2_off27_inb k2_off28 k2_off28_inb
          (fun t => View.stores_vmem h_S1x256x1024 (hOrem.storeExact_slice rfl _ (k2_off28_packedbf16 t)) (fun _ => rfl)) v10 := by
  funext t u
  unfold k2_t11_body rTrip
  rw [k2_part3_eq_skeleton]
  rfl

theorem wp_t11 (c : Dev nD) (d0 : Dev nD) (v2 v5 v9 : BitVec 32) (v10 : BitVec 32) (qx qs q3 q4 : PosShare TreeShare)
    (X : S2048x1024.Idx → F .bf16) (s : S2048x1.Idx → BitVec 32) (W1 : S4x1024x2048.Idx → F .bf16) (W2 : S4x2048x1024.Idx → F .bf16)
    (g0 : S2x512x1024.Idx → F .bf16) {β : Type} (kk : Unit → Prog (TpuEff nD τ sig (Elt F) Λ₀ .tc) β) (Q : β → sProp 𝕄) :
    iprop(ptsOn (F := F) c mXrem (chunk 1).set qx X ∗ pts (F := F) c mArem qs s ∗ pts (F := F) c mW1 q3 W1 ∗ pts (F := F) c mW2 q4 W2 ∗ ptsOn (F := F) c mOrem (slotR 1).set fullShare g0)
    ⊢ iprop((ptsOn (F := F) c mXrem (chunk 1).set qx X -∗ pts (F := F) c mArem qs s -∗ pts (F := F) c mW1 q3 W1 -∗ pts (F := F) c mW2 q4 W2
        -∗ ptsOn (F := F) c mOrem (slotR 1).set fullShare (slotC 1 (EXP v10 X s W1 W2)) -∗ WP c (kk ⟨⟩) Q)
      -∗ WP c (Scf.Loop.for k2_t11_loop k2_t11_ok ⟨⟩ (k2_t11_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v10) >>= kk) Q) := by
  rw [t11_eq]
  exact wp_rLoop k2_t11_loop k2_off26 k2_off26_inb k2_off27 k2_off27_inb k2_off28 k2_off28_inb _ c k2_t11_ok (by decide) 1 1 v10
    (by decide) (by decide) (by decide) qx qs q3 q4 X s W1 W2 g0 kk Q

theorem t12_eq (d0 : Dev nD) (v2 v5 v9 : BitVec 32) (v10 : BitVec 32) :
    k2_t12_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v10 0#32
      = rTrip k2_t12_loop k2_off33 k2_off33_inb k2_off34 k2_off34_inb k2_off35 k2_off35_inb
          (fun t => View.stores_vmem h_S1x256x1024 (hOrem.storeExact_slice rfl _ (k2_off35_packedbf16 t)) (fun _ => rfl)) v10 := by
  funext t u
  unfold k2_t12_body rTrip
  rw [k2_part4_eq_skeleton]
  rfl

theorem wp_t12 (c : Dev nD) (d0 : Dev nD) (v2 v5 v9 : BitVec 32) (v10 : BitVec 32) (qx qs q3 q4 : PosShare TreeShare)
    (X : S2048x1024.Idx → F .bf16) (s : S2048x1.Idx → BitVec 32) (W1 : S4x1024x2048.Idx → F .bf16) (W2 : S4x2048x1024.Idx → F .bf16)
    (g0 : S2x512x1024.Idx → F .bf16) {β : Type} (kk : Unit → Prog (TpuEff nD τ sig (Elt F) Λ₀ .tc) β) (Q : β → sProp 𝕄) :
    iprop(ptsOn (F := F) c mXrem (chunk 2).set qx X ∗ pts (F := F) c mArem qs s ∗ pts (F := F) c mW1 q3 W1 ∗ pts (F := F) c mW2 q4 W2 ∗ ptsOn (F := F) c mOrem (slotR 0).set fullShare g0)
    ⊢ iprop((ptsOn (F := F) c mXrem (chunk 2).set qx X -∗ pts (F := F) c mArem qs s -∗ pts (F := F) c mW1 q3 W1 -∗ pts (F := F) c mW2 q4 W2
        -∗ ptsOn (F := F) c mOrem (slotR 0).set fullShare (slotC 2 (EXP v10 X s W1 W2)) -∗ WP c (kk ⟨⟩) Q)
      -∗ WP c (Scf.Loop.for k2_t12_loop k2_t12_ok ⟨⟩ (k2_t12_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v10 0#32) >>= kk) Q) := by
  rw [t12_eq]
  exact wp_rLoop k2_t12_loop k2_off33 k2_off33_inb k2_off34 k2_off34_inb k2_off35 k2_off35_inb _ c k2_t12_ok (by decide) 2 0 v10
    (by decide) (by decide) (by decide) qx qs q3 q4 X s W1 W2 g0 kk Q

theorem t13_eq (d0 : Dev nD) (v2 v5 v9 : BitVec 32) (v10 : BitVec 32) :
    k2_t13_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v10
      = rTrip k2_t13_loop k2_off40 k2_off40_inb k2_off41 k2_off41_inb k2_off42 k2_off42_inb
          (fun t => View.stores_vmem h_S1x256x1024 (hOrem.storeExact_slice rfl _ (k2_off42_packedbf16 t)) (fun _ => rfl)) v10 := by
  funext t u
  unfold k2_t13_body rTrip
  rw [k2_part5_eq_skeleton]
  rfl

theorem wp_t13 (c : Dev nD) (d0 : Dev nD) (v2 v5 v9 : BitVec 32) (v10 : BitVec 32) (qx qs q3 q4 : PosShare TreeShare)
    (X : S2048x1024.Idx → F .bf16) (s : S2048x1.Idx → BitVec 32) (W1 : S4x1024x2048.Idx → F .bf16) (W2 : S4x2048x1024.Idx → F .bf16)
    (g0 : S2x512x1024.Idx → F .bf16) {β : Type} (kk : Unit → Prog (TpuEff nD τ sig (Elt F) Λ₀ .tc) β) (Q : β → sProp 𝕄) :
    iprop(ptsOn (F := F) c mXrem (chunk 3).set qx X ∗ pts (F := F) c mArem qs s ∗ pts (F := F) c mW1 q3 W1 ∗ pts (F := F) c mW2 q4 W2 ∗ ptsOn (F := F) c mOrem (slotR 1).set fullShare g0)
    ⊢ iprop((ptsOn (F := F) c mXrem (chunk 3).set qx X -∗ pts (F := F) c mArem qs s -∗ pts (F := F) c mW1 q3 W1 -∗ pts (F := F) c mW2 q4 W2
        -∗ ptsOn (F := F) c mOrem (slotR 1).set fullShare (slotC 3 (EXP v10 X s W1 W2)) -∗ WP c (kk ⟨⟩) Q)
      -∗ WP c (Scf.Loop.for k2_t13_loop k2_t13_ok ⟨⟩ (k2_t13_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 d0 v2 v5 v9 v10) >>= kk) Q) := by
  rw [t13_eq]
  exact wp_rLoop k2_t13_loop k2_off40 k2_off40_inb k2_off41 k2_off41_inb k2_off42 k2_off42_inb _ c k2_t13_ok (by decide) 3 1 v10
    (by decide) (by decide) (by decide) qx qs q3 q4 X s W1 W2 g0 kk Q

end Cert.KernelIdeal.P
-- ==== Proof.Protocol.lean ====
module

public import proofs.«01_k».proof.Proof.Remote

@[expose] public section

set_option maxRecDepth 65536

noncomputable section

/-! The protocol. Each device talks to one other device only, its partner: the one whose last mesh coordinate is the
    other. Of the nineteen counters a device uses, number 18 is the barrier's; 0 and 1 are the departure and the arrival of
    the expert numbers; 2–5 and 6–9 those of the four chunks of sorted rows; 10–13 and 14–17 those of the four chunks of
    results that go back. Every counter is raised once, by a landing or by the barrier's signal, and waited for once. -/

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Partners, cells, amounts -/

/-- The partner. -/
def pr (c : Dev nD) : Dev nD := ⟨c.val + 1 - 2 * (c.val % 2), by have : c.val < 8 := c.isLt; show _ < 8; omega⟩
theorem pr_pr (c : Dev nD) : pr (pr c) = c := by revert c; decide
def swap : Dev nD ≃ Dev nD := ⟨pr, pr, pr_pr, pr_pr⟩

/-- The counter of number i. -/
def semOf (i : Fin 19) : SemLoc sig := if h : i.val < 18 then .dma ⟨14 + i.val, by show _ < 32; omega⟩ else .reg barrier0
/-- The number of a counter, if it is one of the protocol's. -/
def idx : SemLoc sig → Option (Fin 19)
  | .dma s => if h : 14 ≤ s.val then some ⟨s.val - 14, by have : s.val < 32 := s.isLt; omega⟩ else none
  | .reg s => if s = barrier0 then some 18 else none
theorem idx_semOf (i : Fin 19) : idx (semOf i) = some i := by revert i; decide
theorem semOf_inj : Function.Injective semOf := fun i j h => by
  have := congrArg idx h
  rw [idx_semOf, idx_semOf] at this
  exact Option.some.inj this

abbrev cell (c : Dev nD) (i : Fin 19) : GSem nD τ sig := ((c : Thread nD τ), semOf i)

/-- What one landing adds. -/
def amt (i : Fin 19) : ℕ :=
  if i.val < 2 then mArem.view.dmaCredit else if i.val < 18 then (mXrem.slice (chunk 0) (fun _ => rfl)).view.dmaCredit else 1
theorem amt_pos (i : Fin 19) : 0 < amt i := by
  unfold amt
  split
  · exact View.dmaCredit_pos _ (by decide)
  · split
    · exact View.dmaCredit_pos _ (by decide)
    · exact Nat.one_pos

/-! ## What the landings carry -/

/-- What each device sends: its sorted rows, their expert numbers, its results for the partner. -/
structure Vals (F : FTy → Type) [FloatOps F] where
  xs : Dev nD → S2048x1024.Idx → F .bf16
  sa : Dev nD → S2048x1.Idx → BitVec 32
  re : Dev nD → S2048x1024.Idx → F .bf16

/-- Round 0 of every one of a device's counters is open. -/
def opens (c : Dev nD) : sProp 𝕄 := bigSep Finset.univ fun i : Fin 19 => reached ER (cell c i) 0

instance opens_persistent (c : Dev nD) : BI.Persistent (opens (F := F) c) := by unfold opens; infer_instance

/-- With the barrier's signal the partner lends its three landing buffers. -/
def barPay (c : Dev nD) : sProp 𝕄 :=
  iprop((∃ f, pts (F := F) (pr c) mArem fullShare f) ∗ (∃ f, ptsOn (F := F) (pr c) mXrem Finset.univ fullShare f)
    ∗ (∃ f, ptsOn (F := F) (pr c) mOrecv Finset.univ fullShare f) ∗ opens (pr c))

/-- What comes with landing number i on device c. -/
def pay (v : Vals F) (c : Dev nD) (i : Fin 19) : sProp 𝕄 :=
  match i.val with
  | 0 => pts (F := F) c mSa fullShare.left (v.sa c)
  | 1 => pts (F := F) c mArem fullShare (v.sa (pr c))
  | 2 => ptsOn (F := F) c mXs (chunk 0).set fullShare.left (v.xs c)
  | 3 => ptsOn (F := F) c mXs (chunk 1).set fullShare.left (v.xs c)
  | 4 => ptsOn (F := F) c mXs (chunk 2).set fullShare.left (v.xs c)
  | 5 => ptsOn (F := F) c mXs (chunk 3).set fullShare.left (v.xs c)
  | 6 => ptsOn (F := F) c mXrem (chunk 0).set fullShare (v.xs (pr c))
  | 7 => ptsOn (F := F) c mXrem (chunk 1).set fullShare (v.xs (pr c))
  | 8 => ptsOn (F := F) c mXrem (chunk 2).set fullShare (v.xs (pr c))
  | 9 => ptsOn (F := F) c mXrem (chunk 3).set fullShare (v.xs (pr c))
  | 10 => ptsOn (F := F) c mOrem (slotR 0).set fullShare (slotC 0 (v.re c))
  | 11 => ptsOn (F := F) c mOrem (slotR 1).set fullShare (slotC 1 (v.re c))
  | 12 => ptsOn (F := F) c mOrem (slotR 0).set fullShare (slotC 2 (v.re c))
  | 13 => ptsOn (F := F) c mOrem (slotR 1).set fullShare (slotC 3 (v.re c))
  | 14 => ptsOn (F := F) c mOrecv (chunk 0).set fullShare (v.re (pr c))
  | 15 => ptsOn (F := F) c mOrecv (chunk 1).set fullShare (v.re (pr c))
  | 16 => ptsOn (F := F) c mOrecv (chunk 2).set fullShare (v.re (pr c))
  | 17 => ptsOn (F := F) c mOrecv (chunk 3).set fullShare (v.re (pr c))
  | _ => barPay c

/-! ## The schedule: one round, one landing, on each of the nineteen -/

def Rd (v : Vals F) : Rounds.Schedule (GSem nD τ sig) Unit 𝕄 where
  duties g r := if r = 0 ∧ g.1.2 = .tc ∧ (idx g.2).isSome = true then {()} else ∅
  unitless _ := False
  amount g _ _ := (idx g.2).elim 1 amt
  payload g _ _ := (idx g.2).elim iprop(emp) (pay v g.1.1)
  amount_pos g _ _ _ := by
    cases h : idx g.2 with
    | none => exact Nat.one_pos
    | some i => exact amt_pos i

set_option synthInstance.maxHeartbeats 400000 in
instance opens_storable (c : Dev nD) : BI.Storable (upEmb : UEmb _ 𝕄) (opens (F := F) c) := by unfold opens; infer_instance
set_option synthInstance.maxHeartbeats 400000 in
instance barPay_storable (c : Dev nD) : BI.Storable (upEmb : UEmb _ 𝕄) (barPay (F := F) c) := by unfold barPay; infer_instance

instance Rd_payload_storable (v : Vals F) (g : GSem nD τ sig) (r : ℕ) (d : Unit) :
    BI.Storable (upEmb : UEmb _ 𝕄) ((Rd v).payload g r d) := by
  show BI.Storable upEmb ((idx g.2).elim iprop(emp) (pay v g.1.1))
  cases idx g.2 with
  | none => show BI.Storable upEmb iprop(emp); infer_instance
  | some i =>
    show BI.Storable upEmb (pay v g.1.1 i)
    unfold pay
    split <;> infer_instance

theorem duties_cell (v : Vals F) (c : Dev nD) (i : Fin 19) : (Rd v).duties (cell c i) 0 = {()} := by
  show (if _ then _ else _) = _
  exact if_pos ⟨rfl, rfl, by rw [idx_semOf]; rfl⟩
theorem mem_duties (v : Vals F) (c : Dev nD) (i : Fin 19) : () ∈ (Rd v).duties (cell c i) 0 := by
  rw [duties_cell]; exact Finset.mem_singleton_self _
theorem duties_later (v : Vals F) (g : GSem nD τ sig) : ∀ r, 1 ≤ r → (Rd v).duties g r = ∅ := fun r hr => by
  show (if _ then _ else _) = _
  exact if_neg (fun h => by have := h.1; omega)
theorem amount_cell (v : Vals F) (c : Dev nD) (i : Fin 19) (u : Unit) : (Rd v).amount (cell c i) 0 u = amt i := by
  show (idx (semOf i)).elim 1 amt = _
  rw [idx_semOf]; rfl
theorem payload_cell (v : Vals F) (c : Dev nD) (i : Fin 19) (u : Unit) : (Rd v).payload (cell c i) 0 u = pay v c i := by
  show (idx (semOf i)).elim iprop(emp) (pay v c) = _
  rw [idx_semOf]; rfl
theorem expect_cell (v : Vals F) (c : Dev nD) (i : Fin 19) : (Rd v).expect (cell c i) 0 = amt i := by
  unfold Schedule.expect Schedule.amountOf; rw [duties_cell, Finset.sum_singleton, amount_cell]
theorem rest_cell (v : Vals F) (c : Dev nD) (i : Fin 19) :
    bigSep ((Rd v).duties (cell c i) 0 \ ∅) (fun u => (Rd v).payload (cell c i) 0 u) = pay v c i := by
  rw [Finset.sdiff_empty, duties_cell, bigSep_singleton, payload_cell]

/-! ## Levels, and what a device owes -/

/-- The barrier first, then what is sent to the partner, then what comes back; a device's own departures before all. -/
def lvI (i : Fin 19) : ℕ :=
  match i.val with
  | 18 => 1
  | 1 | 6 | 7 | 8 | 9 => 2
  | 14 | 15 | 16 | 17 => 3
  | _ => 0

def L (g : GSem nD τ sig) : Finset Unit := if g.1.2 = .tc then {()} else ∅
def lv (g : GSem nD τ sig) (_ : Unit) : ℕ := (idx g.2).elim 0 lvI

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : Fin 19) (u : Unit) : lv (cell c i) u = lvI i := by
  show (idx (semOf i)).elim 0 lvI = _
  rw [idx_semOf]; rfl

/-- One landing each on the listed counters of device c. -/
def Ow (c : Dev nD) : List (Fin 19) → CellTallies nD τ sig Unit
  | [] => 0
  | i :: l => Ow c l + tallyAt (cell c i) () (amt i)

theorem Ow_pos {c : Dev nD} {l : List (Fin 19)} {g : GSem nD τ sig} {u : Unit} (h : 0 < Ow c l g u) : ∃ i ∈ l, g = cell c i := by
  induction l with
  | nil => exact absurd h (Nat.lt_irrefl 0)
  | cons i l ih =>
    unfold Ow at h
    rw [Pi.add_apply, Finsupp.add_apply] at h
    rcases Nat.add_pos_iff_pos_or_pos.mp h with h | h
    · obtain ⟨j, hj, e⟩ := ih h
      exact ⟨j, List.mem_cons_of_mem _ hj, e⟩
    · rw [tallyAt_apply] at h
      split at h
      · next hg => exact ⟨i, List.mem_cons_self, hg.1⟩
      · exact absurd h (Nat.lt_irrefl 0)

theorem mayWait (c : Dev nD) (i : Fin 19) (l : List (Fin 19)) (h : ∀ j ∈ l, lvI i < lvI j) :
    (levAts L lv : sProp 𝕄) ⊢ MayWait (c : Thread nD τ) (semOf i) () (Ow (pr c) l) :=
  MayOwe.of_cut (L := L) (lev := lv) (lvI i)
    (fun p hp => by rw [Finset.mem_singleton.mp hp, L_tc]; exact Finset.mem_singleton_self _)
    (fun g u hg => by
      obtain ⟨j, -, rfl⟩ := Ow_pos hg
      rw [L_tc]; exact Finset.mem_singleton_self _)
    (fun p hp => by rw [Finset.mem_singleton.mp hp]; exact le_of_eq (lv_cell c i ()))
    (fun g u hg => by
      obtain ⟨j, hj, rfl⟩ := Ow_pos hg
      rw [lv_cell]; exact h j hj)

/-! ## What a device holds of the protocol -/

/-- What stays true throughout: the counters' invariants, its own and its partner's; its own rounds are open, and the partner's
    barrier's; the levels. -/
def recs (v : Vals F) (K : GSem nD τ sig → ℕ) (c : Dev nD) : sProp 𝕄 :=
  iprop((bigSep Finset.univ fun i : Fin 19 => cellInv ER (Rd v) (K (cell c i)) (cell c i))
    ∗ (bigSep Finset.univ fun i : Fin 19 => cellInv ER (Rd v) (K (cell (pr c) i)) (cell (pr c) i))
    ∗ opens c ∗ reached ER (cell (pr c) 18) 0 ∗ levAts L lv)

instance recs_persistent (v : Vals F) (K : GSem nD τ sig → ℕ) (c : Dev nD) : BI.Persistent (recs v K c) := by unfold recs; infer_instance

/-- Before and after the one round of a counter; the right to raise it; the right to wait for it; what is owed. -/
def At0 (c : Dev nD) (i : Fin 19) : sProp 𝕄 := atPos ER (cell c i) 0 ∅ 0
def At1 (c : Dev nD) (i : Fin 19) : sProp 𝕄 := atPos ER (cell c i) 1 ∅ 0
def Tok (c : Dev nD) (i : Fin 19) : sProp 𝕄 := dutyTok ER (cell c i) 0 ()
def Cr (c : Dev nD) (i : Fin 19) : sProp 𝕄 := cred (tallyAt (cell c i) () (amt i))
def OW (c : Dev nD) (l : List (Fin 19)) : sProp 𝕄 := iprop(∃ W, owes (c : Thread nD τ) (Ow (pr c) l) W)

theorem inv_own (v : Vals F) (K : GSem nD τ sig → ℕ) (c : Dev nD) (i : Fin 19) : recs v K c ⊢ cellInv ER (Rd v) (K (cell c i)) (cell c i) := by
  unfold recs
  have h : (bigSep Finset.univ fun i : Fin 19 => (cellInv ER (Rd v) (K (cell c i)) (cell c i) : sProp 𝕄)) ⊢ cellInv ER (Rd v) (K (cell c i)) (cell c i) :=
    bigSep_elim (Finset.mem_univ i)
  iintro ⟨H, -⟩
  iapply h $$ H
theorem inv_peer (v : Vals F) (K : GSem nD τ sig → ℕ) (c : Dev nD) (i : Fin 19) : recs v K c ⊢ cellInv ER (Rd v) (K (cell (pr c) i)) (cell (pr c) i) := by
  unfold recs
  have h : (bigSep Finset.univ fun i : Fin 19 => (cellInv ER (Rd v) (K (cell (pr c) i)) (cell (pr c) i) : sProp 𝕄)) ⊢ cellInv ER (Rd v) (K (cell (pr c) i)) (cell (pr c) i) :=
    bigSep_elim (Finset.mem_univ i)
  iintro ⟨-, H, -⟩
  iapply h $$ H
theorem opens_at (c : Dev nD) (i : Fin 19) : opens (F := F) c ⊢ reached ER (cell c i) 0 := by
  unfold opens
  exact bigSep_elim (s := Finset.univ) (Φ := fun i : Fin 19 => reached ER (cell c i) 0) (Finset.mem_univ i)
theorem recs_opens (v : Vals F) (K : GSem nD τ sig → ℕ) (c : Dev nD) : recs v K c ⊢ opens c := by
  unfold recs; iintro ⟨-, -, H, -⟩; iexact H
theorem recs_bar (v : Vals F) (K : GSem nD τ sig → ℕ) (c : Dev nD) : recs v K c ⊢ reached ER (cell (pr c) 18) 0 := by
  unfold recs; iintro ⟨-, -, -, H, -⟩; iexact H
theorem recs_lev (v : Vals F) (K : GSem nD τ sig → ℕ) (c : Dev nD) : recs v K c ⊢ levAts L lv := by
  unfold recs; iintro ⟨-, -, -, -, H⟩; iexact H

/-! ## The protocol's steps -/

section Steps

variable (v : Vals F) (K : GSem nD τ sig → ℕ) (c : Dev nD) {β : Type}

/-- A wait for counter i, while landings of higher levels are owed: what was sent comes with it. -/
theorem wp_waitI (i : Fin 19) (l : List (Fin 19)) (hl : ∀ j ∈ l, lvI i < lvI j) {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (semOf i) (amt i) X)
    (k : PUnit → Prog (TpuEff nD τ sig (Elt F) Λ₀ .tc) β) (Q : β → sProp 𝕄) :
    iprop(recs v K c ∗ Cr c i ∗ OW c l ∗ At0 c i)
    ⊢ iprop((OW c l -∗ At1 c i -∗ pay v c i -∗ WP c (k ⟨⟩) Q) -∗ WP c (.op w k) Q) := by
  unfold Cr OW At0 At1
  iintro ⟨#HR, Hc, ⟨%W, HO⟩, Hat⟩ Hk
  iapply (Rounds.wp_wait_rest_token 𝒱₀ ER (Rd v) (c : Thread nD τ) none (κ := K (cell c i)) hw (Set.mem_univ _) () (O := Ow (pr c) l) (W := W)
    (R := 0) (m := 0) (T := ∅) ((Nat.zero_add _).trans (expect_cell v c i).symm)) $$ [Hc HO Hat]
  · isplitr; · iapply (inv_own v K c i); iexact HR
    isplitl [Hc]; · iexact Hc
    isplitl [HO]; · iexact HO
    isplitr; · iapply (mayWait c i l hl); iapply (recs_lev v K c); iexact HR
    iexact Hat
  iintro ⟨HO, Hat, -, Hpay⟩
  ihave Hp := (Entails.of_eq (rest_cell v c i)) $$ Hpay
  iapply Hk $$ [HO] [Hat] [Hp]
  · iexists _; iexact HO
  · iexact Hat
  · iexact Hp

/-- The wait of a transfer's counter. -/
theorem wp_waitDma (i : Fin 19) (l : List (Fin 19)) (hl : ∀ j ∈ l, lvI i < lvI j) {sp sp' : CoreSpace} {s : Shape} {e : EltTy}
    {sm : DmaSem sig} {src : Memref sig .tc sp s e} {dst : Memref sig .tc sp' s e} {h₁ : src.view.WordExact} {h₂ : dst.view.WordExact}
    (hs : semOf i = .dma sm) (ha : dst.view.dmaCredit = amt i)
    (k : PUnit → Prog (TpuEff nD τ sig (Elt F) Λ₀ .tc) β) (Q : β → sProp 𝕄) :
    iprop(recs v K c ∗ Cr c i ∗ OW c l ∗ At0 c i)
    ⊢ iprop((OW c l -∗ At1 c i -∗ pay v c i -∗ WP c (k ⟨⟩) Q) -∗ WP c (Prog.lift (.waitDma2 sm src dst h₁ h₂) >>= k) Q) :=
  wp_waitI v K c i l hl (w := .waitDma2 sm src dst h₁ h₂)
    (fun X => by rw [hs, ← ha]; exact wpE_waitDma2_eq 𝒱₀ (c : Thread nD τ) none Set.univ X) k Q

/-- A copy to the partner: i counts its departure, j its arrival. -/
theorem wp_sendI (i j : Fin 19) (l : List (Fin 19)) {s : Shape} {e : EltTy} {sp sp' : CoreSpace} {c' : Dev nD}
    {src : Memref sig .tc sp s e} {dst : Memref sig .tc sp' s e} {hsc : dst.view.ref.isScScratch = false} {sS sT : SemLoc sig}
    {h₁ : src.view.WordExact} {h₂ : dst.view.WordExact} {h₃ : DmaTarget.Typed sp sT (.remote (c' : Thread nD τ) dst sS hsc)}
    (hc : c' = pr c) (hi : semOf i = sS) (hj : semOf j = sT) (hN : dst.view.amount sT = amt j) (hij : amt i = amt j)
    (q : PosShare TreeShare) (fs : Buf (Elt F) (src.view.loc (c : Thread nD τ))) (fd : Buf (Elt F) (dst.view.loc ((pr c : Dev nD) : Thread nD τ)))
    (hpay₁ : (src.view.loc (c : Thread nD τ) ↦[src.view.set]{q} fs : sProp 𝕄) ⊢ pay v c i)
    (hpay₂ : (dst.view.loc ((pr c : Dev nD) : Thread nD τ) ↦[dst.view.set]{fullShare} (dst.view.write (Elt F) fd (src.view.read (Elt F) fs) Finset.univ) : sProp 𝕄)
      ⊢ pay v (pr c) j)
    (k : PUnit → Prog (TpuEff nD τ sig (Elt F) Λ₀ .tc) β) (Q : β → sProp 𝕄) :
    iprop(recs v K c ∗ opens (pr c) ∗ Tok c i ∗ Tok (pr c) j ∗ pts c src q fs ∗ pts (pr c) dst fullShare fd ∗ OW c (j :: l))
    ⊢ iprop((Cr c i -∗ OW c l -∗ WP c (k ⟨⟩) Q)
      -∗ WP c (Prog.lift (.enqueueDma src (.remote (c' : Thread nD τ) dst sS hsc) sT h₁ h₂ h₃) >>= k) Q) := by
  subst hc hi hj
  unfold Cr OW Tok
  iintro ⟨#HR, #HP, Ht, Ht', Hs, Hd, ⟨%W, HO⟩⟩ Hk
  iapply (Rounds.wp_send_pointsTo 𝒱₀ ER (Rd v) (c : Thread nD τ) none (c' := ((pr c : Dev nD) : Thread nD τ)) (src := src) (dst := dst)
      (sS := semOf i) (sem := semOf j) (q := q) (fs := fs) (fd := fd) (κ₁ := K (cell c i)) (κ₂ := K (cell (pr c) j))
      (r₁ := 0) (r₂ := 0) (d₁ := ()) (d₂ := ()) (mem_duties v c i) (mem_duties v (pr c) j)
      () () (amt j) hN ((amount_cell v c i ()).trans hij) (amount_cell v (pr c) j ()) (Ow (pr c) l) rfl (W := W)
      (by rw [payload_cell]; exact hpay₁) (by rw [payload_cell]; exact hpay₂)) $$ [Ht Ht' Hs Hd HO]
  · isplitr; · iapply (inv_own v K c i); iexact HR
    isplitr; · iapply (inv_peer v K c j); iexact HR
    isplitl [Hs]; · iexact Hs
    isplitl [Hd]; · iexact Hd
    isplitl [HO]; · iexact HO
    isplitl [Ht]; · iexact Ht
    isplitr; · iapply (opens_at c i); iapply (recs_opens v K c); iexact HR
    isplitl [Ht']; · iexact Ht'
    iapply (opens_at (pr c) j); iexact HP
  iintro ⟨HC, HO⟩
  iapply Hk $$ [HC] [HO]
  · rw [hij]; iexact HC
  · iexists _; iexact HO

/-- The barrier's signal: the landing buffers are lent to the partner. -/
theorem wp_signalI (l : List (Fin 19)) {c' : Dev nD} (hc : c' = pr c) (k : PUnit → Prog (TpuEff nD τ sig (Elt F) Λ₀ .tc) β) (Q : β → sProp 𝕄) :
    iprop(recs v K c ∗ Tok (pr c) 18 ∗ (∃ f, pts (F := F) c mArem fullShare f) ∗ (∃ f, ptsOn (F := F) c mXrem Finset.univ fullShare f)
      ∗ (∃ f, ptsOn (F := F) c mOrecv Finset.univ fullShare f) ∗ OW c (18 :: l))
    ⊢ iprop((OW c l -∗ WP c (k ⟨⟩) Q) -∗ WP c (semSignalWord c' (SemArray.scalar (sig.barrier 0 rfl) : Sems sig S_).sem 1#32 >>= k) Q) := by
  subst hc
  unfold OW Tok
  iintro ⟨#HR, Ht, H1, H2, H3, ⟨%W, HO⟩⟩ Hk
  iapply (Rounds.wp_signal 𝒱₀ ER (Rd v) (c : Thread nD τ) none (dst := ((pr c : Dev nD) : Thread nD τ)) (sem := barrier0) (r := 0) (d := ())
      (κ := K (cell (pr c) 18)) (k' := 1) (mem_duties v (pr c) 18) (amount_cell v (pr c) 18 ()) () (Ow (pr c) l) rfl)
    $$ [HO Ht H1 H2 H3]
  · isplitr; · iapply (inv_peer v K c 18); iexact HR
    isplitl [HO]; · iexact HO
    isplitl [Ht]; · iexact Ht
    isplitl [H1 H2 H3]
    · iapply (Entails.of_eq (show barPay (F := F) (pr c) = (Rd v).payload (((pr c : Dev nD) : Thread nD τ), SemLoc.reg barrier0) 0 ()
        from (payload_cell v (pr c) 18 ()).symm))
      unfold barPay
      rw [pr_pr]
      isplitl [H1]; · iexact H1
      isplitl [H2]; · iexact H2
      isplitl [H3]; · iexact H3
      iapply (recs_opens v K c); iexact HR
    · iapply (recs_bar v K c); iexact HR
  iintro HO
  iapply Hk
  iexists _; iexact HO

/-- The wait for the partner's signal. -/
theorem wp_barWait (l : List (Fin 19)) (hl : ∀ j ∈ l, lvI 18 < lvI j) (k : PUnit → Prog (TpuEff nD τ sig (Elt F) Λ₀ .tc) β) (Q : β → sProp 𝕄) :
    iprop(recs v K c ∗ Cr c 18 ∗ OW c l ∗ At0 c 18)
    ⊢ iprop((OW c l -∗ At1 c 18 -∗ barPay c -∗ WP c (k ⟨⟩) Q) -∗ WP c (semWaitWord (SemArray.scalar (sig.barrier 0 rfl) : Sems sig S_).sem 1#32 >>= k) Q) :=
  wp_waitI v K c 18 l hl (w := .semWait barrier0 1)
    (fun X => wpE_semWait_eq 𝒱₀ (c : Thread nD τ) none Set.univ X) k Q

/-- A counter whose round is over goes back at zero. -/
theorem closeI (i : Fin 19) : iprop(recs v K c ∗ At1 c i) ⊢ (|={Set.univ}=> semVal (cell c i) 0 : sProp 𝕄) := by
  unfold At1
  iintro ⟨#HR, Hat⟩
  iapply (Rounds.cell_close ER (Rd v) (g := cell c i) (κ := K (cell c i)) (Set.mem_univ _) id (R := 1) (duties_later v _))
  isplitr; · iapply (inv_own v K c i); iexact HR
  iexact Hat

end Steps

end Cert.KernelIdeal.P
-- ==== Proof.Moves.lean ====
module

public import proofs.«01_k».proof.Proof.Protocol
public import Idealize.ShloMosaic.Lib.ValueLayout

@[expose] public section

set_option maxRecDepth 65536

noncomputable section

/-! The kernel's remote copies: what each lands. -/

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- A chunk of the sorted rows, of the partner's sorted rows, of the results received. -/
abbrev xsC (k : Fin 4) : Memref sig .tc .vmem S512x1024 .bf16 := mXs.slice (chunk k) (fun _ => rfl)
abbrev xremC (k : Fin 4) : Memref sig .tc .vmem S512x1024 .bf16 := mXrem.slice (chunk k) (fun _ => rfl)
abbrev orecvC (k : Fin 4) : Memref sig .tc .vmem S512x1024 .bf16 := mOrecv.slice (chunk k) (fun _ => rfl)
/-- A slot of the results on their way. -/
abbrev oremS (σ : Fin 2) : Memref sig .tc .vmem S512x1024 .bf16 :=
  (mOrem.slice (slotR σ) (fun _ => rfl) : Memref sig .tc .vmem S1x512x1024 .bf16).squeeze S512x1024 squeezes_S1x512x1024_S512x1024

theorem xsC_set (k : Fin 4) : (xsC k).view.set = (chunk k).set := View.set_slice_whole _ _
theorem xremC_set (k : Fin 4) : (xremC k).view.set = (chunk k).set := View.set_slice_whole _ _
theorem orecvC_set (k : Fin 4) : (orecvC k).view.set = (chunk k).set := View.set_slice_whole _ _
theorem oremS_set (σ : Fin 2) : (oremS σ).view.set = (slotR σ).set :=
  (View.set_reshape _ _).trans (View.set_slice_whole _ _)

theorem lands (A B : Memref sig .tc .vmem S2048x1024 .bf16) (k : Fin 4) (fd : B.view.ty.Contents (Elt F)) (fs : A.view.ty.Contents (Elt F))
    (y : S2048x1024.Idx) (hy : y ∈ (chunk k).set) :
    B.view.read (Elt F) ((B.view.slice (chunk k)).write (Elt F) fd ((A.view.slice (chunk k)).read (Elt F) fs) Finset.univ) y
      = A.view.read (Elt F) fs y := by
  rw [← Rect.map_emb_univ] at hy
  obtain ⟨x, -, rfl⟩ := Finset.mem_map.mp hy
  exact View.read_slice_write_emb (v := B.view) (chunk k) fd ((A.view.slice (chunk k)).read (Elt F) fs) (Finset.mem_univ x)

theorem slot_emb (k : Fin 4) (σ : Fin 2) (x : (chunk k).shape.Idx) {α : Type} (G : S2048x1024.Idx → α) :
    slotC k G ((slotR σ).emb (Shape.reshapeEquiv squeezes_S1x512x1024_S512x1024.numel_eq x)) = G ((chunk k).emb x) := by
  have hx : x = ValueIdx.ix2 (x 0 : Fin 512) (x 1 : Fin 1024) := by
    funext a
    match a with
    | ⟨0, _⟩ => rfl
    | ⟨1, _⟩ => rfl
  have e : Shape.reshapeEquiv squeezes_S1x512x1024_S512x1024.numel_eq x = ValueIdx.ix3 (⟨0, Nat.one_pos⟩ : Fin 1) (x 0 : Fin 512) (x 1 : Fin 1024) := by
    conv_lhs => rw [hx]
    exact ValueIdx.reshapeEquiv_ix2_1ab _ _ _
  rw [e]
  unfold slotC
  congr 1
  funext a
  apply Fin.ext
  match a with
  | ⟨0, _⟩ => show 512 * k.val + (0 + 1 * (x 0).val) = 512 * k.val + 1 * (x 0).val; omega
  | ⟨1, _⟩ => show 0 + 1 * (x 1).val = 0 + 1 * (x 1).val; rfl

theorem landsR (A : Memref sig .tc .vmem S2x512x1024 .bf16) (B : Memref sig .tc .vmem S2048x1024 .bf16) (k : Fin 4) (σ : Fin 2)
    (fd : B.view.ty.Contents (Elt F)) (fs : A.view.ty.Contents (Elt F)) (G : S2048x1024.Idx → F .bf16)
    (hG : ∀ y, A.view.read (Elt F) fs y = slotC k G y)
    (y : S2048x1024.Idx) (hy : y ∈ (chunk k).set) :
    B.view.read (Elt F) ((B.view.slice (chunk k)).write (Elt F) fd
      (((A.view.slice (slotR σ)).reshape S512x1024 squeezes_S1x512x1024_S512x1024.numel_eq).read (Elt F) fs) Finset.univ) y
      = G y := by
  rw [← Rect.map_emb_univ] at hy
  obtain ⟨x, -, rfl⟩ := Finset.mem_map.mp hy
  refine (View.read_slice_write_emb (v := B.view) (chunk k) fd _ (Finset.mem_univ x)).trans ?_
  exact (hG _).trans (slot_emb k σ x G)

/-- A chunk of sorted rows lands as it left. -/
theorem x_lands (k : Fin 4) (fd fs : S2048x1024.Idx → F .bf16) (y : S2048x1024.Idx) (hy : y ∈ (chunk k).set) :
    (xremC k).view.write (Elt F) fd ((xsC k).view.read (Elt F) fs) Finset.univ y = fs y := by
  have h := lands (F := F) mXs mXrem k fd fs y hy
  rw [View.read_whole] at h
  exact h

/-- A chunk of results lands as it left. -/
theorem r_lands (k : Fin 4) (σ : Fin 2) (fd G : S2048x1024.Idx → F .bf16) (y : S2048x1024.Idx) (hy : y ∈ (chunk k).set) :
    (orecvC k).view.write (Elt F) fd ((oremS σ).view.read (Elt F) (slotC k G)) Finset.univ y = G y := by
  have h := landsR (F := F) mOrem mOrecv k σ fd (slotC k G) G (fun y => by rw [View.read_whole]) y hy
  rw [View.read_whole] at h
  exact h

/-- A share in halves. -/
theorem halve (c : Dev nD) {sp : CoreSpace} {s : Shape} {e : EltTy} (m : Memref sig .tc sp s e) (S : Finset (Idx (m.view.loc (c : Thread nD τ))))
    (f : Buf (Elt F) (m.view.loc (c : Thread nD τ))) :
    (ptsOn c m S fullShare f : sProp 𝕄) ⊣⊢ iprop(ptsOn c m S fullShare.left f ∗ ptsOn c m S fullShare.right f) :=
  pointsTo_share (PosShare.mem_left_op_right _)

section Moves

variable (v : Vals F) (K : GSem nD τ sig → ℕ) (c : Dev nD) {β : Type}

/-- The copy of the expert numbers to the partner. -/
theorem wp_sendMeta (l : List (Fin 19)) {c' : Dev nD} {hsc : mArem.view.ref.isScScratch = false} {sS sT : SemLoc sig}
    {h₁ : mSa.view.WordExact} {h₂ : mArem.view.WordExact} {h₃ : DmaTarget.Typed .vmem sT (.remote (c' : Thread nD τ) mArem sS hsc)}
    (hc : c' = pr c) (hi : semOf 0 = sS) (hj : semOf 1 = sT) (fd : S2048x1.Idx → BitVec 32)
    (k : PUnit → Prog (TpuEff nD τ sig (Elt F) Λ₀ .tc) β) (Q : β → sProp 𝕄) :
    iprop(recs v K c ∗ opens (pr c) ∗ Tok c 0 ∗ Tok (pr c) 1 ∗ pts (F := F) c mSa fullShare.left (v.sa c)
      ∗ pts (F := F) (pr c) mArem fullShare fd ∗ OW c (1 :: l))
    ⊢ iprop((Cr c 0 -∗ OW c l -∗ WP c (k ⟨⟩) Q)
      -∗ WP c (Prog.lift (.enqueueDma mSa (.remote (c' : Thread nD τ) mArem sS hsc) sT h₁ h₂ h₃) >>= k) Q) := by
  have h := wp_sendI v K c 0 1 l (src := mSa) (dst := mArem) (hsc := hsc) (h₁ := h₁) (h₂ := h₂) (h₃ := h₃) hc hi hj (by subst hj; rfl) rfl
    fullShare.left (v.sa c) fd
    (Entails.of_eq rfl)
    (Entails.of_eq (by
      show _ = (pts (F := F) (pr c) mArem fullShare (v.sa (pr (pr c))) : sProp 𝕄)
      rw [pr_pr]
      congr 1
      exact View.write_whole_univ _ _ _)) k Q
  exact h

/-- The copy of a chunk of sorted rows to the partner. -/
theorem wp_sendX (κ : Fin 4) (i j : Fin 19) (l : List (Fin 19)) {c' : Dev nD} {hsc : (xremC κ).view.ref.isScScratch = false} {sS sT : SemLoc sig}
    {h₁ : (xsC κ).view.WordExact} {h₂ : (xremC κ).view.WordExact} {h₃ : DmaTarget.Typed .vmem sT (.remote (c' : Thread nD τ) (xremC κ) sS hsc)}
    (hc : c' = pr c) (hi : semOf i = sS) (hj : semOf j = sT) (hN : (xremC κ).view.amount sT = amt j) (hij : amt i = amt j)
    (hp : pay v c i = ptsOn (F := F) c mXs (chunk κ).set fullShare.left (v.xs c))
    (hp' : pay v (pr c) j = ptsOn (F := F) (pr c) mXrem (chunk κ).set fullShare (v.xs (pr (pr c)))) (fd : S2048x1024.Idx → F .bf16)
    (k : PUnit → Prog (TpuEff nD τ sig (Elt F) Λ₀ .tc) β) (Q : β → sProp 𝕄) :
    iprop(recs v K c ∗ opens (pr c) ∗ Tok c i ∗ Tok (pr c) j ∗ ptsOn (F := F) c mXs (chunk κ).set fullShare.left (v.xs c)
      ∗ ptsOn (F := F) (pr c) mXrem (chunk κ).set fullShare fd ∗ OW c (j :: l))
    ⊢ iprop((Cr c i -∗ OW c l -∗ WP c (k ⟨⟩) Q)
      -∗ WP c (Prog.lift (.enqueueDma (xsC κ) (.remote (c' : Thread nD τ) (xremC κ) sS hsc) sT h₁ h₂ h₃) >>= k) Q) := by
  have h := wp_sendI v K c i j l (src := xsC κ) (dst := xremC κ) (hsc := hsc) (h₁ := h₁) (h₂ := h₂) (h₃ := h₃) hc hi hj hN hij
    fullShare.left (v.xs c) fd
    (Entails.of_eq (by rw [hp, xsC_set]))
    (Entails.of_eq (by
      rw [hp', xremC_set, pr_pr]
      exact pointsTo_congr (x_lands κ fd (v.xs c)))) k Q
  unfold pts at h
  rw [xsC_set, xremC_set] at h
  exact h

/-- The copy of a chunk of results to the partner. -/
theorem wp_sendR (κ : Fin 4) (σ : Fin 2) (i j : Fin 19) (l : List (Fin 19)) {c' : Dev nD} {hsc : (orecvC κ).view.ref.isScScratch = false} {sS sT : SemLoc sig}
    {h₁ : (oremS σ).view.WordExact} {h₂ : (orecvC κ).view.WordExact} {h₃ : DmaTarget.Typed .vmem sT (.remote (c' : Thread nD τ) (orecvC κ) sS hsc)}
    (hc : c' = pr c) (hi : semOf i = sS) (hj : semOf j = sT) (hN : (orecvC κ).view.amount sT = amt j) (hij : amt i = amt j)
    (hp : pay v c i = ptsOn (F := F) c mOrem (slotR σ).set fullShare (slotC κ (v.re c)))
    (hp' : pay v (pr c) j = ptsOn (F := F) (pr c) mOrecv (chunk κ).set fullShare (v.re (pr (pr c)))) (fd : S2048x1024.Idx → F .bf16)
    (k : PUnit → Prog (TpuEff nD τ sig (Elt F) Λ₀ .tc) β) (Q : β → sProp 𝕄) :
    iprop(recs v K c ∗ opens (pr c) ∗ Tok c i ∗ Tok (pr c) j ∗ ptsOn (F := F) c mOrem (slotR σ).set fullShare (slotC κ (v.re c))
      ∗ ptsOn (F := F) (pr c) mOrecv (chunk κ).set fullShare fd ∗ OW c (j :: l))
    ⊢ iprop((Cr c i -∗ OW c l -∗ WP c (k ⟨⟩) Q)
      -∗ WP c (Prog.lift (.enqueueDma (oremS σ) (.remote (c' : Thread nD τ) (orecvC κ) sS hsc) sT h₁ h₂ h₃) >>= k) Q) := by
  have h := wp_sendI v K c i j l (src := oremS σ) (dst := orecvC κ) (hsc := hsc) (h₁ := h₁) (h₂ := h₂) (h₃ := h₃) hc hi hj hN hij
    fullShare (slotC κ (v.re c)) fd
    (Entails.of_eq (by rw [hp, oremS_set]))
    (Entails.of_eq (by
      rw [hp', orecvC_set, pr_pr]
      exact pointsTo_congr (r_lands κ σ fd (v.re c)))) k Q
  unfold pts at h
  rw [oremS_set, orecvC_set] at h
  exact h

end Moves

end Cert.KernelIdeal.P
-- ==== Proof.Body1.lean ====
module

public import proofs.«01_k».proof.Proof.Moves

@[expose] public section

set_option maxRecDepth 65536

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

theorem dev1_eq (c : Dev nD) : (⟨k2_dev1 c, k2_dev1_lt c⟩ : Dev nD) = pr c := by revert c; decide
theorem dev2_eq (c : Dev nD) : (⟨k2_dev2 c, k2_dev2_lt c⟩ : Dev nD) = pr c := by revert c; decide
theorem dev3_eq (c : Dev nD) : (⟨k2_dev3 c, k2_dev3_lt c⟩ : Dev nD) = pr c := by revert c; decide
theorem dev4_eq (c : Dev nD) : (⟨k2_dev4 c, k2_dev4_lt c⟩ : Dev nD) = pr c := by revert c; decide
theorem dev5_eq (c : Dev nD) : (⟨k2_dev5 c, k2_dev5_lt c⟩ : Dev nD) = pr c := by revert c; decide
theorem dev6_eq (c : Dev nD) : (⟨k2_dev6 c, k2_dev6_lt c⟩ : Dev nD) = pr c := by revert c; decide
theorem dev7_eq (c : Dev nD) : (⟨k2_dev7 c, k2_dev7_lt c⟩ : Dev nD) = pr c := by revert c; decide
theorem dev8_eq (c : Dev nD) : (⟨k2_dev8 c, k2_dev8_lt c⟩ : Dev nD) = pr c := by revert c; decide
theorem dev9_eq (c : Dev nD) : (⟨k2_dev9 c, k2_dev9_lt c⟩ : Dev nD) = pr c := by revert c; decide
theorem dev10_eq (c : Dev nD) : (⟨k2_dev10 c, k2_dev10_lt c⟩ : Dev nD) = pr c := by revert c; decide

variable (v : Vals F) (K : GSem nD τ sig → ℕ) (c : Dev nD)

/-- Chunks 0 and 1 of the sorted rows leave; chunks 1 and 2 are gathered. -/
theorem wp_part7 (M : S2048x2.Idx → BitVec 32) (X g1 g2 f0 f1 : S2048x1024.Idx → F .bf16) (hxs : v.xs c = GATH 0 M X) (l : List (Fin 19))
    (v2 v5 v9 v26 c2 : BitVec 32) (Q : BitVec 32 → sProp 𝕄) :
    iprop(recs v K c ∗ opens (pr c) ∗ Tok c 2 ∗ Tok (pr c) 6 ∗ Tok c 3 ∗ Tok (pr c) 7
      ∗ pts (F := F) c mMeta fullShare M ∗ pts (F := F) c mXb fullShare X
      ∗ ptsOn (F := F) c mXs (chunk 0).set fullShare (v.xs c) ∗ ptsOn (F := F) c mXs (chunk 1).set fullShare g1 ∗ ptsOn (F := F) c mXs (chunk 2).set fullShare g2
      ∗ ptsOn (F := F) (pr c) mXrem (chunk 0).set fullShare f0 ∗ ptsOn (F := F) (pr c) mXrem (chunk 1).set fullShare f1
      ∗ OW c (6 :: 7 :: l))
    ⊢ iprop((∀ r, pts (F := F) c mMeta fullShare M -∗ pts (F := F) c mXb fullShare X
        -∗ ptsOn (F := F) c mXs (chunk 0).set fullShare.right (v.xs c) -∗ ptsOn (F := F) c mXs (chunk 1).set fullShare.right (v.xs c)
        -∗ ptsOn (F := F) c mXs (chunk 2).set fullShare (v.xs c) -∗ Cr c 2 -∗ Cr c 3 -∗ OW c l -∗ Q r)
      -∗ WP c (k2_part7 (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 c v2 v5 v9 v26 c2) Q) := by
  rw [k2_part7_eq_skeleton]
  dsimp only [k2_part7_skel]
  iintro ⟨#HR, #HP, T2, T6, T3, T7, Hm, Hx, H0, H1, H2, D0, D1, HO⟩ HK
  ihave H := ((halve c mXs (chunk 0).set (v.xs c)).1) $$ H0
  icases H with ⟨H0l, H0⟩
  iapply (wp_sendX v K c 0 2 6 (7 :: l) (dev3_eq c) (by decide) (by decide) rfl rfl rfl rfl f0) $$ [T2 T6 H0l D0 HO]
  · isplitr; · iexact HR
    isplitr; · iexact HP
    isplitl [T2]; · iexact T2
    isplitl [T6]; · iexact T6
    isplitl [H0l]; · iexact H0l
    isplitl [D0]; · iexact D0
    iexact HO
  iintro C2 HO
  iapply (wp_t3 c c v2 v5 v9 v26 c2 fullShare fullShare M X g1) $$ [Hm Hx H1]
  · isplitl [Hm]; · iexact Hm
    isplitl [Hx]; · iexact Hx
    iexact H1
  rw [← hxs]
  iintro Hm Hx H1
  ihave H := ((halve c mXs (chunk 1).set (v.xs c)).1) $$ H1
  icases H with ⟨H1l, H1⟩
  iapply (wp_sendX v K c 1 3 7 l (dev4_eq c) (by decide) (by decide) rfl rfl rfl rfl f1) $$ [T3 T7 H1l D1 HO]
  · isplitr; · iexact HR
    isplitr; · iexact HP
    isplitl [T3]; · iexact T3
    isplitl [T7]; · iexact T7
    isplitl [H1l]; · iexact H1l
    isplitl [D1]; · iexact D1
    iexact HO
  iintro C3 HO
  iapply (wp_t5 c c v2 v5 v9 v26 c2 fullShare fullShare M X g2) $$ [Hm Hx H2]
  · isplitl [Hm]; · iexact Hm
    isplitl [Hx]; · iexact Hx
    iexact H2
  rw [← hxs]
  iintro Hm Hx H2
  iapply (wp_done c)
  imodintro
  iapply HK $$ Hm Hx H0 H1 H2 C2 C3 HO

end Cert.KernelIdeal.P
-- ==== Proof.Body2.lean ====
module

public import proofs.«01_k».proof.Proof.Body1

@[expose] public section

set_option maxRecDepth 65536

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- The first expert number of a device: four for the second half of the mesh's last axis. -/
abbrev ebase (c : Dev nD) : BitVec 32 := Scalar.muli (Scalar.remsi (Scalar.divsi (Dev.word c) 1#32) 2#32) 4#32

theorem wp_devId (c : Dev nD) {β : Type} (k : Dev nD → Prog (TpuEff nD τ sig (Elt F) Λ₀ .tc) β) (Q : β → sProp 𝕄) :
    (WP c (k c) Q : sProp 𝕄) ⊢ WP c (Prog.lift .deviceId >>= k) Q := by
  show _ ⊢ WP c (.op .deviceId fun d => k d) Q
  unfold WP
  simp only [wp_deviceId]
  exact .rfl

/-- An array in four chunks. -/
theorem four {ℓ : Loc nD τ sig} (I : Fin 4 → Finset (Idx ℓ)) (S : Finset (Idx ℓ)) (hS : Finset.univ.biUnion I = S)
    (hd : ∀ i j, i ≠ j → Disjoint (I i) (I j)) (q : PosShare TreeShare) (f : Buf (Elt F) ℓ) :
    ((ℓ ↦[S]{q} f : sProp 𝕄)) = iprop((ℓ ↦[I 0]{q} f) ∗ (ℓ ↦[I 1]{q} f) ∗ (ℓ ↦[I 2]{q} f) ∗ (ℓ ↦[I 3]{q} f)) := by
  rw [← hS, pointsTo_biUnion Finset.univ I (fun i _ j _ h => hd i j h), show (Finset.univ : Finset (Fin 4)) = {0, 1, 2, 3} from by decide,
    bigSep_insert (by decide), bigSep_insert (by decide), bigSep_insert (by decide), bigSep_singleton]
  rfl

theorem chunk_union : Finset.univ.biUnion (fun k : Fin 4 => (chunk k).set) = Finset.univ :=
  Finset.eq_univ_iff_forall.mpr fun y => Finset.mem_biUnion.mpr
    ⟨⟨(y 0).val / 512, by have : (y 0).val < 2048 := (y 0).isLt; omega⟩, Finset.mem_univ _, chunk_mem.mpr rfl⟩
theorem chunk_disj (i j : Fin 4) (h : i ≠ j) : Disjoint (chunk i).set (chunk j).set :=
  Finset.disjoint_left.mpr fun y hi hj => h (Fin.ext ((chunk_mem.mp hi).symm.trans (chunk_mem.mp hj)))

theorem xs_four (c : Dev nD) (q : PosShare TreeShare) (f : S2048x1024.Idx → F .bf16) :
    (pts (F := F) c mXs q f : sProp 𝕄) = iprop(ptsOn (F := F) c mXs (chunk 0).set q f ∗ ptsOn (F := F) c mXs (chunk 1).set q f
      ∗ ptsOn (F := F) c mXs (chunk 2).set q f ∗ ptsOn (F := F) c mXs (chunk 3).set q f) :=
  four (ℓ := mXs.view.loc (c : Thread nD τ)) (fun k => (chunk k).set) _ (chunk_union.trans (show mXs.view.set = Finset.univ from View.set_whole _).symm) chunk_disj q f

theorem xs_fourU (c : Dev nD) (q : PosShare TreeShare) (f : S2048x1024.Idx → F .bf16) :
    (ptsOn (F := F) c mXs Finset.univ q f : sProp 𝕄) = iprop(ptsOn (F := F) c mXs (chunk 0).set q f ∗ ptsOn (F := F) c mXs (chunk 1).set q f
      ∗ ptsOn (F := F) c mXs (chunk 2).set q f ∗ ptsOn (F := F) c mXs (chunk 3).set q f) :=
  four (ℓ := mXs.view.loc (c : Thread nD τ)) (fun k => (chunk k).set) _ chunk_union chunk_disj q f

theorem xrem_fourU (c : Dev nD) (q : PosShare TreeShare) (f : S2048x1024.Idx → F .bf16) :
    (ptsOn (F := F) c mXrem Finset.univ q f : sProp 𝕄) = iprop(ptsOn (F := F) c mXrem (chunk 0).set q f ∗ ptsOn (F := F) c mXrem (chunk 1).set q f
      ∗ ptsOn (F := F) c mXrem (chunk 2).set q f ∗ ptsOn (F := F) c mXrem (chunk 3).set q f) :=
  four (ℓ := mXrem.view.loc (c : Thread nD τ)) (fun k => (chunk k).set) _ chunk_union chunk_disj q f

theorem orecv_fourU (c : Dev nD) (q : PosShare TreeShare) (f : S2048x1024.Idx → F .bf16) :
    (ptsOn (F := F) c mOrecv Finset.univ q f : sProp 𝕄) = iprop(ptsOn (F := F) c mOrecv (chunk 0).set q f ∗ ptsOn (F := F) c mOrecv (chunk 1).set q f
      ∗ ptsOn (F := F) c mOrecv (chunk 2).set q f ∗ ptsOn (F := F) c mOrecv (chunk 3).set q f) :=
  four (ℓ := mOrecv.view.loc (c : Thread nD τ)) (fun k => (chunk k).set) _ chunk_union chunk_disj q f

theorem fin_fourU (c : Dev nD) (q : PosShare TreeShare) (f : S2048x1024.Idx → F .bf16) :
    (ptsOn (F := F) c mFin Finset.univ q f : sProp 𝕄) = iprop(ptsOn (F := F) c mFin (chunk 0).set q f ∗ ptsOn (F := F) c mFin (chunk 1).set q f
      ∗ ptsOn (F := F) c mFin (chunk 2).set q f ∗ ptsOn (F := F) c mFin (chunk 3).set q f) :=
  four (ℓ := mFin.view.loc (c : Thread nD τ)) (fun k => (chunk k).set) _ chunk_union chunk_disj q f

variable (v : Vals F) (K : GSem nD τ sig → ℕ) (c : Dev nD)

/-- The meeting at the barrier; the expert numbers leave; chunk 0 is gathered. -/
theorem wp_part6 (M : S2048x2.Idx → BitVec 32) (X g0 : S2048x1024.Idx → F .bf16) (hxs : v.xs c = GATH 0 M X) (l : List (Fin 19)) (hl : ∀ j ∈ l, lvI 18 < lvI j)
    (Q : (Σ' (d0 : Dev nD) (v2 : BitVec 32) (v5 : BitVec 32) (v9 : BitVec 32) (v10 : BitVec 32) (v26 : BitVec 32), BitVec 32) → sProp 𝕄) :
    iprop(recs v K c
      ∗ Tok (pr c) 18
      ∗ (∃ f, pts (F := F) c mArem fullShare f)
      ∗ (∃ f, ptsOn (F := F) c mXrem Finset.univ fullShare f)
      ∗ (∃ f, ptsOn (F := F) c mOrecv Finset.univ fullShare f)
      ∗ Cr c 18
      ∗ At0 c 18
      ∗ Tok c 0
      ∗ Tok (pr c) 1
      ∗ pts (F := F) c mSa fullShare (v.sa c)
      ∗ pts (F := F) c mMeta fullShare M
      ∗ pts (F := F) c mXb fullShare X
      ∗ ptsOn (F := F) c mXs (chunk 0).set fullShare g0
      ∗ OW c (18 :: 1 :: l))
    ⊢ iprop((∀ v2 v5 v9 v26, opens (pr c)
        -∗ (∃ f, ptsOn (F := F) (pr c) mXrem Finset.univ fullShare f)
        -∗ (∃ f, ptsOn (F := F) (pr c) mOrecv Finset.univ fullShare f)
        -∗ pts (F := F) c mSa fullShare.right (v.sa c)
        -∗ pts (F := F) c mMeta fullShare M
        -∗ pts (F := F) c mXb fullShare X
        -∗ ptsOn (F := F) c mXs (chunk 0).set fullShare (v.xs c)
        -∗ At1 c 18
        -∗ Cr c 0
        -∗ OW c l -∗ Q ⟨c, v2, v5, v9, ebase c, v26, 2#32⟩)
      -∗ WP c (k2_part6 (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 ) Q) := by
  rw [k2_part6_eq_skeleton]
  dsimp only [k2_part6_skel]
  iintro ⟨#HR, T18, FA, FX, FR, C18, A18, T0, T1, Hs, Hm, Hx, H0, HO⟩ HK
  iapply (wp_devId c)
  iapply (wp_signalI v K c (1 :: l) (dev1_eq c)) $$ [T18 FA FX FR HO]
  · isplitr; · iexact HR
    isplitl [T18]; · iexact T18
    isplitl [FA]; · iexact FA
    isplitl [FX]; · iexact FX
    isplitl [FR]; · iexact FR
    iexact HO
  iintro HO
  iapply (wp_barWait v K c (1 :: l) (List.forall_mem_cons.mpr ⟨by decide, hl⟩)) $$ [C18 HO A18]
  · isplitr; · iexact HR
    isplitl [C18]; · iexact C18
    isplitl [HO]; · iexact HO
    iexact A18
  iintro HO A18 P
  unfold barPay
  icases P with ⟨⟨%fa, DA⟩, DX, DR, #HP⟩
  ihave H := ((halve c mSa mSa.view.set (v.sa c)).1) $$ Hs
  icases H with ⟨Hl, Hr⟩
  iapply (wp_sendMeta v K c l (dev2_eq c) rfl rfl fa) $$ [T0 T1 Hl DA HO]
  · isplitr; · iexact HR
    isplitr; · iexact HP
    isplitl [T0]; · iexact T0
    isplitl [T1]; · iexact T1
    isplitl [Hl]; · iexact Hl
    isplitl [DA]; · iexact DA
    iexact HO
  iintro C0 HO
  iapply (wp_t1 c fullShare fullShare M X g0) $$ [Hm Hx H0]
  · isplitl [Hm]; · iexact Hm
    isplitl [Hx]; · iexact Hx
    iexact H0
  rw [← hxs]
  iintro Hm Hx H0
  iapply (wp_done c)
  imodintro
  iapply HK $$ HP DX DR Hr Hm Hx H0 A18 C0 HO

/-- Chunks 2 and 3 of the sorted rows leave; chunk 3 is gathered; the own experts run over all sorted rows. -/
theorem wp_part8 (M : S2048x2.Idx → BitVec 32) (X g3 gf f2 f3 : S2048x1024.Idx → F .bf16) (hxs : v.xs c = GATH 0 M X) (W1 : S4x1024x2048.Idx → F .bf16) (W2 : S4x2048x1024.Idx → F .bf16)
    (v2 v5 v9 v10 v54 : BitVec 32) (Q : (Σ' (v80 : BitVec 32), BitVec 32) → sProp 𝕄) :
    iprop(recs v K c
      ∗ opens (pr c)
      ∗ Tok c 4
      ∗ Tok (pr c) 8
      ∗ Tok c 5
      ∗ Tok (pr c) 9
      ∗ pts (F := F) c mMeta fullShare M
      ∗ pts (F := F) c mXb fullShare X
      ∗ ptsOn (F := F) c mXs (chunk 0).set fullShare.right (v.xs c)
      ∗ ptsOn (F := F) c mXs (chunk 1).set fullShare.right (v.xs c)
      ∗ ptsOn (F := F) c mXs (chunk 2).set fullShare (v.xs c)
      ∗ ptsOn (F := F) c mXs (chunk 3).set fullShare g3
      ∗ ptsOn (F := F) (pr c) mXrem (chunk 2).set fullShare f2
      ∗ ptsOn (F := F) (pr c) mXrem (chunk 3).set fullShare f3
      ∗ pts (F := F) c mSa fullShare.right (v.sa c)
      ∗ pts (F := F) c mW1 fullShare W1
      ∗ pts (F := F) c mW2 fullShare W2
      ∗ ptsOn (F := F) c mFin Finset.univ fullShare gf
      ∗ Cr c 0
      ∗ At0 c 0
      ∗ OW c [8, 9, 14, 15, 16, 17])
    ⊢ iprop((∀ r, pts (F := F) c mMeta fullShare M
        -∗ pts (F := F) c mXb fullShare X
        -∗ pts (F := F) c mXs fullShare.right (v.xs c)
        -∗ pts (F := F) c mSa fullShare (v.sa c)
        -∗ pts (F := F) c mW1 fullShare W1
        -∗ pts (F := F) c mW2 fullShare W2
        -∗ ptsOn (F := F) c mFin Finset.univ fullShare (EXP v10 (v.xs c) (v.sa c) W1 W2)
        -∗ At1 c 0
        -∗ Cr c 4
        -∗ Cr c 5
        -∗ OW c [14, 15, 16, 17] -∗ Q r)
      -∗ WP c (k2_part8 (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 c v2 v5 v9 v10 v54) Q) := by
  rw [k2_part8_eq_skeleton]
  dsimp only [k2_part8_skel]
  iintro ⟨#HR, #HP, T4, T8, T5, T9, Hm, Hx, H0, H1, H2, H3, D2, D3, Hr, Hw1, Hw2, Hf, C0, A0, HO⟩ HK
  ihave H := ((halve c mXs (chunk 2).set (v.xs c)).1) $$ H2
  icases H with ⟨Hl, H2⟩
  iapply (wp_sendX v K c 2 4 8 [9, 14, 15, 16, 17] (dev5_eq c) (by decide) (by decide) rfl rfl rfl rfl f2) $$ [T4 T8 Hl D2 HO]
  · isplitr; · iexact HR
    isplitr; · iexact HP
    isplitl [T4]; · iexact T4
    isplitl [T8]; · iexact T8
    isplitl [Hl]; · iexact Hl
    isplitl [D2]; · iexact D2
    iexact HO
  iintro C4 HO
  iapply (wp_t7 c c v2 v5 v9 v10 v54 fullShare fullShare M X g3) $$ [Hm Hx H3]
  · isplitl [Hm]; · iexact Hm
    isplitl [Hx]; · iexact Hx
    iexact H3
  rw [← hxs]
  iintro Hm Hx H3
  ihave H := ((halve c mXs (chunk 3).set (v.xs c)).1) $$ H3
  icases H with ⟨Hl, H3⟩
  iapply (wp_sendX v K c 3 5 9 [14, 15, 16, 17] (dev6_eq c) (by decide) (by decide) rfl rfl rfl rfl f3) $$ [T5 T9 Hl D3 HO]
  · isplitr; · iexact HR
    isplitr; · iexact HP
    isplitl [T5]; · iexact T5
    isplitl [T9]; · iexact T9
    isplitl [Hl]; · iexact Hl
    isplitl [D3]; · iexact D3
    iexact HO
  iintro C5 HO
  ihave HX := (Entails.of_eq (xs_four c fullShare.right (v.xs c)).symm) $$ [H0 H1 H2 H3]
  · isplitl [H0]; · iexact H0
    isplitl [H1]; · iexact H1
    isplitl [H2]; · iexact H2
    iexact H3
  iapply (wp_t9 c c v2 v5 v9 v10 v54 fullShare.right fullShare.right fullShare fullShare (v.xs c) (v.sa c) W1 W2 gf) $$ [HX Hr Hw1 Hw2 Hf]
  · isplitl [HX]; · iexact HX
    isplitl [Hr]; · iexact Hr
    isplitl [Hw1]; · iexact Hw1
    isplitl [Hw2]; · iexact Hw2
    iexact Hf
  iintro HX Hr Hw1 Hw2 Hf
  iapply (wp_waitDma v K c 0 [14, 15, 16, 17] (dst := mSa) (by decide) rfl rfl) $$ [C0 HO A0]
  · isplitr; · iexact HR
    isplitl [C0]; · iexact C0
    isplitl [HO]; · iexact HO
    iexact A0
  iintro HO A0 P0
  ihave Hl := (Entails.of_eq (show pay v c 0 = (pts (F := F) c mSa fullShare.left (v.sa c) : sProp 𝕄) from rfl)) $$ P0
  ihave Hs := ((halve c mSa mSa.view.set (v.sa c)).2) $$ [Hl Hr]
  · isplitl [Hl]; · iexact Hl
    iexact Hr
  iapply (wp_done c)
  imodintro
  iapply HK $$ Hm Hx HX Hs Hw1 Hw2 Hf A0 C4 C5 HO

end Cert.KernelIdeal.P
-- ==== Proof.Body3.lean ====
module

public import proofs.«01_k».proof.Proof.Body1

@[expose] public section

set_option maxRecDepth 65536

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (v : Vals F) (K : GSem nD τ sig → ℕ) (c : Dev nD)

/-- The partner's expert numbers and its chunk 0 are there; the own experts run over it. -/
theorem wp_part9 (W1 : S4x1024x2048.Idx → F .bf16) (W2 : S4x2048x1024.Idx → F .bf16) (v2 v5 v9 v10 v80 v81 : BitVec 32)
    (hre : v.re c = EXP v10 (v.xs (pr c)) (v.sa (pr c)) W1 W2) (gs : S2x512x1024.Idx → F .bf16) (Q : Unit → sProp 𝕄) :
    iprop(recs v K c
      ∗ pts (F := F) c mW1 fullShare W1
      ∗ pts (F := F) c mW2 fullShare W2
      ∗ ptsOn (F := F) c mOrem (slotR 0).set fullShare gs
      ∗ Cr c 1
      ∗ At0 c 1
      ∗ Cr c 2
      ∗ At0 c 2
      ∗ Cr c 6
      ∗ At0 c 6
      ∗ OW c [14, 15, 16, 17])
    ⊢ iprop((∀ r, pts (F := F) c mArem fullShare (v.sa (pr c))
        -∗ ptsOn (F := F) c mXs (chunk 0).set fullShare.left (v.xs c)
        -∗ ptsOn (F := F) c mXrem (chunk 0).set fullShare (v.xs (pr c))
        -∗ pts (F := F) c mW1 fullShare W1
        -∗ pts (F := F) c mW2 fullShare W2
        -∗ ptsOn (F := F) c mOrem (slotR 0).set fullShare (slotC 0 (v.re c))
        -∗ At1 c 1
        -∗ At1 c 2
        -∗ At1 c 6
        -∗ OW c [14, 15, 16, 17] -∗ Q r)
      -∗ WP c (k2_part9 (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 v2 v5 v9 v10 v80 v81) Q) := by
  rw [k2_part9_eq_skeleton]
  dsimp only [k2_part9_skel]
  iintro ⟨#HR, Hw1, Hw2, S0, C1, A1, C2, A2, C6, A6, HO⟩ HK
  iapply (wp_waitDma v K c 1 [14, 15, 16, 17] (dst := mArem) (by decide) rfl rfl) $$ [C1 HO A1]
  · isplitr; · iexact HR
    isplitl [C1]; · iexact C1
    isplitl [HO]; · iexact HO
    iexact A1
  iintro HO A1 P1
  ihave Ha := (Entails.of_eq (show pay v c 1 = (pts (F := F) c mArem fullShare (v.sa (pr c)) : sProp 𝕄) from rfl)) $$ P1
  iapply (wp_waitDma v K c 2 [14, 15, 16, 17] (dst := xsC 0) (by decide) rfl rfl) $$ [C2 HO A2]
  · isplitr; · iexact HR
    isplitl [C2]; · iexact C2
    isplitl [HO]; · iexact HO
    iexact A2
  iintro HO A2 P2
  ihave L0 := (Entails.of_eq (show pay v c 2 = (ptsOn (F := F) c mXs (chunk 0).set fullShare.left (v.xs c) : sProp 𝕄) from rfl)) $$ P2
  iapply (wp_waitDma v K c 6 [14, 15, 16, 17] (dst := xremC 0) (by decide) rfl rfl) $$ [C6 HO A6]
  · isplitr; · iexact HR
    isplitl [C6]; · iexact C6
    isplitl [HO]; · iexact HO
    iexact A6
  iintro HO A6 P6
  ihave X0 := (Entails.of_eq (show pay v c 6 = (ptsOn (F := F) c mXrem (chunk 0).set fullShare (v.xs (pr c)) : sProp 𝕄) from rfl)) $$ P6
  iapply (wp_t10 c v2 v5 v9 v10 v80 v81 fullShare fullShare fullShare fullShare (v.xs (pr c)) (v.sa (pr c)) W1 W2 gs) $$ [X0 Ha Hw1 Hw2 S0]
  · isplitl [X0]; · iexact X0
    isplitl [Ha]; · iexact Ha
    isplitl [Hw1]; · iexact Hw1
    isplitl [Hw2]; · iexact Hw2
    iexact S0
  rw [← hre]
  iintro X0 Ha Hw1 Hw2 S0
  iapply (wp_done c)
  imodintro
  iapply HK $$ Ha L0 X0 Hw1 Hw2 S0 A1 A2 A6 HO

/-- The results of chunk 0 go back; the own experts run over the partner's chunk 1. -/
theorem wp_part10 (W1 : S4x1024x2048.Idx → F .bf16) (W2 : S4x2048x1024.Idx → F .bf16) (v2 v5 v9 v10 : BitVec 32)
    (hre : v.re c = EXP v10 (v.xs (pr c)) (v.sa (pr c)) W1 W2) (gs : S2x512x1024.Idx → F .bf16) (f0 : S2048x1024.Idx → F .bf16) (Q : Unit → sProp 𝕄) :
    iprop(recs v K c
      ∗ opens (pr c)
      ∗ Tok c 10
      ∗ Tok (pr c) 14
      ∗ ptsOn (F := F) c mOrem (slotR 0).set fullShare (slotC 0 (v.re c))
      ∗ ptsOn (F := F) (pr c) mOrecv (chunk 0).set fullShare f0
      ∗ pts (F := F) c mArem fullShare (v.sa (pr c))
      ∗ pts (F := F) c mW1 fullShare W1
      ∗ pts (F := F) c mW2 fullShare W2
      ∗ ptsOn (F := F) c mOrem (slotR 1).set fullShare gs
      ∗ Cr c 3
      ∗ At0 c 3
      ∗ Cr c 7
      ∗ At0 c 7
      ∗ OW c [14, 15, 16, 17])
    ⊢ iprop((∀ r, pts (F := F) c mArem fullShare (v.sa (pr c))
        -∗ ptsOn (F := F) c mXs (chunk 1).set fullShare.left (v.xs c)
        -∗ ptsOn (F := F) c mXrem (chunk 1).set fullShare (v.xs (pr c))
        -∗ pts (F := F) c mW1 fullShare W1
        -∗ pts (F := F) c mW2 fullShare W2
        -∗ ptsOn (F := F) c mOrem (slotR 1).set fullShare (slotC 1 (v.re c))
        -∗ Cr c 10
        -∗ At1 c 3
        -∗ At1 c 7
        -∗ OW c [15, 16, 17] -∗ Q r)
      -∗ WP c (k2_part10 (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 c v2 v5 v9 v10) Q) := by
  rw [k2_part10_eq_skeleton]
  dsimp only [k2_part10_skel]
  iintro ⟨#HR, #HP, T10, T14, S0, D0, Ha, Hw1, Hw2, S1, C3, A3, C7, A7, HO⟩ HK
  iapply (wp_sendR v K c 0 0 10 14 [15, 16, 17] (dev7_eq c) (by decide) (by decide) rfl rfl rfl rfl f0) $$ [T10 T14 S0 D0 HO]
  · isplitr; · iexact HR
    isplitr; · iexact HP
    isplitl [T10]; · iexact T10
    isplitl [T14]; · iexact T14
    isplitl [S0]; · iexact S0
    isplitl [D0]; · iexact D0
    iexact HO
  iintro C10 HO
  iapply (wp_waitDma v K c 3 [15, 16, 17] (dst := xsC 1) (by decide) rfl rfl) $$ [C3 HO A3]
  · isplitr; · iexact HR
    isplitl [C3]; · iexact C3
    isplitl [HO]; · iexact HO
    iexact A3
  iintro HO A3 P3
  ihave L1 := (Entails.of_eq (show pay v c 3 = (ptsOn (F := F) c mXs (chunk 1).set fullShare.left (v.xs c) : sProp 𝕄) from rfl)) $$ P3
  iapply (wp_waitDma v K c 7 [15, 16, 17] (dst := xremC 1) (by decide) rfl rfl) $$ [C7 HO A7]
  · isplitr; · iexact HR
    isplitl [C7]; · iexact C7
    isplitl [HO]; · iexact HO
    iexact A7
  iintro HO A7 P7
  ihave X1 := (Entails.of_eq (show pay v c 7 = (ptsOn (F := F) c mXrem (chunk 1).set fullShare (v.xs (pr c)) : sProp 𝕄) from rfl)) $$ P7
  iapply (wp_t11 c c v2 v5 v9 v10 fullShare fullShare fullShare fullShare (v.xs (pr c)) (v.sa (pr c)) W1 W2 gs) $$ [X1 Ha Hw1 Hw2 S1]
  · isplitl [X1]; · iexact X1
    isplitl [Ha]; · iexact Ha
    isplitl [Hw1]; · iexact Hw1
    isplitl [Hw2]; · iexact Hw2
    iexact S1
  rw [← hre]
  iintro X1 Ha Hw1 Hw2 S1
  iapply (wp_done c)
  imodintro
  iapply HK $$ Ha L1 X1 Hw1 Hw2 S1 C10 A3 A7 HO

/-- The results of chunk 1 go back; chunk 2 is there; the first slot is free again. -/
theorem wp_part11 (v2 v5 v9 : BitVec 32) (f1 : S2048x1024.Idx → F .bf16) (Q : BitVec 32 → sProp 𝕄) :
    iprop(recs v K c
      ∗ opens (pr c)
      ∗ Tok c 11
      ∗ Tok (pr c) 15
      ∗ ptsOn (F := F) c mOrem (slotR 1).set fullShare (slotC 1 (v.re c))
      ∗ ptsOn (F := F) (pr c) mOrecv (chunk 1).set fullShare f1
      ∗ Cr c 4
      ∗ At0 c 4
      ∗ Cr c 8
      ∗ At0 c 8
      ∗ Cr c 10
      ∗ At0 c 10
      ∗ OW c [15, 16, 17])
    ⊢ iprop((ptsOn (F := F) c mXs (chunk 2).set fullShare.left (v.xs c)
        -∗ ptsOn (F := F) c mXrem (chunk 2).set fullShare (v.xs (pr c))
        -∗ ptsOn (F := F) c mOrem (slotR 0).set fullShare (slotC 0 (v.re c))
        -∗ Cr c 11
        -∗ At1 c 4
        -∗ At1 c 8
        -∗ At1 c 10
        -∗ OW c [16, 17] -∗ Q 0#32)
      -∗ WP c (k2_part11 (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 c v2 v5 v9) Q) := by
  rw [k2_part11_eq_skeleton]
  dsimp only [k2_part11_skel]
  iintro ⟨#HR, #HP, T11, T15, S1, D1, C4, A4, C8, A8, C10, A10, HO⟩ HK
  iapply (wp_sendR v K c 1 1 11 15 [16, 17] (dev8_eq c) (by decide) (by decide) rfl rfl rfl rfl f1) $$ [T11 T15 S1 D1 HO]
  · isplitr; · iexact HR
    isplitr; · iexact HP
    isplitl [T11]; · iexact T11
    isplitl [T15]; · iexact T15
    isplitl [S1]; · iexact S1
    isplitl [D1]; · iexact D1
    iexact HO
  iintro C11 HO
  iapply (wp_waitDma v K c 4 [16, 17] (dst := xsC 2) (by decide) rfl rfl) $$ [C4 HO A4]
  · isplitr; · iexact HR
    isplitl [C4]; · iexact C4
    isplitl [HO]; · iexact HO
    iexact A4
  iintro HO A4 P4
  ihave L2 := (Entails.of_eq (show pay v c 4 = (ptsOn (F := F) c mXs (chunk 2).set fullShare.left (v.xs c) : sProp 𝕄) from rfl)) $$ P4
  iapply (wp_waitDma v K c 8 [16, 17] (dst := xremC 2) (by decide) rfl rfl) $$ [C8 HO A8]
  · isplitr; · iexact HR
    isplitl [C8]; · iexact C8
    isplitl [HO]; · iexact HO
    iexact A8
  iintro HO A8 P8
  ihave X2 := (Entails.of_eq (show pay v c 8 = (ptsOn (F := F) c mXrem (chunk 2).set fullShare (v.xs (pr c)) : sProp 𝕄) from rfl)) $$ P8
  iapply (wp_waitDma v K c 10 [16, 17] (dst := oremS 0) (by decide) rfl rfl) $$ [C10 HO A10]
  · isplitr; · iexact HR
    isplitl [C10]; · iexact C10
    isplitl [HO]; · iexact HO
    iexact A10
  iintro HO A10 P10
  ihave S0 := (Entails.of_eq (show pay v c 10 = (ptsOn (F := F) c mOrem (slotR 0).set fullShare (slotC 0 (v.re c)) : sProp 𝕄) from rfl)) $$ P10
  iapply (wp_done c)
  imodintro
  iapply HK $$ L2 X2 S0 C11 A4 A8 A10 HO

/-- The own experts run over the partner's chunk 2; its results go back. -/
theorem wp_part12 (W1 : S4x1024x2048.Idx → F .bf16) (W2 : S4x2048x1024.Idx → F .bf16) (v2 v5 v9 v10 : BitVec 32)
    (hre : v.re c = EXP v10 (v.xs (pr c)) (v.sa (pr c)) W1 W2) (gs : S2x512x1024.Idx → F .bf16) (f2 : S2048x1024.Idx → F .bf16) (Q : Unit → sProp 𝕄) :
    iprop(recs v K c
      ∗ opens (pr c)
      ∗ ptsOn (F := F) c mXrem (chunk 2).set fullShare (v.xs (pr c))
      ∗ pts (F := F) c mArem fullShare (v.sa (pr c))
      ∗ pts (F := F) c mW1 fullShare W1
      ∗ pts (F := F) c mW2 fullShare W2
      ∗ ptsOn (F := F) c mOrem (slotR 0).set fullShare gs
      ∗ Tok c 12
      ∗ Tok (pr c) 16
      ∗ ptsOn (F := F) (pr c) mOrecv (chunk 2).set fullShare f2
      ∗ Cr c 5
      ∗ At0 c 5
      ∗ OW c [16, 17])
    ⊢ iprop((∀ r, ptsOn (F := F) c mXrem (chunk 2).set fullShare (v.xs (pr c))
        -∗ pts (F := F) c mArem fullShare (v.sa (pr c))
        -∗ pts (F := F) c mW1 fullShare W1
        -∗ pts (F := F) c mW2 fullShare W2
        -∗ ptsOn (F := F) c mXs (chunk 3).set fullShare.left (v.xs c)
        -∗ Cr c 12
        -∗ At1 c 5
        -∗ OW c [17] -∗ Q r)
      -∗ WP c (k2_part12 (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 c v2 v5 v9 v10 0#32) Q) := by
  rw [k2_part12_eq_skeleton]
  dsimp only [k2_part12_skel]
  iintro ⟨#HR, #HP, X2, Ha, Hw1, Hw2, S0, T12, T16, D2, C5, A5, HO⟩ HK
  iapply (wp_t12 c c v2 v5 v9 v10 fullShare fullShare fullShare fullShare (v.xs (pr c)) (v.sa (pr c)) W1 W2 gs) $$ [X2 Ha Hw1 Hw2 S0]
  · isplitl [X2]; · iexact X2
    isplitl [Ha]; · iexact Ha
    isplitl [Hw1]; · iexact Hw1
    isplitl [Hw2]; · iexact Hw2
    iexact S0
  rw [← hre]
  iintro X2 Ha Hw1 Hw2 S0
  iapply (wp_sendR v K c 2 0 12 16 [17] (dev9_eq c) (by decide) (by decide) rfl rfl rfl rfl f2) $$ [T12 T16 S0 D2 HO]
  · isplitr; · iexact HR
    isplitr; · iexact HP
    isplitl [T12]; · iexact T12
    isplitl [T16]; · iexact T16
    isplitl [S0]; · iexact S0
    isplitl [D2]; · iexact D2
    iexact HO
  iintro C12 HO
  iapply (wp_waitDma v K c 5 [17] (dst := xsC 3) (by decide) rfl rfl) $$ [C5 HO A5]
  · isplitr; · iexact HR
    isplitl [C5]; · iexact C5
    isplitl [HO]; · iexact HO
    iexact A5
  iintro HO A5 P5
  ihave L3 := (Entails.of_eq (show pay v c 5 = (ptsOn (F := F) c mXs (chunk 3).set fullShare.left (v.xs c) : sProp 𝕄) from rfl)) $$ P5
  iapply (wp_done c)
  imodintro
  iapply HK $$ X2 Ha Hw1 Hw2 L3 C12 A5 HO

/-- The own experts run over the partner's chunk 3; its results go back. -/
theorem wp_part13 (W1 : S4x1024x2048.Idx → F .bf16) (W2 : S4x2048x1024.Idx → F .bf16) (v2 v5 v9 v10 : BitVec 32)
    (hre : v.re c = EXP v10 (v.xs (pr c)) (v.sa (pr c)) W1 W2) (f3 : S2048x1024.Idx → F .bf16) (Q : Unit → sProp 𝕄) :
    iprop(recs v K c
      ∗ opens (pr c)
      ∗ pts (F := F) c mArem fullShare (v.sa (pr c))
      ∗ pts (F := F) c mW1 fullShare W1
      ∗ pts (F := F) c mW2 fullShare W2
      ∗ Tok c 13
      ∗ Tok (pr c) 17
      ∗ ptsOn (F := F) (pr c) mOrecv (chunk 3).set fullShare f3
      ∗ Cr c 9
      ∗ At0 c 9
      ∗ Cr c 11
      ∗ At0 c 11
      ∗ OW c [17])
    ⊢ iprop((∀ r, ptsOn (F := F) c mXrem (chunk 3).set fullShare (v.xs (pr c))
        -∗ pts (F := F) c mArem fullShare (v.sa (pr c))
        -∗ pts (F := F) c mW1 fullShare W1
        -∗ pts (F := F) c mW2 fullShare W2
        -∗ Cr c 13
        -∗ At1 c 9
        -∗ At1 c 11
        -∗ OW c [] -∗ Q r)
      -∗ WP c (k2_part13 (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 c v2 v5 v9 v10) Q) := by
  rw [k2_part13_eq_skeleton]
  dsimp only [k2_part13_skel]
  iintro ⟨#HR, #HP, Ha, Hw1, Hw2, T13, T17, D3, C9, A9, C11, A11, HO⟩ HK
  iapply (wp_waitDma v K c 9 [17] (dst := xremC 3) (by decide) rfl rfl) $$ [C9 HO A9]
  · isplitr; · iexact HR
    isplitl [C9]; · iexact C9
    isplitl [HO]; · iexact HO
    iexact A9
  iintro HO A9 P9
  ihave X3 := (Entails.of_eq (show pay v c 9 = (ptsOn (F := F) c mXrem (chunk 3).set fullShare (v.xs (pr c)) : sProp 𝕄) from rfl)) $$ P9
  iapply (wp_waitDma v K c 11 [17] (dst := oremS 1) (by decide) rfl rfl) $$ [C11 HO A11]
  · isplitr; · iexact HR
    isplitl [C11]; · iexact C11
    isplitl [HO]; · iexact HO
    iexact A11
  iintro HO A11 P11
  ihave S1 := (Entails.of_eq (show pay v c 11 = (ptsOn (F := F) c mOrem (slotR 1).set fullShare (slotC 1 (v.re c)) : sProp 𝕄) from rfl)) $$ P11
  iapply (wp_t13 c c v2 v5 v9 v10 fullShare fullShare fullShare fullShare (v.xs (pr c)) (v.sa (pr c)) W1 W2 (slotC 1 (v.re c))) $$ [X3 Ha Hw1 Hw2 S1]
  · isplitl [X3]; · iexact X3
    isplitl [Ha]; · iexact Ha
    isplitl [Hw1]; · iexact Hw1
    isplitl [Hw2]; · iexact Hw2
    iexact S1
  rw [← hre]
  iintro X3 Ha Hw1 Hw2 S1
  iapply (wp_sendR v K c 3 1 13 17 [] (dev10_eq c) (by decide) (by decide) rfl rfl rfl rfl f3) $$ [T13 T17 S1 D3 HO]
  · isplitr; · iexact HR
    isplitr; · iexact HP
    isplitl [T13]; · iexact T13
    isplitl [T17]; · iexact T17
    isplitl [S1]; · iexact S1
    isplitl [D3]; · iexact D3
    iexact HO
  iintro C13 HO
  iapply (wp_done c)
  imodintro
  iapply HK $$ X3 Ha Hw1 Hw2 C13 A9 A11 HO

end Cert.KernelIdeal.P
-- ==== Proof.Body4.lean ====
module

public import proofs.«01_k».proof.Proof.Body2
public import proofs.«01_k».proof.Proof.Body3
public import Idealize.ShloMosaic.Lib.Pipeline.Value

@[expose] public section

set_option maxRecDepth 65536

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- Reading a chunk. -/
theorem wp_loadC (c : Dev nD) {sp : CoreSpace} (m : Memref sig .tc sp S2048x1024 .bf16) (k : Fin 4) (S : Finset (Idx (m.view.loc (c : Thread nD τ))))
    (hS : (m.view.slice (chunk k)).set ⊆ S) (q : PosShare TreeShare)
    (f : Buf (Elt F) (m.view.loc (c : Thread nD τ))) {β : Type} {hl : m.view.LoadsAt ((chunk k).toLoadRect)}
    (kk : ((chunk k).shape.Idx → Elt F .bf16) → Prog (TpuEff nD τ sig (Elt F) Λ₀ .tc) β) (Q : β → sProp 𝕄) :
    (ptsOn c m S q f : sProp 𝕄)
    ⊢ iprop((ptsOn c m S q f -∗ WP c (kk ((m.view.slice (chunk k)).read (Elt F) f)) Q)
      -∗ WP c (Prog.lift (.load m (chunk k).toLoadRect hl) >>= kk) Q) := by
  iintro H HK
  iapply (wp_load_rect (defs := defs₀ (F := F)) 𝒱₀ (c : Thread nD τ) none Set.univ (m := m) (r := chunk k) hS) $$ H
  iexact HK

/-- The two results of a row added. -/
def ADD (f r : S2048x1024.Idx → F .bf16) : S2048x1024.Idx → F .bf16 := fun y => FloatOps.addf (f y) (r y)

theorem wroteC (A : Memref sig .tc .vmem S2048x1024 .bf16) (k : Fin 4) (f : A.view.ty.Contents (Elt F)) (w : (chunk k).shape.Idx → Elt F .bf16)
    (g : S2048x1024.Idx → F .bf16) (hw : ∀ x, w x = g ((chunk k).emb x)) (y : S2048x1024.Idx) (hy : y ∈ (chunk k).set) :
    A.view.read (Elt F) ((A.view.slice (chunk k)).write (Elt F) f w Finset.univ) y = g y := by
  rw [← Rect.map_emb_univ] at hy
  obtain ⟨x, -, rfl⟩ := Finset.mem_map.mp hy
  exact (View.read_slice_write_emb (v := A.view) (chunk k) f w (Finset.mem_univ x)).trans (hw x)

/-- Writing a chunk. -/
theorem wp_storeC (c : Dev nD) (k : Fin 4) (f g : S2048x1024.Idx → F .bf16) (w : (chunk k).shape.Idx → Elt F .bf16) (hw : ∀ x, w x = g ((chunk k).emb x))
    {β : Type} {hx : (mFin.access (chunk k)).Stores Finset.univ} {hm : (Finset.univ : Finset (chunk k).shape.Idx) = Finset.univ ∨ ∀ a, (chunk k).stride a = 1}
    (kk : PUnit → Prog (TpuEff nD τ sig (Elt F) Λ₀ .tc) β) (Q : β → sProp 𝕄) :
    (ptsOn (F := F) c mFin (chunk k).set fullShare f : sProp 𝕄)
    ⊢ iprop((ptsOn (F := F) c mFin (chunk k).set fullShare g -∗ WP c (kk ⟨⟩) Q)
      -∗ WP c (Prog.lift (.store mFin (chunk k) w Finset.univ hx hm) >>= kk) Q) := by
  have hS : (mFin.access (chunk k)).setOn Finset.univ ⊆ (chunk k).set := (View.set_slice_whole _ _).subset
  have h : (ptsOn (F := F) c mFin (chunk k).set fullShare ((mFin.access (chunk k)).write (Elt F) f w Finset.univ) : sProp 𝕄)
      ⊢ ptsOn (F := F) c mFin (chunk k).set fullShare g :=
    Entails.of_eq (pointsTo_congr fun y hy => by
      have h := wroteC (F := F) mFin k f w g hw y hy
      rw [View.read_whole] at h
      exact h)
  iintro H HK
  iapply (wp_store (defs := defs₀ (F := F)) 𝒱₀ (c : Thread nD τ) none Set.univ (m := mFin) (r := chunk k) hS) $$ H
  iintro H
  ihave H := h $$ H
  iapply HK $$ H

theorem fin_sub (k : Fin 4) : (mFin.view.slice (chunk k)).set ⊆ (chunk k).set := (View.set_slice_whole _ _).subset
theorem orecv_sub (k : Fin 4) : (mOrecv.view.slice (chunk k)).set ⊆ (chunk k).set := (View.set_slice_whole _ _).subset

theorem add64 (k : Fin 4) (f r : S2048x1024.Idx → F .bf16) (x : S512x1024.Idx) :
    k2_pay64 ((mFin.view.slice (chunk k)).read (Elt F) f) ((mOrecv.view.slice (chunk k)).read (Elt F) r) x = ADD f r ((chunk k).emb x) := by
  unfold k2_pay64
  dsimp only
  rw [shapeCast_self]
  rfl
theorem add1 (k : Fin 4) (f r : S2048x1024.Idx → F .bf16) (x : S512x1024.Idx) :
    k2_pay1 (k2_pay67 ((mFin.view.slice (chunk k)).read (Elt F) f)) ((mOrecv.view.slice (chunk k)).read (Elt F) r) x = ADD f r ((chunk k).emb x) := by
  unfold k2_pay1 k2_pay67
  dsimp only
  rw [shapeCast_self]
  rfl

variable (v : Vals F) (K : GSem nD τ sig → ℕ) (c : Dev nD)

/-- The partner's results of chunks 0 and 1 are there and are added. -/
theorem wp_part14 (f : S2048x1024.Idx → F .bf16) (v2 v5 v9 : BitVec 32) (Q : BitVec 32 → sProp 𝕄) :
    iprop(recs v K c
      ∗ ptsOn (F := F) c mFin (chunk 0).set fullShare f
      ∗ ptsOn (F := F) c mFin (chunk 1).set fullShare f
      ∗ Cr c 14
      ∗ At0 c 14
      ∗ Cr c 15
      ∗ At0 c 15
      ∗ OW c [])
    ⊢ iprop((∀ r, ptsOn (F := F) c mFin (chunk 0).set fullShare (ADD f (v.re (pr c)))
        -∗ ptsOn (F := F) c mFin (chunk 1).set fullShare (ADD f (v.re (pr c)))
        -∗ ptsOn (F := F) c mOrecv (chunk 0).set fullShare (v.re (pr c))
        -∗ ptsOn (F := F) c mOrecv (chunk 1).set fullShare (v.re (pr c))
        -∗ At1 c 14
        -∗ At1 c 15
        -∗ OW c [] -∗ Q r)
      -∗ WP c (k2_part14 (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 v2 v5 v9) Q) := by
  rw [k2_part14_eq_skeleton]
  dsimp only [k2_part14_skel]
  iintro ⟨#HR, G0, G1, C14, A14, C15, A15, HO⟩ HK
  iapply (wp_waitDma v K c 14 [] (dst := orecvC 0) (by decide) rfl rfl) $$ [C14 HO A14]
  · isplitr; · iexact HR
    isplitl [C14]; · iexact C14
    isplitl [HO]; · iexact HO
    iexact A14
  iintro HO A14 P14
  ihave R0 := (Entails.of_eq (show pay v c 14 = (ptsOn (F := F) c mOrecv (chunk 0).set fullShare (v.re (pr c)) : sProp 𝕄) from rfl)) $$ P14
  iapply (wp_loadC c mFin 0 (chunk 0).set (fin_sub 0) fullShare f) $$ [G0]
  · iexact G0
  iintro G0
  iapply (wp_loadC c mOrecv 0 (chunk 0).set (orecv_sub 0) fullShare (v.re (pr c))) $$ [R0]
  · iexact R0
  iintro R0
  iapply (wp_loadC c mFin 0 (chunk 0).set (fin_sub 0) fullShare f) $$ [G0]
  · iexact G0
  iintro G0
  iapply (wp_storeC c 0 f (ADD f (v.re (pr c))) _ (add64 0 f (v.re (pr c)))) $$ [G0]
  · iexact G0
  iintro G0
  iapply (wp_waitDma v K c 15 [] (dst := orecvC 1) (by decide) rfl rfl) $$ [C15 HO A15]
  · isplitr; · iexact HR
    isplitl [C15]; · iexact C15
    isplitl [HO]; · iexact HO
    iexact A15
  iintro HO A15 P15
  ihave R1 := (Entails.of_eq (show pay v c 15 = (ptsOn (F := F) c mOrecv (chunk 1).set fullShare (v.re (pr c)) : sProp 𝕄) from rfl)) $$ P15
  iapply (wp_loadC c mFin 1 (chunk 1).set (fin_sub 1) fullShare f) $$ [G1]
  · iexact G1
  iintro G1
  iapply (wp_loadC c mOrecv 1 (chunk 1).set (orecv_sub 1) fullShare (v.re (pr c))) $$ [R1]
  · iexact R1
  iintro R1
  iapply (wp_loadC c mFin 1 (chunk 1).set (fin_sub 1) fullShare f) $$ [G1]
  · iexact G1
  iintro G1
  iapply (wp_storeC c 1 f (ADD f (v.re (pr c))) _ (add64 1 f (v.re (pr c)))) $$ [G1]
  · iexact G1
  iintro G1
  iapply (wp_done c)
  imodintro
  iapply HK $$ G0 G1 R0 R1 A14 A15 HO

/-- The partner's results of chunk 2 are there and are added; those of chunk 3 are there. -/
theorem wp_part15 (f : S2048x1024.Idx → F .bf16) (v2 v5 v9 c4 : BitVec 32) (Q : FVec F S512x1024 .bf16 → sProp 𝕄) :
    iprop(recs v K c
      ∗ ptsOn (F := F) c mFin (chunk 2).set fullShare f
      ∗ ptsOn (F := F) c mFin (chunk 3).set fullShare f
      ∗ Cr c 16
      ∗ At0 c 16
      ∗ Cr c 17
      ∗ At0 c 17
      ∗ OW c [])
    ⊢ iprop((ptsOn (F := F) c mFin (chunk 2).set fullShare (ADD f (v.re (pr c)))
        -∗ ptsOn (F := F) c mFin (chunk 3).set fullShare f
        -∗ ptsOn (F := F) c mOrecv (chunk 2).set fullShare (v.re (pr c))
        -∗ ptsOn (F := F) c mOrecv (chunk 3).set fullShare (v.re (pr c))
        -∗ At1 c 16
        -∗ At1 c 17
        -∗ OW c [] -∗ Q (k2_pay67 ((mFin.view.slice (chunk 3)).read (Elt F) f)))
      -∗ WP c (k2_part15 (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10 v2 v5 v9 c4) Q) := by
  rw [k2_part15_eq_skeleton]
  dsimp only [k2_part15_skel]
  iintro ⟨#HR, G2, G3, C16, A16, C17, A17, HO⟩ HK
  iapply (wp_waitDma v K c 16 [] (dst := orecvC 2) (by decide) rfl rfl) $$ [C16 HO A16]
  · isplitr; · iexact HR
    isplitl [C16]; · iexact C16
    isplitl [HO]; · iexact HO
    iexact A16
  iintro HO A16 P16
  ihave R2 := (Entails.of_eq (show pay v c 16 = (ptsOn (F := F) c mOrecv (chunk 2).set fullShare (v.re (pr c)) : sProp 𝕄) from rfl)) $$ P16
  iapply (wp_loadC c mFin 2 (chunk 2).set (fin_sub 2) fullShare f) $$ [G2]
  · iexact G2
  iintro G2
  iapply (wp_loadC c mOrecv 2 (chunk 2).set (orecv_sub 2) fullShare (v.re (pr c))) $$ [R2]
  · iexact R2
  iintro R2
  iapply (wp_loadC c mFin 2 (chunk 2).set (fin_sub 2) fullShare f) $$ [G2]
  · iexact G2
  iintro G2
  iapply (wp_storeC c 2 f (ADD f (v.re (pr c))) _ (add64 2 f (v.re (pr c)))) $$ [G2]
  · iexact G2
  iintro G2
  iapply (wp_waitDma v K c 17 [] (dst := orecvC 3) (by decide) rfl rfl) $$ [C17 HO A17]
  · isplitr; · iexact HR
    isplitl [C17]; · iexact C17
    isplitl [HO]; · iexact HO
    iexact A17
  iintro HO A17 P17
  ihave R3 := (Entails.of_eq (show pay v c 17 = (ptsOn (F := F) c mOrecv (chunk 3).set fullShare (v.re (pr c)) : sProp 𝕄) from rfl)) $$ P17
  iapply (wp_loadC c mFin 3 (chunk 3).set (fin_sub 3) fullShare f) $$ [G3]
  · iexact G3
  iintro G3
  iapply (wp_done c)
  imodintro
  iapply HK $$ G2 G3 R2 R3 A16 A17 HO

end Cert.KernelIdeal.P
-- ==== Proof.Body5.lean ====
module

public import proofs.«01_k».proof.Proof.Body4

@[expose] public section

set_option maxRecDepth 65536

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

theorem z2 : (![0, 0] : Fin 2 → ℕ) = fun _ => 0 := by decide

/-- The gathered rows are written out. -/
theorem wp_copyOut (c : Dev nD) (A B : S2048x1024.Idx → F .bf16) {β : Type} (kk : PUnit → Prog (TpuEff nD τ sig (Elt F) Λ₀ .tc) β) (Q : β → sProp 𝕄)
    {i₁ i₂ i₃ : ∀ a, (![0, 0] : Fin 2 → ℕ) a + S2048x1024.size a ≤ S2048x1024.size a}
    {h₁ : mXs.view.LoadsAt (Rect.unit (s := S2048x1024) ![0, 0] S2048x1024.size i₁).toLoadRect}
    {h₂ : mFin.view.LoadsAt (Rect.unit (s := S2048x1024) ![0, 0] S2048x1024.size i₂).toLoadRect}
    {hx : (mFin.access (Rect.unit (s := S2048x1024) ![0, 0] S2048x1024.size i₃)).Stores Finset.univ}
    {hm : (Finset.univ : Finset (Rect.unit (s := S2048x1024) ![0, 0] S2048x1024.size i₃).shape.Idx) = Finset.univ ∨ ∀ a, (Rect.unit (s := S2048x1024) ![0, 0] S2048x1024.size i₃).stride a = 1} :
    iprop(ptsOn (F := F) c mXs Finset.univ fullShare A ∗ ptsOn (F := F) c mFin Finset.univ fullShare B)
    ⊢ iprop((ptsOn (F := F) c mXs Finset.univ fullShare A -∗ ptsOn (F := F) c mFin Finset.univ fullShare A -∗ WP c (kk ⟨⟩) Q)
      -∗ WP c (Prog.lift (.load mXs (Rect.unit (s := S2048x1024) ![0, 0] S2048x1024.size i₁).toLoadRect h₁) >>= fun x =>
          Prog.lift (.load mFin (Rect.unit (s := S2048x1024) ![0, 0] S2048x1024.size i₂).toLoadRect h₂) >>= fun _ =>
          Prog.lift (.store mFin (Rect.unit (s := S2048x1024) ![0, 0] S2048x1024.size i₃) x Finset.univ hx hm) >>= kk) Q) := by
  have er : (mXs.access (Rect.unit (s := S2048x1024) ![0, 0] S2048x1024.size i₁)).read (Elt F) A = A := Memref.read_access_unit_zero (Elt F) cc2_scratch0 z2 i₁ A
  have ew : (mFin.access (Rect.unit (s := S2048x1024) ![0, 0] S2048x1024.size i₃)).write (Elt F) B A Finset.univ = A :=
    Memref.write_access_unit_zero_univ (Elt F) cc2_stg5_0 z2 i₃ B A
  iintro ⟨HX, HF⟩ HK
  iapply (wp_load_rect (defs := defs₀ (F := F)) 𝒱₀ (c : Thread nD τ) none Set.univ (m := mXs) (r := Rect.unit (s := S2048x1024) ![0, 0] S2048x1024.size i₁) (Finset.subset_univ _)) $$ HX
  iintro HX
  rw [er]
  iapply (wp_load_rect (defs := defs₀ (F := F)) 𝒱₀ (c : Thread nD τ) none Set.univ (m := mFin) (r := Rect.unit (s := S2048x1024) ![0, 0] S2048x1024.size i₂) (Finset.subset_univ _)) $$ HF
  iintro HF
  iapply (wp_store (defs := defs₀ (F := F)) 𝒱₀ (c : Thread nD τ) none Set.univ (m := mFin) (r := Rect.unit (s := S2048x1024) ![0, 0] S2048x1024.size i₃) (Finset.subset_univ _)) $$ HF
  iintro HF
  rw [ew]
  iapply HK $$ HX HF

theorem wp_seq (c : Dev nD) {α β : Type} (p : Prog (TpuEff nD τ sig (Elt F) Λ₀ .tc) α) (k : α → Prog (TpuEff nD τ sig (Elt F) Λ₀ .tc) β) (Q : β → sProp 𝕄) :
    (WP c p (fun a => WP c (k a) Q) : sProp 𝕄) ⊢ WP c (p >>= k) Q :=
  Entails.of_eq (wp_bind frame _ Set.univ p k Q).symm

/-- The slots come together. -/
theorem slots_union (c : Dev nD) (f g : S2x512x1024.Idx → F .bf16) :
    (iprop(ptsOn (F := F) c mOrem (slotR 0).set fullShare f ∗ ptsOn (F := F) c mOrem (slotR 1).set fullShare g) : sProp 𝕄)
    ⊢ iprop(∃ h, ptsOn (F := F) c mOrem Finset.univ fullShare h) := by
  have hd : Disjoint (slotR 0).set (slotR 1).set := Finset.disjoint_left.mpr fun y h0 h1 => by
    have a := slot_mem.mp h0
    have b := slot_mem.mp h1
    rw [a] at b
    exact absurd b (by decide)
  have hu : (slotR 0).set ∪ (slotR 1).set = Finset.univ := Finset.eq_univ_iff_forall.mpr fun y => by
    have h : (y 0).val < 2 := (y 0).isLt
    rcases Nat.lt_or_ge (y 0).val 1 with h1 | h1
    · exact Finset.mem_union_left _ (slot_mem.mpr (by show _ = 0; omega))
    · exact Finset.mem_union_right _ (slot_mem.mpr (by show _ = 1; omega))
  have h := pointsTo_join (Val := Elt F) (Ix := Unit) (Name := ℕ) (U := UU) (Lvl := ℕ) (ℓ := mOrem.view.loc (c : Thread nD τ)) (q := fullShare) (f := f) (g := g) hd
  rw [hu] at h
  refine h.trans ?_
  iintro H
  iexists _
  iexact H
theorem slots_split (c : Dev nD) (f : S2x512x1024.Idx → F .bf16) :
    (ptsOn (F := F) c mOrem Finset.univ fullShare f : sProp 𝕄)
    ⊢ iprop(ptsOn (F := F) c mOrem (slotR 0).set fullShare f ∗ ptsOn (F := F) c mOrem (slotR 1).set fullShare f) := by
  have hd : Disjoint (slotR 0).set (slotR 1).set := Finset.disjoint_left.mpr fun y h0 h1 => by
    have a := slot_mem.mp h0
    have b := slot_mem.mp h1
    rw [a] at b
    exact absurd b (by decide)
  have hu : (slotR 0).set ∪ (slotR 1).set = Finset.univ := Finset.eq_univ_iff_forall.mpr fun y => by
    have h : (y 0).val < 2 := (y 0).isLt
    rcases Nat.lt_or_ge (y 0).val 1 with h1 | h1
    · exact Finset.mem_union_left _ (slot_mem.mpr (by show _ = 0; omega))
    · exact Finset.mem_union_right _ (slot_mem.mpr (by show _ = 1; omega))
  have h := (pointsTo_union (Val := Elt F) (Ix := Unit) (Name := ℕ) (U := UU) (Lvl := ℕ) (ℓ := mOrem.view.loc (c : Thread nD τ)) (q := fullShare) (f := f) hd).1
  rw [hu] at h
  exact h

theorem on_whole {ℓ : Loc nD τ sig} (S : Finset (Idx ℓ)) (hS : Finset.univ = S) (q : PosShare TreeShare) (f : Buf (Elt F) ℓ) :
    (ℓ ↦[S]{q} f : sProp 𝕄) = ℓ ↦[Finset.univ]{q} f := by rw [hS]
theorem xs_whole (c : Dev nD) (q : PosShare TreeShare) (f : S2048x1024.Idx → F .bf16) :
    (pts (F := F) c mXs q f : sProp 𝕄) = ptsOn (F := F) c mXs Finset.univ q f :=
  on_whole (ℓ := mXs.view.loc (c : Thread nD τ)) _ (show mXs.view.set = Finset.univ from View.set_whole _).symm q f
theorem fin_whole (c : Dev nD) (q : PosShare TreeShare) (f : S2048x1024.Idx → F .bf16) :
    (pts (F := F) c mFin q f : sProp 𝕄) = ptsOn (F := F) c mFin Finset.univ q f :=
  on_whole (ℓ := mFin.view.loc (c : Thread nD τ)) _ (show mFin.view.set = Finset.univ from View.set_whole _).symm q f

/-- What a device ends with. -/
abbrev OUT (v : Vals F) (c : Dev nD) (M : S2048x2.Idx → BitVec 32) (W1 : S4x1024x2048.Idx → F .bf16) (W2 : S4x2048x1024.Idx → F .bf16) : S2048x1024.Idx → F .bf16 :=
  GATH 1 M (ADD (EXP (ebase c) (v.xs c) (v.sa c) W1 W2) (v.re (pr c)))

variable (v : Vals F) (K : GSem nD τ sig → ℕ) (c : Dev nD)

set_option maxHeartbeats 1600000 in
/-- The whole body on one device. -/
theorem wp_body (M : S2048x2.Idx → BitVec 32) (X gf gx : S2048x1024.Idx → F .bf16) (gs : S2x512x1024.Idx → F .bf16) (W1 : S4x1024x2048.Idx → F .bf16) (W2 : S4x2048x1024.Idx → F .bf16)
    (hxs : v.xs c = GATH 0 M X) (hre : v.re c = EXP (ebase c) (v.xs (pr c)) (v.sa (pr c)) W1 W2) (Q : PUnit → sProp 𝕄) :
    iprop(recs v K c
      ∗ Tok (pr c) 18
      ∗ Tok (pr c) 1
      ∗ Tok (pr c) 6
      ∗ Tok (pr c) 7
      ∗ Tok (pr c) 8
      ∗ Tok (pr c) 9
      ∗ Tok (pr c) 14
      ∗ Tok (pr c) 15
      ∗ Tok (pr c) 16
      ∗ Tok (pr c) 17
      ∗ Tok c 0
      ∗ Tok c 2
      ∗ Tok c 3
      ∗ Tok c 4
      ∗ Tok c 5
      ∗ Tok c 10
      ∗ Tok c 11
      ∗ Tok c 12
      ∗ Tok c 13
      ∗ Cr c 18
      ∗ Cr c 1
      ∗ Cr c 6
      ∗ Cr c 7
      ∗ Cr c 8
      ∗ Cr c 9
      ∗ Cr c 14
      ∗ Cr c 15
      ∗ Cr c 16
      ∗ Cr c 17
      ∗ At0 c 0
      ∗ At0 c 1
      ∗ At0 c 2
      ∗ At0 c 3
      ∗ At0 c 4
      ∗ At0 c 5
      ∗ At0 c 6
      ∗ At0 c 7
      ∗ At0 c 8
      ∗ At0 c 9
      ∗ At0 c 10
      ∗ At0 c 11
      ∗ At0 c 12
      ∗ At0 c 13
      ∗ At0 c 14
      ∗ At0 c 15
      ∗ At0 c 16
      ∗ At0 c 17
      ∗ At0 c 18
      ∗ pts (F := F) c mXb fullShare X
      ∗ pts (F := F) c mMeta fullShare M
      ∗ pts (F := F) c mSa fullShare (v.sa c)
      ∗ pts (F := F) c mW1 fullShare W1
      ∗ pts (F := F) c mW2 fullShare W2
      ∗ ptsOn (F := F) c mFin Finset.univ fullShare gf
      ∗ ptsOn (F := F) c mXs Finset.univ fullShare gx
      ∗ (∃ f, ptsOn (F := F) c mXrem Finset.univ fullShare f)
      ∗ (∃ f, pts (F := F) c mArem fullShare f)
      ∗ ptsOn (F := F) c mOrem Finset.univ fullShare gs
      ∗ (∃ f, ptsOn (F := F) c mOrecv Finset.univ fullShare f)
      ∗ OW c [18, 1, 6, 7, 8, 9, 14, 15, 16, 17])
    ⊢ iprop((pts (F := F) c mXb fullShare X
        -∗ pts (F := F) c mMeta fullShare M
        -∗ pts (F := F) c mSa fullShare (v.sa c)
        -∗ pts (F := F) c mW1 fullShare W1
        -∗ pts (F := F) c mW2 fullShare W2
        -∗ ptsOn (F := F) c mFin Finset.univ fullShare (OUT v c M W1 W2)
        -∗ (∃ f, ptsOn (F := F) c mXs Finset.univ fullShare f)
        -∗ (∃ f, ptsOn (F := F) c mXrem Finset.univ fullShare f)
        -∗ (∃ f, pts (F := F) c mArem fullShare f)
        -∗ (∃ f, ptsOn (F := F) c mOrem Finset.univ fullShare f)
        -∗ (∃ f, ptsOn (F := F) c mOrecv Finset.univ fullShare f)
        -∗ semVal (cell c 0) 0
        -∗ semVal (cell c 1) 0
        -∗ semVal (cell c 2) 0
        -∗ semVal (cell c 3) 0
        -∗ semVal (cell c 4) 0
        -∗ semVal (cell c 5) 0
        -∗ semVal (cell c 6) 0
        -∗ semVal (cell c 7) 0
        -∗ semVal (cell c 8) 0
        -∗ semVal (cell c 9) 0
        -∗ semVal (cell c 10) 0
        -∗ semVal (cell c 11) 0
        -∗ semVal (cell c 12) 0
        -∗ semVal (cell c 13) 0
        -∗ semVal (cell c 14) 0
        -∗ semVal (cell c 15) 0
        -∗ semVal (cell c 16) 0
        -∗ semVal (cell c 17) 0
        -∗ semVal (cell c 18) 0
        -∗ OW c [] -∗ Q ⟨⟩)
      -∗ WP c (cc2_body (F := F) mXb hXb mMeta hMeta mSa hSa mW1 hW1 mW2 hW2 mFin hFin mXs hXs mXrem hXrem mArem hArem mOrem hOrem mOrecv hOrecv cc2_scratch5 cc2_scratch6 cc2_scratch7 cc2_scratch8 cc2_scratch9 cc2_scratch10) Q) := by
  rw [cc2_body_eq_skeleton]
  dsimp only [cc2_body_skel]
  iintro ⟨#HR, T18, T1, T6, T7, T8, T9, T14, T15, T16, T17, T0, T2, T3, T4, T5, T10, T11, T12, T13, C18, C1, C6, C7, C8, C9, C14, C15, C16, C17, A0, A1, A2, A3, A4, A5, A6, A7, A8, A9, A10, A11, A12, A13, A14, A15, A16, A17, A18, Hx, Hm, Hs, Hw1, Hw2, Hf, HXs, FX, FA, HOs, FR, HO⟩ HK
  ihave H := (Entails.of_eq (xs_fourU c fullShare gx)) $$ HXs
  icases H with ⟨H0, H1, H2, H3⟩
  iapply (wp_seq c)
  iapply (wp_part6 v K c M X gx hxs [6, 7, 8, 9, 14, 15, 16, 17] (by decide)) $$ [T18 FA FX FR C18 A18 T0 T1 Hs Hm Hx H0 HO]
  · isplitr; · iexact HR
    isplitl [T18]; · iexact T18
    isplitl [FA]; · iexact FA
    isplitl [FX]; · iexact FX
    isplitl [FR]; · iexact FR
    isplitl [C18]; · iexact C18
    isplitl [A18]; · iexact A18
    isplitl [T0]; · iexact T0
    isplitl [T1]; · iexact T1
    isplitl [Hs]; · iexact Hs
    isplitl [Hm]; · iexact Hm
    isplitl [Hx]; · iexact Hx
    isplitl [H0]; · iexact H0
    iexact HO
  iintro %v2 %v5 %v9 %v26 #HP ⟨%fx, DX⟩ ⟨%fr, DR⟩ Hr Hm Hx H0 A18 C0 HO
  try dsimp only
  ihave H := (Entails.of_eq (xrem_fourU (pr c) fullShare fx)) $$ DX
  icases H with ⟨E0, E1, E2, E3⟩
  ihave H := (Entails.of_eq (orecv_fourU (pr c) fullShare fr)) $$ DR
  icases H with ⟨D0, D1, D2, D3⟩
  iapply (wp_seq c)
  iapply (wp_part7 v K c M X gx gx fx fx hxs [8, 9, 14, 15, 16, 17] v2 v5 v9 v26 2#32) $$ [T2 T6 T3 T7 Hm Hx H0 H1 H2 E0 E1 HO]
  · isplitr; · iexact HR
    isplitr; · iexact HP
    isplitl [T2]; · iexact T2
    isplitl [T6]; · iexact T6
    isplitl [T3]; · iexact T3
    isplitl [T7]; · iexact T7
    isplitl [Hm]; · iexact Hm
    isplitl [Hx]; · iexact Hx
    isplitl [H0]; · iexact H0
    isplitl [H1]; · iexact H1
    isplitl [H2]; · iexact H2
    isplitl [E0]; · iexact E0
    isplitl [E1]; · iexact E1
    iexact HO
  iintro %v54 Hm Hx H0 H1 H2 C2 C3 HO
  try dsimp only
  iapply (wp_seq c)
  iapply (wp_part8 v K c M X gx gf fx fx hxs W1 W2 v2 v5 v9 (ebase c) v54) $$ [T4 T8 T5 T9 Hm Hx H0 H1 H2 H3 E2 E3 Hr Hw1 Hw2 Hf C0 A0 HO]
  · isplitr; · iexact HR
    isplitr; · iexact HP
    isplitl [T4]; · iexact T4
    isplitl [T8]; · iexact T8
    isplitl [T5]; · iexact T5
    isplitl [T9]; · iexact T9
    isplitl [Hm]; · iexact Hm
    isplitl [Hx]; · iexact Hx
    isplitl [H0]; · iexact H0
    isplitl [H1]; · iexact H1
    isplitl [H2]; · iexact H2
    isplitl [H3]; · iexact H3
    isplitl [E2]; · iexact E2
    isplitl [E3]; · iexact E3
    isplitl [Hr]; · iexact Hr
    isplitl [Hw1]; · iexact Hw1
    isplitl [Hw2]; · iexact Hw2
    isplitl [Hf]; · iexact Hf
    isplitl [C0]; · iexact C0
    isplitl [A0]; · iexact A0
    iexact HO
  iintro %r8 Hm Hx HXR Hs Hw1 Hw2 Hf A0 C4 C5 HO
  try dsimp only
  obtain ⟨v80, v81⟩ := r8
  dsimp only
  ihave H := (slots_split c gs) $$ HOs
  icases H with ⟨S0, S1⟩
  iapply (wp_seq c)
  iapply (wp_part9 v K c W1 W2 v2 v5 v9 (ebase c) v80 v81 hre gs) $$ [Hw1 Hw2 S0 C1 A1 C2 A2 C6 A6 HO]
  · isplitr; · iexact HR
    isplitl [Hw1]; · iexact Hw1
    isplitl [Hw2]; · iexact Hw2
    isplitl [S0]; · iexact S0
    isplitl [C1]; · iexact C1
    isplitl [A1]; · iexact A1
    isplitl [C2]; · iexact C2
    isplitl [A2]; · iexact A2
    isplitl [C6]; · iexact C6
    isplitl [A6]; · iexact A6
    iexact HO
  iintro %_ Ha L0 X0 Hw1 Hw2 S0 A1 A2 A6 HO
  try dsimp only
  iapply (wp_seq c)
  iapply (wp_part10 v K c W1 W2 v2 v5 v9 (ebase c) hre gs fr) $$ [T10 T14 S0 D0 Ha Hw1 Hw2 S1 C3 A3 C7 A7 HO]
  · isplitr; · iexact HR
    isplitr; · iexact HP
    isplitl [T10]; · iexact T10
    isplitl [T14]; · iexact T14
    isplitl [S0]; · iexact S0
    isplitl [D0]; · iexact D0
    isplitl [Ha]; · iexact Ha
    isplitl [Hw1]; · iexact Hw1
    isplitl [Hw2]; · iexact Hw2
    isplitl [S1]; · iexact S1
    isplitl [C3]; · iexact C3
    isplitl [A3]; · iexact A3
    isplitl [C7]; · iexact C7
    isplitl [A7]; · iexact A7
    iexact HO
  iintro %_ Ha L1 X1 Hw1 Hw2 S1 C10 A3 A7 HO
  try dsimp only
  iapply (wp_seq c)
  iapply (wp_part11 v K c v2 v5 v9 fr) $$ [T11 T15 S1 D1 C4 A4 C8 A8 C10 A10 HO]
  · isplitr; · iexact HR
    isplitr; · iexact HP
    isplitl [T11]; · iexact T11
    isplitl [T15]; · iexact T15
    isplitl [S1]; · iexact S1
    isplitl [D1]; · iexact D1
    isplitl [C4]; · iexact C4
    isplitl [A4]; · iexact A4
    isplitl [C8]; · iexact C8
    isplitl [A8]; · iexact A8
    isplitl [C10]; · iexact C10
    isplitl [A10]; · iexact A10
    iexact HO
  iintro L2 X2 S0 C11 A4 A8 A10 HO
  try dsimp only
  iapply (wp_seq c)
  iapply (wp_part12 v K c W1 W2 v2 v5 v9 (ebase c) hre (slotC 0 (v.re c)) fr) $$ [X2 Ha Hw1 Hw2 S0 T12 T16 D2 C5 A5 HO]
  · isplitr; · iexact HR
    isplitr; · iexact HP
    isplitl [X2]; · iexact X2
    isplitl [Ha]; · iexact Ha
    isplitl [Hw1]; · iexact Hw1
    isplitl [Hw2]; · iexact Hw2
    isplitl [S0]; · iexact S0
    isplitl [T12]; · iexact T12
    isplitl [T16]; · iexact T16
    isplitl [D2]; · iexact D2
    isplitl [C5]; · iexact C5
    isplitl [A5]; · iexact A5
    iexact HO
  iintro %_ X2 Ha Hw1 Hw2 L3 C12 A5 HO
  try dsimp only
  iapply (wp_seq c)
  iapply (wp_part13 v K c W1 W2 v2 v5 v9 (ebase c) hre fr) $$ [Ha Hw1 Hw2 T13 T17 D3 C9 A9 C11 A11 HO]
  · isplitr; · iexact HR
    isplitr; · iexact HP
    isplitl [Ha]; · iexact Ha
    isplitl [Hw1]; · iexact Hw1
    isplitl [Hw2]; · iexact Hw2
    isplitl [T13]; · iexact T13
    isplitl [T17]; · iexact T17
    isplitl [D3]; · iexact D3
    isplitl [C9]; · iexact C9
    isplitl [A9]; · iexact A9
    isplitl [C11]; · iexact C11
    isplitl [A11]; · iexact A11
    iexact HO
  iintro %_ X3 Ha Hw1 Hw2 C13 A9 A11 HO
  try dsimp only
  ihave H := (Entails.of_eq (fin_fourU c fullShare (EXP (ebase c) (v.xs c) (v.sa c) W1 W2))) $$ Hf
  icases H with ⟨G0, G1, G2, G3⟩
  iapply (wp_seq c)
  iapply (wp_part14 v K c (EXP (ebase c) (v.xs c) (v.sa c) W1 W2) v2 v5 v9) $$ [G0 G1 C14 A14 C15 A15 HO]
  · isplitr; · iexact HR
    isplitl [G0]; · iexact G0
    isplitl [G1]; · iexact G1
    isplitl [C14]; · iexact C14
    isplitl [A14]; · iexact A14
    isplitl [C15]; · iexact C15
    isplitl [A15]; · iexact A15
    iexact HO
  iintro %c4 G0 G1 R0 R1 A14 A15 HO
  try dsimp only
  iapply (wp_seq c)
  iapply (wp_part15 v K c (EXP (ebase c) (v.xs c) (v.sa c) W1 W2) v2 v5 v9 c4) $$ [G2 G3 C16 A16 C17 A17 HO]
  · isplitr; · iexact HR
    isplitl [G2]; · iexact G2
    isplitl [G3]; · iexact G3
    isplitl [C16]; · iexact C16
    isplitl [A16]; · iexact A16
    isplitl [C17]; · iexact C17
    isplitl [A17]; · iexact A17
    iexact HO
  iintro G2 G3 R2 R3 A16 A17 HO
  try dsimp only
  iapply (wp_loadC c mOrecv 3 (chunk 3).set (orecv_sub 3) fullShare (v.re (pr c))) $$ [R3]
  · iexact R3
  iintro R3
  iapply (wp_loadC c mFin 3 (chunk 3).set (fin_sub 3) fullShare (EXP (ebase c) (v.xs c) (v.sa c) W1 W2)) $$ [G3]
  · iexact G3
  iintro G3
  iapply (wp_storeC c 3 (EXP (ebase c) (v.xs c) (v.sa c) W1 W2) (ADD (EXP (ebase c) (v.xs c) (v.sa c) W1 W2) (v.re (pr c))) _ (add1 3 (EXP (ebase c) (v.xs c) (v.sa c) W1 W2) (v.re (pr c)))) $$ [G3]
  · iexact G3
  iintro G3
  iapply (wp_waitDma v K c 12 [] (dst := oremS 0) (by decide) rfl rfl) $$ [C12 HO A12]
  · isplitr; · iexact HR
    isplitl [C12]; · iexact C12
    isplitl [HO]; · iexact HO
    iexact A12
  iintro HO A12 P12
  ihave S0 := (Entails.of_eq (show pay v c 12 = (ptsOn (F := F) c mOrem (slotR 0).set fullShare (slotC 2 (v.re c)) : sProp 𝕄) from rfl)) $$ P12
  iapply (wp_waitDma v K c 13 [] (dst := oremS 1) (by decide) rfl rfl) $$ [C13 HO A13]
  · isplitr; · iexact HR
    isplitl [C13]; · iexact C13
    isplitl [HO]; · iexact HO
    iexact A13
  iintro HO A13 P13
  ihave S1 := (Entails.of_eq (show pay v c 13 = (ptsOn (F := F) c mOrem (slotR 1).set fullShare (slotC 3 (v.re c)) : sProp 𝕄) from rfl)) $$ P13
  ihave Hf := (Entails.of_eq (fin_fourU c fullShare (ADD (EXP (ebase c) (v.xs c) (v.sa c) W1 W2) (v.re (pr c)))).symm) $$ [G0 G1 G2 G3]
  · isplitl [G0]; · iexact G0
    isplitl [G1]; · iexact G1
    isplitl [G2]; · iexact G2
    iexact G3
  ihave HXL := (Entails.of_eq (xs_fourU c fullShare.left (v.xs c)).symm) $$ [L0 L1 L2 L3]
  · isplitl [L0]; · iexact L0
    isplitl [L1]; · iexact L1
    isplitl [L2]; · iexact L2
    iexact L3
  ihave HXR := (Entails.of_eq (xs_whole c fullShare.right (v.xs c))) $$ HXR
  ihave HX := ((halve c mXs Finset.univ (v.xs c)).2) $$ [HXL HXR]
  · isplitl [HXL]; · iexact HXL
    iexact HXR
  ihave Hf := (Entails.of_eq (fin_whole c fullShare (ADD (EXP (ebase c) (v.xs c) (v.sa c) W1 W2) (v.re (pr c)))).symm) $$ Hf
  iapply (wp_t14 c fullShare fullShare M (ADD (EXP (ebase c) (v.xs c) (v.sa c) W1 W2) (v.re (pr c))) (v.xs c)) $$ [Hm Hf HX]
  · isplitl [Hm]; · iexact Hm
    isplitl [Hf]; · iexact Hf
    iexact HX
  iintro Hm Hf HX
  ihave Hf := (Entails.of_eq (fin_whole c fullShare (ADD (EXP (ebase c) (v.xs c) (v.sa c) W1 W2) (v.re (pr c))))) $$ Hf
  iapply (wp_copyOut c (GATH 1 M (ADD (EXP (ebase c) (v.xs c) (v.sa c) W1 W2) (v.re (pr c)))) (ADD (EXP (ebase c) (v.xs c) (v.sa c) W1 W2) (v.re (pr c)))) $$ [HX Hf]
  · isplitl [HX]; · iexact HX
    iexact Hf
  iintro HX Hf
  ihave HXm := (Entails.of_eq (xrem_fourU c fullShare (v.xs (pr c))).symm) $$ [X0 X1 X2 X3]
  · isplitl [X0]; · iexact X0
    isplitl [X1]; · iexact X1
    isplitl [X2]; · iexact X2
    iexact X3
  ihave HRv := (Entails.of_eq (orecv_fourU c fullShare (v.re (pr c))).symm) $$ [R0 R1 R2 R3]
  · isplitl [R0]; · iexact R0
    isplitl [R1]; · iexact R1
    isplitl [R2]; · iexact R2
    iexact R3
  ihave HSl := (slots_union c _ _) $$ [S0 S1]
  · isplitl [S0]; · iexact S0
    iexact S1
  iapply (wp_done c)
  imod (closeI v K c 0) $$ [A0] with Z0
  · isplitr; · iexact HR
    iexact A0
  imod (closeI v K c 1) $$ [A1] with Z1
  · isplitr; · iexact HR
    iexact A1
  imod (closeI v K c 2) $$ [A2] with Z2
  · isplitr; · iexact HR
    iexact A2
  imod (closeI v K c 3) $$ [A3] with Z3
  · isplitr; · iexact HR
    iexact A3
  imod (closeI v K c 4) $$ [A4] with Z4
  · isplitr; · iexact HR
    iexact A4
  imod (closeI v K c 5) $$ [A5] with Z5
  · isplitr; · iexact HR
    iexact A5
  imod (closeI v K c 6) $$ [A6] with Z6
  · isplitr; · iexact HR
    iexact A6
  imod (closeI v K c 7) $$ [A7] with Z7
  · isplitr; · iexact HR
    iexact A7
  imod (closeI v K c 8) $$ [A8] with Z8
  · isplitr; · iexact HR
    iexact A8
  imod (closeI v K c 9) $$ [A9] with Z9
  · isplitr; · iexact HR
    iexact A9
  imod (closeI v K c 10) $$ [A10] with Z10
  · isplitr; · iexact HR
    iexact A10
  imod (closeI v K c 11) $$ [A11] with Z11
  · isplitr; · iexact HR
    iexact A11
  imod (closeI v K c 12) $$ [A12] with Z12
  · isplitr; · iexact HR
    iexact A12
  imod (closeI v K c 13) $$ [A13] with Z13
  · isplitr; · iexact HR
    iexact A13
  imod (closeI v K c 14) $$ [A14] with Z14
  · isplitr; · iexact HR
    iexact A14
  imod (closeI v K c 15) $$ [A15] with Z15
  · isplitr; · iexact HR
    iexact A15
  imod (closeI v K c 16) $$ [A16] with Z16
  · isplitr; · iexact HR
    iexact A16
  imod (closeI v K c 17) $$ [A17] with Z17
  · isplitr; · iexact HR
    iexact A17
  imod (closeI v K c 18) $$ [A18] with Z18
  · isplitr; · iexact HR
    iexact A18
  imodintro
  iapply HK $$ Hx Hm Hs Hw1 Hw2 Hf [HX] [HXm] [Ha] HSl [HRv] Z0 Z1 Z2 Z3 Z4 Z5 Z6 Z7 Z8 Z9 Z10 Z11 Z12 Z13 Z14 Z15 Z16 Z17 Z18 HO
  · iexists _; iexact HX
  · iexists _; iexact HXm
  · iexists _; iexact Ha
  · iexists _; iexact HRv

end Cert.KernelIdeal.P
-- ==== Proof.Quiet.lean ====
module

public import proofs.«01_k».proof.Proof.Body5
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit

@[expose] public section

set_option maxRecDepth 65536

noncomputable section

/-! The two calls that do not talk: each copies an array of weights, expert by expert. -/

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

/-- A rectangle that is everything: from 0, of the whole size. -/
theorem emb_all {s : Shape} (o : Fin s.rank → ℕ) (ho : ∀ a, o a = 0) (h : ∀ a, o a + s.size a ≤ s.size a) (x : s.Idx) :
    (Rect.unit (s := s) o s.size h).emb x = x := by
  funext a
  apply Fin.ext
  rw [Rect.emb_apply]
  show o a + 1 * (x a).val = (x a).val
  rw [ho, Nat.zero_add, Nat.one_mul]

/-- A whole buffer loaded and stored into another. -/
theorem wp_all {s : Shape} (c : Dev nD) (A B : Memref sig .tc .vmem s .bf16) (o : Fin s.rank → ℕ) (ho : ∀ a, o a = 0)
    (h : ∀ a, o a + s.size a ≤ s.size a) (X Y : s.Idx → F .bf16) (pay : (s.Idx → F .bf16) → s.Idx → F .bf16) (hp : ∀ u, pay u = u)
    {h₁ : A.view.LoadsAt (Rect.unit (s := s) o s.size h).toLoadRect} {h₂ : B.view.LoadsAt (Rect.unit (s := s) o s.size h).toLoadRect}
    {h₃ : (B.access (Rect.unit (s := s) o s.size h)).Stores Finset.univ}
    {h₄ : (Finset.univ : Finset (Rect.unit (s := s) o s.size h).shape.Idx) = Finset.univ ∨ ∀ a, (Rect.unit (s := s) o s.size h).stride a = 1}
    (Q : PUnit → sProp 𝕄) :
    iprop(owns (c : Thread nD τ) A fullShare X ∗ owns (c : Thread nD τ) B fullShare Y)
    ⊢ iprop((owns (c : Thread nD τ) A fullShare X -∗ owns (c : Thread nD τ) B fullShare X -∗ Q ⟨⟩)
      -∗ WP c (Prog.lift (.load A (Rect.unit (s := s) o s.size h).toLoadRect h₁) >>= fun u : s.Idx → F .bf16 =>
          Prog.lift (.load B (Rect.unit (s := s) o s.size h).toLoadRect h₂) >>= fun _ : s.Idx → F .bf16 =>
          Prog.lift (.store B (Rect.unit (s := s) o s.size h) (pay u) Finset.univ h₃ h₄) >>= fun _ => pure ⟨⟩) Q) := by
  unfold owns
  iintro ⟨⟨%f, %hf, HA⟩, ⟨%g, %hg, HB⟩⟩ HK
  iapply (wp_load_rect (defs := defs₀ (F := F)) 𝒱₀ (c : Thread nD τ) none Set.univ (m := A) (r := Rect.unit (s := s) o s.size h) (View.set_slice_subset _ _)) $$ HA
  iintro HA
  iapply (wp_load_rect (defs := defs₀ (F := F)) 𝒱₀ (c : Thread nD τ) none Set.univ (m := B) (r := Rect.unit (s := s) o s.size h) (View.set_slice_subset _ _)) $$ HB
  iintro HB
  iapply (wp_store (defs := defs₀ (F := F)) 𝒱₀ (c : Thread nD τ) none Set.univ (m := B) (r := Rect.unit (s := s) o s.size h) (View.set_slice_subset _ _)) $$ HB
  iintro HB
  iapply wp_done; imodintro
  iapply HK $$ [HA] [HB]
  · iexists f; isplitr; · ipureintro; exact hf
    iexact HA
  · iexists _; isplitr; swap; · iexact HB
    ipureintro
    funext y
    have e := View.read_slice_write_emb (Val := Elt F) (v := B.view) (Rect.unit (s := s) o s.size h) g
      (pay ((A.access (Rect.unit (s := s) o s.size h)).read (Elt F) f)) (Finset.mem_univ (α := (Rect.unit (s := s) o s.size h).shape.Idx) y)
    rw [emb_all o ho h] at e
    refine e.trans ?_
    rw [hp, ← hf]
    show A.view.read (Elt F) f ((Rect.unit (s := s) o s.size h).emb y) = _
    rw [emb_all o ho h]

/-! ## The proof data -/

variable (W : Dev nD → Valuation τ sig (Elt F)) (O : Dev nD → CellTallies nD τ sig Unit)

/-- What the first call finds in a block. -/
abbrev blk0 (c : Dev nD) (t : Fin cfg0.N) : S1x1024x2048.Idx → Elt F .bf16 :=
  ((cfg0.win 0).blk t).view.read (Elt F) (W c main_arg2)
abbrev blk1 (c : Dev nD) (t : Fin cfg1.N) : S1x2048x1024.Idx → Elt F .bf16 :=
  ((cfg1.win 0).blk t).view.read (Elt F) (W c main_arg3)

abbrev rest0 (c : Dev nD) : sProp 𝕄 := Pipeline.scopedRest (Ix := Unit) (Name := ℕ) (U := UU) (Lvl := ℕ) (Val := Elt F) spec0 c
abbrev rest1 (c : Dev nD) : sProp 𝕄 := Pipeline.scopedRest (Ix := Unit) (Name := ℕ) (U := UU) (Lvl := ℕ) (Val := Elt F) spec1 c

def dat0 (c : Dev nD) : Dat τ (Elt F) Unit ℕ UU ℕ cfg0 c where
  A w := W c (Pipeline.arrRef spec0 w)
  after w t := match w with
    | ⟨0, _⟩ => blk0 W c t
    | ⟨1, _⟩ => blk0 W c t
  Φ _ := rest0 c
  q _ := fullShare
  owed _ := O c

def dat1 (c : Dev nD) : Dat τ (Elt F) Unit ℕ UU ℕ cfg1 c where
  A w := W c (Pipeline.arrRef spec1 w)
  after w t := match w with
    | ⟨0, _⟩ => blk1 W c t
    | ⟨1, _⟩ => blk1 W c t
  Φ _ := rest1 c
  q _ := fullShare
  owed _ := O c

theorem before0 (c : Dev nD) (t : Fin cfg0.N) (d) : (dat0 W O c).before 0 t d = blk0 W c t := by
  unfold Dat.before; rw [if_pos (fetch0_0 t)]; rfl
theorem before1 (c : Dev nD) (t : Fin cfg1.N) (d) : (dat1 W O c).before 0 t d = blk1 W c t := by
  unfold Dat.before; rw [if_pos (fetch1_0 t)]; rfl

theorem body0 (c : Dev nD) : BodyObligation (dat0 W O c) (defs₀ (F := F)) 𝒱₀ () Set.univ := fun t => by
  rw [bigSep_W0, bigSep_W0]
  rw [show (dat0 W O c).Φ t.castSucc = rest0 c from rfl, show (dat0 W O c).Φ t.succ = rest0 c from rfl,
    show (dat0 W O c).owesAt () t.succ = (dat0 W O c).owesAt () t.castSucc from rfl]
  show _ ⊢ WP c (bodyAt0 t) _
  unfold bodyAt0
  rw [cc0_body_eq_skeleton]
  unfold cc0_body_skel
  iintro ⟨HΦ, HO, ⟨%d, H0⟩, ⟨%d', H1⟩⟩
  ihave H0 := (Entails.of_eq (congrArg (owns (c : Thread nD τ) ((cfg0.win 0).stage (cfg0.slots t 0)) fullShare) (before0 W O c t d))) $$ H0
  iapply (wp_all c ((cfg0.win 0).stage (cfg0.slots t 0)) ((cfg0.win 1).stage (cfg0.slots t 1)) ![0, 0, 0] (by decide)
    inb_S1x1024x2048_S1x1024x2048_0_0_0 (blk0 W c t) _ k0_pay1 (fun u => shapeCast_self _ _)) $$ [H0 H1]
  · isplitl [H0]; · iexact H0
    iexact H1
  iintro H0 H1
  isplitl [HΦ]; · iexact HΦ
  isplitl [HO]; · iexact HO
  isplitl [H0]; · iexact H0
  iexact H1

theorem body1 (c : Dev nD) : BodyObligation (dat1 W O c) (defs₀ (F := F)) 𝒱₀ () Set.univ := fun t => by
  rw [bigSep_W1, bigSep_W1]
  rw [show (dat1 W O c).Φ t.castSucc = rest1 c from rfl, show (dat1 W O c).Φ t.succ = rest1 c from rfl,
    show (dat1 W O c).owesAt () t.succ = (dat1 W O c).owesAt () t.castSucc from rfl]
  show _ ⊢ WP c (bodyAt1 t) _
  unfold bodyAt1
  rw [cc1_body_eq_skeleton]
  unfold cc1_body_skel
  iintro ⟨HΦ, HO, ⟨%d, H0⟩, ⟨%d', H1⟩⟩
  ihave H0 := (Entails.of_eq (congrArg (owns (c : Thread nD τ) ((cfg1.win 0).stage (cfg1.slots t 0)) fullShare) (before1 W O c t d))) $$ H0
  iapply (wp_all c ((cfg1.win 0).stage (cfg1.slots t 0)) ((cfg1.win 1).stage (cfg1.slots t 1)) ![0, 0, 0] (by decide)
    inb_S1x2048x1024_S1x2048x1024_0_0_0 (blk1 W c t) _ k1_pay1 (fun u => shapeCast_self _ _)) $$ [H0 H1]
  · isplitl [H0]; · iexact H0
    iexact H1
  iintro H0 H1
  isplitl [HΦ]; · iexact HΦ
  isplitl [HO]; · iexact HO
  isplitl [H0]; · iexact H0
  iexact H1

/-! ## What the arrays end up holding -/

theorem copied0 (c : Dev nD) : (dat0 W O c).arrAt 1 cfg0.N = W c main_arg2 := by
  refine (dat0 W O c).arrAt_eq_of_covers 1 _ (by decide +kernel) fun t hf y => ?_
  rfl
theorem copied1 (c : Dev nD) : (dat1 W O c).arrAt 1 cfg1.N = W c main_arg3 := by
  refine (dat1 W O c).arrAt_eq_of_covers 1 _ (by decide +kernel) fun t hf y => ?_
  rfl

end Cert.KernelIdeal.P
-- ==== Proof.Talk.lean ====
module

public import proofs.«01_k».proof.Proof.Quiet
public import Idealize.ShloMosaic.Lib.Rounds.Family

@[expose] public section

set_option maxRecDepth 65536

noncomputable section

/-! The talking call: what its one point starts from and ends with, its arrays, its counters opened. -/

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

/-! ## All nineteen, one by one -/

theorem split19 (Φ : Fin 19 → sProp 𝕄) : bigSep Finset.univ Φ = iprop(Φ 18 ∗ bigSep Finset.univ fun k : Fin 18 => Φ k.castSucc) := by
  rw [Fin.univ_castSuccEmb, Finset.cons_eq_insert, bigSep_insert (by decide), bigSep_map]
  rfl

theorem list19 (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) := by
  rw [bigSep_univ_eq_bigSepL [0, 1, 2, 3, 4, 5, 6, 7, 8, 9, 10, 11, 12, 13, 14, 15, 16, 17, 18] (by decide) (by decide)]
  rfl

theorem list18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) := by
  rw [bigSep_univ_eq_bigSepL [0, 1, 2, 3, 4, 5, 6, 7, 8, 9, 10, 11, 12, 13, 14, 15, 16, 17] (by decide) (by decide)]
  rfl

/-- The counters that the partner raises, in the order of what is owed. -/
abbrev owedL : List (Fin 19) := [18, 1, 6, 7, 8, 9, 14, 15, 16, 17]
/-- Who raises counter i of its own row: device c raises its partner's arrivals and its own departures. -/
def who (c : Dev nD) (i : Fin 19) : Dev nD := if i ∈ owedL then pr c else c
/-- What a device owes at the start. -/
def O₀ (c : Dev nD) : CellTallies nD τ sig Unit := Ow (pr c) owedL

theorem listOwed (Φ : Fin 19 → sProp 𝕄) : bigSep owedL.toFinset Φ = iprop(Φ 18 ∗ Φ 1 ∗ Φ 6 ∗ Φ 7 ∗ Φ 8 ∗ Φ 9 ∗ Φ 14 ∗ Φ 15 ∗ Φ 16 ∗ Φ 17) := by
  rw [bigSep_eq_bigSepL_of_eq owedL rfl (by decide)]
  rfl

/-- The eighteen counters that belong to the talking call. -/
abbrev osem2 : Fin 18 → SemLoc sig := fun k => semOf k.castSucc

/-! ## The values -/

variable (W : Dev nD → Valuation τ sig (Elt F))

/-- What each device sends, from what its arrays hold at the call. -/
def vals : Vals F where
  xs c := GATH 0 (W c main_v6) (W c main_arg0)
  sa c := W c main_v7
  re c := EXP (ebase c) (GATH 0 (W (pr c) main_v6) (W (pr c) main_arg0)) (W (pr c) main_v7) (W c main_v8) (W c main_v9)

/-- What the call leaves in its result. -/
abbrev result (c : Dev nD) : S2048x1024.Idx → F .bf16 := OUT (vals W) c (W c main_v6) (W c main_v8) (W c main_v9)

abbrev rest2 (c : Dev nD) : sProp 𝕄 := Pipeline.scopedRest (Ix := Unit) (Name := ℕ) (U := UU) (Lvl := ℕ) (Val := Elt F) spec2 c

/-- The protocol's records before the call's own counters are open. -/
def recs0 (v : Vals F) (K : GSem nD τ sig → ℕ) (c : Dev nD) : sProp 𝕄 :=
  iprop((bigSep Finset.univ fun i : Fin 19 => cellInv ER (Rd v) (K (cell c i)) (cell c i))
    ∗ (bigSep Finset.univ fun i : Fin 19 => cellInv ER (Rd v) (K (cell (pr c) i)) (cell (pr c) i))
    ∗ reached ER (cell c 18) 0 ∗ reached ER (cell (pr c) 18) 0)

instance recs0_persistent (v : Vals F) (K : GSem nD τ sig → ℕ) (c : Dev nD) : BI.Persistent (recs0 v K c) := by unfold recs0; infer_instance

/-- The rights to raise and to wait. -/
def rights (c : Dev nD) : sProp 𝕄 :=
  iprop((bigSep Finset.univ fun i : Fin 19 => Tok (who c i) i) ∗ bigSep owedL.toFinset fun i => Cr c i)

/-- What the launch keeps for the call, -/
def Tk (c : Dev nD) : sProp 𝕄 :=
  iprop((∃ K, recs0 (vals W) K c) ∗ rights c ∗ At0 c 18 ∗ bigSep Finset.univ fun k : Fin 18 => openTok ER (cell c k.castSucc))
/-- what its point starts from, -/
def Xk (c : Dev nD) : sProp 𝕄 :=
  iprop((∃ K, recs (vals W) K c) ∗ rights c ∗ bigSep Finset.univ fun i : Fin 19 => At0 c i)
/-- and what is left of it: the barrier's counter at zero. -/
def Yk (c : Dev nD) : sProp 𝕄 := semVal (cell c 18) 0

theorem hopen2 (c : Dev nD) : iprop(Tk W c ∗ Pipeline.ownSems0 osem2 c ∗ levAts L lv) ⊢ (|={Set.univ}=> Xk W c : sProp 𝕄) := by
  unfold Tk Xk recs0 Pipeline.ownSems0
  iintro ⟨⟨⟨%K, ⟨#HI, #HP, #Hb, #HbP⟩⟩, Hr, HA, Ho⟩, Hv, #HL⟩
  ihave HI' := (Entails.of_eq (split19 fun i : Fin 19 => cellInv ER (Rd (vals W)) (K (cell c i)) (cell c i))) $$ HI
  icases HI' with ⟨-, HI'⟩
  imod (Rounds.cells_open ER (Rd (vals W)) Finset.univ (fun k : Fin 18 => cell c k.castSucc) (fun k => K (cell c k.castSucc)) (fun _ _ => Set.mem_univ _))
    $$ [HI' Ho Hv] with H
  · isplitr [Hv]
    · iapply (Entails.of_eq (bigSep_sep' (s := Finset.univ) (Φ := fun k : Fin 18 => cellInv ER (Rd (vals W)) (K (cell c k.castSucc)) (cell c k.castSucc))
        (Ψ := fun k : Fin 18 => openTok ER (cell c k.castSucc))).symm)
      isplitl [HI']; · iexact HI'
      iexact Ho
    iexact Hv
  imodintro
  ihave H2 := (Entails.of_eq (bigSep_sep' (s := Finset.univ) (Φ := fun k : Fin 18 => (atPos ER (cell c k.castSucc) 0 ∅ 0 : sProp 𝕄))
        (Ψ := fun k : Fin 18 => reached ER (cell c k.castSucc) 0))) $$ H
  icases H2 with ⟨HA', #HR⟩
  isplitr [Hr HA HA']
  · iexists K
    unfold recs
    isplitr; · iexact HI
    isplitr; · iexact HP
    isplitr
    · unfold opens
      iapply (Entails.of_eq (split19 fun i : Fin 19 => reached ER (cell c i) 0).symm)
      isplitr; · iexact Hb
      iexact HR
    isplitr; · iexact HbP
    iexact HL
  isplitl [Hr]; · iexact Hr
  iapply (Entails.of_eq (split19 fun i : Fin 19 => At0 (F := F) c i).symm)
  isplitl [HA]; · iexact HA
  iexact HA'

/-! ## The proof data -/

def Φ2 (c : Dev nD) (t : Fin (cfg2.N + 1)) : sProp 𝕄 :=
  if t.val = 0 then iprop(rest2 c ∗ (∃ r, prngReg c r) ∗ Xk W c)
  else iprop(rest2 c ∗ (∃ r, prngReg c r) ∗ Pipeline.ownSems0 osem2 c ∗ Yk c)

def dat2 (c : Dev nD) : Dat τ (Elt F) Unit ℕ UU ℕ cfg2 c where
  A w := W c (Pipeline.arrRef spec2 w)
  after w _ := match w with
    | ⟨0, _⟩ => W c main_arg0
    | ⟨1, _⟩ => W c main_v6
    | ⟨2, _⟩ => W c main_v7
    | ⟨3, _⟩ => W c main_v8
    | ⟨4, _⟩ => W c main_v9
    | ⟨5, _⟩ => result W c
  Φ := Φ2 W c
  q _ := fullShare
  owed t := if t.val = 0 then O₀ c else 0

theorem Φ2_first (c : Dev nD) (t : Fin (cfg2.N + 1)) (h : t.val = 0) : (dat2 W c).Φ t = iprop(rest2 c ∗ (∃ r, prngReg c r) ∗ Xk W c) := if_pos h
theorem Φ2_last (c : Dev nD) (t : Fin (cfg2.N + 1)) (h : t.val ≠ 0) :
    (dat2 W c).Φ t = iprop(rest2 c ∗ (∃ r, prngReg c r) ∗ Pipeline.ownSems0 osem2 c ∗ Yk c) := if_neg h
theorem owed2_first (c : Dev nD) (t : Fin (cfg2.N + 1)) (h : t.val = 0) : (dat2 W c).owed t = O₀ c := if_pos h
theorem owed2_last (c : Dev nD) (t : Fin (cfg2.N + 1)) (h : t.val ≠ 0) : (dat2 W c).owed t = 0 := if_neg h

/-! Every window is its whole array. -/

theorem before2_0 (c : Dev nD) (t : Fin cfg2.N) (d) : (dat2 W c).before 0 t d = W c main_arg0 := by
  obtain rfl := fin_N2 t
  unfold Dat.before; rw [if_pos (fetch2_0 t2_0)]
  funext y
  exact congrArg (W c main_arg0) (emb_all _ (by decide) _ y)

theorem before2_1 (c : Dev nD) (t : Fin cfg2.N) (d) : (dat2 W c).before 1 t d = W c main_v6 := by
  obtain rfl := fin_N2 t
  unfold Dat.before; rw [if_pos (fetch2_1 t2_0)]
  funext y
  exact congrArg (W c main_v6) (emb_all _ (by decide) _ y)

theorem before2_2 (c : Dev nD) (t : Fin cfg2.N) (d) : (dat2 W c).before 2 t d = W c main_v7 := by
  obtain rfl := fin_N2 t
  unfold Dat.before; rw [if_pos (fetch2_2 t2_0)]
  funext y
  exact congrArg (W c main_v7) (emb_all _ (by decide) _ y)

theorem before2_3 (c : Dev nD) (t : Fin cfg2.N) (d) : (dat2 W c).before 3 t d = W c main_v8 := by
  obtain rfl := fin_N2 t
  unfold Dat.before; rw [if_pos (fetch2_3 t2_0)]
  funext y
  exact congrArg (W c main_v8) (emb_all _ (by decide) _ y)

theorem before2_4 (c : Dev nD) (t : Fin cfg2.N) (d) : (dat2 W c).before 4 t d = W c main_v9 := by
  obtain rfl := fin_N2 t
  unfold Dat.before; rw [if_pos (fetch2_4 t2_0)]
  funext y
  exact congrArg (W c main_v9) (emb_all _ (by decide) _ y)

/-- A staging buffer, held as the window holds it and as the body does. -/
theorem stage_iff (c : Dev nD) (b : Ref sig .tc) (X : Buf (Elt F) ((c : Thread nD τ).loc b)) :
    (owns (c : Thread nD τ) (Memref.whole b) fullShare X : sProp 𝕄) = ((c : Thread nD τ).loc b ↦[(Memref.whole b).view.set]{fullShare} X) := by
  rw [owns_whole]
  exact (on_whole (ℓ := (c : Thread nD τ).loc b) _ (show (Memref.whole b).view.set = Finset.univ from View.set_whole _).symm fullShare X).symm
/-- A scratch buffer likewise. -/
theorem scratch_iff (c : Dev nD) (b : Ref sig .tc) (X : Buf (Elt F) ((c : Thread nD τ).loc b)) :
    ((c : Thread nD τ).loc b ↦{fullShare} X : sProp 𝕄) = ((c : Thread nD τ).loc b ↦[(Memref.whole b).view.set]{fullShare} X) :=
  (on_whole (ℓ := (c : Thread nD τ).loc b) _ (show (Memref.whole b).view.set = Finset.univ from View.set_whole _).symm fullShare X).symm
theorem stage0 (c : Dev nD) (X : S2048x1024.Idx → F .bf16) : (owns (c : Thread nD τ) (Memref.whole cc2_stg0_0) fullShare X : sProp 𝕄) = pts (F := F) c mXb fullShare X :=
  stage_iff c cc2_stg0_0 X
theorem stage1 (c : Dev nD) (X : S2048x2.Idx → BitVec 32) : (owns (c : Thread nD τ) (Memref.whole cc2_stg1_0) fullShare X : sProp 𝕄) = pts (F := F) c mMeta fullShare X :=
  stage_iff c cc2_stg1_0 X
theorem stage2 (c : Dev nD) (X : S2048x1.Idx → BitVec 32) : (owns (c : Thread nD τ) (Memref.whole cc2_stg2_0) fullShare X : sProp 𝕄) = pts (F := F) c mSa fullShare X :=
  stage_iff c cc2_stg2_0 X
theorem stage3 (c : Dev nD) (X : S4x1024x2048.Idx → F .bf16) : (owns (c : Thread nD τ) (Memref.whole cc2_stg3_0) fullShare X : sProp 𝕄) = pts (F := F) c mW1 fullShare X :=
  stage_iff c cc2_stg3_0 X
theorem stage4 (c : Dev nD) (X : S4x2048x1024.Idx → F .bf16) : (owns (c : Thread nD τ) (Memref.whole cc2_stg4_0) fullShare X : sProp 𝕄) = pts (F := F) c mW2 fullShare X :=
  stage_iff c cc2_stg4_0 X
theorem stage5 (c : Dev nD) (X : S2048x1024.Idx → F .bf16) : (owns (c : Thread nD τ) (Memref.whole cc2_stg5_0) fullShare X : sProp 𝕄) = pts (F := F) c mFin fullShare X :=
  stage_iff c cc2_stg5_0 X
theorem scratch2 (c : Dev nD) (X : S2048x1.Idx → BitVec 32) : ((c : Thread nD τ).loc cc2_scratch2 ↦{fullShare} X : sProp 𝕄) = pts (F := F) c mArem fullShare X :=
  scratch_iff c cc2_scratch2 X

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (W : Waits sig Unit) (hr : dat.recorded t = Set.univ) :
    (owes (c : Thread nD τ) O W : sProp 𝕄) ⊢ (dat.owesAt () t : sProp 𝕄) := by
  unfold Dat.owesAt Pipeline.owesWithin Dat.bound
  rw [h0, hr]
  iintro HO
  iexists W
  isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩
  iexists W
  iexact HO

theorem whoRow (c : Dev nD) : (bigSep Finset.univ fun i : Fin 19 => Tok (F := F) (who c i) i)
    = iprop(Tok c 0 ∗ Tok (pr c) 1 ∗ Tok c 2 ∗ Tok c 3 ∗ Tok c 4 ∗ Tok c 5 ∗ Tok (pr c) 6 ∗ Tok (pr c) 7 ∗ Tok (pr c) 8 ∗ Tok (pr c) 9 ∗ Tok c 10 ∗ Tok c 11 ∗ Tok c 12 ∗ Tok c 13 ∗ Tok (pr c) 14 ∗ Tok (pr c) 15 ∗ Tok (pr c) 16 ∗ Tok (pr c) 17 ∗ Tok (pr c) 18) := list19 _

set_option maxHeartbeats 1600000 in
/-- The talking call's point, over its buffers. -/
theorem point2 (c : Dev nD) (gf : S2048x1024.Idx → F .bf16) :
    iprop((rest2 c ∗ (∃ r, prngReg c r) ∗ Xk W c) ∗ (∃ W', owes (c : Thread nD τ) (O₀ c) W')
      ∗ pts (F := F) c mXb fullShare (W c main_arg0) ∗ pts (F := F) c mMeta fullShare (W c main_v6) ∗ pts (F := F) c mSa fullShare (W c main_v7) ∗ pts (F := F) c mW1 fullShare (W c main_v8) ∗ pts (F := F) c mW2 fullShare (W c main_v9) ∗ pts (F := F) c mFin fullShare gf)
    ⊢ WP c (bodyAt2 (F := F) t2_0) fun _ => iprop((rest2 c ∗ (∃ r, prngReg c r) ∗ Pipeline.ownSems0 osem2 c ∗ Yk c)
      ∗ (∃ W', owes (c : Thread nD τ) (0 : CellTallies nD τ sig Unit) W')
      ∗ pts (F := F) c mXb fullShare (W c main_arg0) ∗ pts (F := F) c mMeta fullShare (W c main_v6) ∗ pts (F := F) c mSa fullShare (W c main_v7) ∗ pts (F := F) c mW1 fullShare (W c main_v8) ∗ pts (F := F) c mW2 fullShare (W c main_v9) ∗ pts (F := F) c mFin fullShare (result W c)) := by
  unfold Xk rights Yk Pipeline.ownSems0
  iintro ⟨⟨HR, Hreg, ⟨%K, #Hrec⟩, ⟨HT, HC⟩, HA⟩, HO, H0, H1, H2, H3, H4, H5⟩
  ihave HR := (Entails.of_eq (scopedRest2_eq c)) $$ HR
  ihave HT := (Entails.of_eq (whoRow c)) $$ HT
  ihave HC := (Entails.of_eq (listOwed (fun i => Cr (F := F) c i))) $$ HC
  ihave HA := (Entails.of_eq (list19 (fun i => At0 (F := F) c i))) $$ HA
  icases HR with ⟨R0, R1, R2, R3, R4, R5, R6, R7, ⟨%gx, S0⟩, ⟨%g1, S1⟩, ⟨%g2, S2⟩, ⟨%gs, S3⟩, ⟨%g4, S4⟩⟩
  icases HT with ⟨T0, T1, T2, T3, T4, T5, T6, T7, T8, T9, T10, T11, T12, T13, T14, T15, T16, T17, T18⟩
  icases HC with ⟨C18, C1, C6, C7, C8, C9, C14, C15, C16, C17⟩
  icases HA with ⟨A0, A1, A2, A3, A4, A5, A6, A7, A8, A9, A10, A11, A12, A13, A14, A15, A16, A17, A18⟩
  ihave H5 := (Entails.of_eq (fin_whole c fullShare _)) $$ H5
  iapply (wp_body (vals W) K c (W c main_v6) (W c main_arg0) _ gx gs (W c main_v8) (W c main_v9) rfl rfl _) $$ [T18 T1 T6 T7 T8 T9 T14 T15 T16 T17 T0 T2 T3 T4 T5 T10 T11 T12 T13 C18 C1 C6 C7 C8 C9 C14 C15 C16 C17 A0 A1 A2 A3 A4 A5 A6 A7 A8 A9 A10 A11 A12 A13 A14 A15 A16 A17 A18 H0 H1 H2 H3 H4 H5 S0 S1 S2 S3 S4 HO]
  · isplitr; · iexact Hrec
    isplitl [T18]; · iexact T18
    isplitl [T1]; · iexact T1
    isplitl [T6]; · iexact T6
    isplitl [T7]; · iexact T7
    isplitl [T8]; · iexact T8
    isplitl [T9]; · iexact T9
    isplitl [T14]; · iexact T14
    isplitl [T15]; · iexact T15
    isplitl [T16]; · iexact T16
    isplitl [T17]; · iexact T17
    isplitl [T0]; · iexact T0
    isplitl [T2]; · iexact T2
    isplitl [T3]; · iexact T3
    isplitl [T4]; · iexact T4
    isplitl [T5]; · iexact T5
    isplitl [T10]; · iexact T10
    isplitl [T11]; · iexact T11
    isplitl [T12]; · iexact T12
    isplitl [T13]; · iexact T13
    isplitl [C18]; · iexact C18
    isplitl [C1]; · iexact C1
    isplitl [C6]; · iexact C6
    isplitl [C7]; · iexact C7
    isplitl [C8]; · iexact C8
    isplitl [C9]; · iexact C9
    isplitl [C14]; · iexact C14
    isplitl [C15]; · iexact C15
    isplitl [C16]; · iexact C16
    isplitl [C17]; · iexact C17
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexists _; iexact S1
    isplitl [S2]; · iexists g2; iapply (Entails.of_eq (scratch2 c g2)) $$ S2
    isplitl [S3]; · iexact S3
    isplitl [S4]; · iexists _; iexact S4
    iapply (Entails.of_eq (show iprop(∃ W', owes (c : Thread nD τ) (O₀ c) W') = (OW c [18, 1, 6, 7, 8, 9, 14, 15, 16, 17] : sProp 𝕄) from rfl)) $$ HO
  iintro H0 H1 H2 H3 H4 H5 S0 S1 S2 S3 S4 Z0 Z1 Z2 Z3 Z4 Z5 Z6 Z7 Z8 Z9 Z10 Z11 Z12 Z13 Z14 Z15 Z16 Z17 Z18 HO
  icases S0 with ⟨%f0, S0⟩
  icases S1 with ⟨%f1, S1⟩
  icases S2 with ⟨%f2, S2⟩
  icases S3 with ⟨%f3, S3⟩
  icases S4 with ⟨%f4, S4⟩
  unfold OW
  icases HO with ⟨%W', HO⟩
  isplitr [HO H0 H1 H2 H3 H4 H5]
  · isplitl [R0 R1 R2 R3 R4 R5 R6 R7 S0 S1 S2 S3 S4]
    · iapply (Entails.of_eq (scopedRest2_eq c).symm)
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [S0]; · iexists f0; iexact S0
      isplitl [S1]; · iexists f1; iexact S1
      isplitl [S2]; · iexists f2; iapply (Entails.of_eq (scratch2 c f2).symm) $$ S2
      isplitl [S3]; · iexists f3; iexact S3
      iexists f4; iexact S4
    isplitl [Hreg]; · iexact Hreg
    isplitr [Z18]
    · iapply (Entails.of_eq (list18 (fun k : Fin 18 => (semVal ((c : Thread nD τ), osem2 k) 0 : sProp 𝕄))).symm)
      isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      isplitl [Z14]; · iexact Z14
      isplitl [Z15]; · iexact Z15
      isplitl [Z16]; · iexact Z16
      iexact Z17
    iexact Z18
  isplitl [HO]; · iexists W'; iexact HO
  isplitl [H0]; · iexact H0
  isplitl [H1]; · iexact H1
  isplitl [H2]; · iexact H2
  isplitl [H3]; · iexact H3
  isplitl [H4]; · iexact H4
  iapply (Entails.of_eq (fin_whole c fullShare (result W c)).symm) $$ H5

/-- What the pipeline asks of the point, from what the point leaves. -/
theorem ending (c : Dev nD) (p : Prog (TpuEff nD τ sig (Elt F) Λ₀ .tc) PUnit) (R : PUnit → sProp 𝕄)
    (h : ∀ u, iprop((rest2 c ∗ (∃ r, prngReg c r) ∗ Pipeline.ownSems0 osem2 c ∗ Yk c)
      ∗ (∃ W', owes (c : Thread nD τ) (0 : CellTallies nD τ sig Unit) W')
      ∗ pts (F := F) c mXb fullShare (W c main_arg0) ∗ pts (F := F) c mMeta fullShare (W c main_v6) ∗ pts (F := F) c mSa fullShare (W c main_v7) ∗ pts (F := F) c mW1 fullShare (W c main_v8) ∗ pts (F := F) c mW2 fullShare (W c main_v9) ∗ pts (F := F) c mFin fullShare (result W c)) ⊢ R u) :
    WP c p (fun _ => iprop((rest2 c ∗ (∃ r, prngReg c r) ∗ Pipeline.ownSems0 osem2 c ∗ Yk c)
      ∗ (∃ W', owes (c : Thread nD τ) (0 : CellTallies nD τ sig Unit) W')
      ∗ pts (F := F) c mXb fullShare (W c main_arg0) ∗ pts (F := F) c mMeta fullShare (W c main_v6) ∗ pts (F := F) c mSa fullShare (W c main_v7) ∗ pts (F := F) c mW1 fullShare (W c main_v8) ∗ pts (F := F) c mW2 fullShare (W c main_v9) ∗ pts (F := F) c mFin fullShare (result W c))) ⊢ WP c p R := wp_mono _ _ _ h

/-- The talking call's point. -/
theorem body2 (c : Dev nD) : BodyObligation (dat2 W c) (defs₀ (F := F)) 𝒱₀ () Set.univ := fun t => by
  obtain rfl := fin_N2 t
  rw [bigSep_W2, bigSep_W2]
  rw [Φ2_first W c t2_0.castSucc rfl, Φ2_last W c t2_0.succ (by decide)]
  show _ ⊢ WP c (bodyAt2 t2_0) _
  iintro ⟨HX, HO, ⟨%d0, H0⟩, ⟨%d1, H1⟩, ⟨%d2, H2⟩, ⟨%d3, H3⟩, ⟨%d4, H4⟩, ⟨%d5, H5⟩⟩
  ihave H0 := (Entails.of_eq (congrArg (owns (c : Thread nD τ) ((cfg2.win 0).stage (cfg2.slots t2_0 0)) fullShare) (before2_0 W c t2_0 d0))) $$ H0
  ihave H0 := (Entails.of_eq (stage0 c (W c main_arg0))) $$ H0
  ihave H1 := (Entails.of_eq (congrArg (owns (c : Thread nD τ) ((cfg2.win 1).stage (cfg2.slots t2_0 1)) fullShare) (before2_1 W c t2_0 d1))) $$ H1
  ihave H1 := (Entails.of_eq (stage1 c (W c main_v6))) $$ H1
  ihave H2 := (Entails.of_eq (congrArg (owns (c : Thread nD τ) ((cfg2.win 2).stage (cfg2.slots t2_0 2)) fullShare) (before2_2 W c t2_0 d2))) $$ H2
  ihave H2 := (Entails.of_eq (stage2 c (W c main_v7))) $$ H2
  ihave H3 := (Entails.of_eq (congrArg (owns (c : Thread nD τ) ((cfg2.win 3).stage (cfg2.slots t2_0 3)) fullShare) (before2_3 W c t2_0 d3))) $$ H3
  ihave H3 := (Entails.of_eq (stage3 c (W c main_v8))) $$ H3
  ihave H4 := (Entails.of_eq (congrArg (owns (c : Thread nD τ) ((cfg2.win 4).stage (cfg2.slots t2_0 4)) fullShare) (before2_4 W c t2_0 d4))) $$ H4
  ihave H4 := (Entails.of_eq (stage4 c (W c main_v9))) $$ H4
  ihave H5 := (Entails.of_eq (stage5 c _)) $$ H5
  ihave HO := (owesAt_elim (dat2 W c) _ (O₀ c) (owed2_first W c t2_0.castSucc rfl)) $$ HO
  ihave Hw := (point2 W c _) $$ [HX HO H0 H1 H2 H3 H4 H5]
  · isplitl [HX]; · iexact HX
    isplitl [HO]; · iexact HO
    isplitl [H0]; · iexact H0
    isplitl [H1]; · iexact H1
    isplitl [H2]; · iexact H2
    isplitl [H3]; · iexact H3
    isplitl [H4]; · iexact H4
    iexact H5
  iapply (ending W c _ _ (fun u => by
    iintro ⟨HX, ⟨%W', HO⟩, H0, H1, H2, H3, H4, H5⟩
    isplitl [HX]; · iexact HX
    isplitl [HO]; · iapply (owesAt_intro (dat2 W c) t2_0.succ 0 (owed2_last W c _ (by decide)) W' rfl); iexact HO
    isplitl [H0]; · iapply (Entails.of_eq (stage0 c (W c main_arg0)).symm) $$ H0
    isplitl [H1]; · iapply (Entails.of_eq (stage1 c (W c main_v6)).symm) $$ H1
    isplitl [H2]; · iapply (Entails.of_eq (stage2 c (W c main_v7)).symm) $$ H2
    isplitl [H3]; · iapply (Entails.of_eq (stage3 c (W c main_v8)).symm) $$ H3
    isplitl [H4]; · iapply (Entails.of_eq (stage4 c (W c main_v9)).symm) $$ H4
    iapply (Entails.of_eq (stage5 c (result W c)).symm) $$ H5)) $$ Hw

/-! ## The arrays afterwards -/

theorem talked (c : Dev nD) : (dat2 W c).arrAt 5 cfg2.N = result W c := by
  refine (dat2 W c).arrAt_eq_of_covers 5 (result W c) (by decide +kernel) fun t hf y => ?_
  obtain rfl := fin_N2 t
  exact (congrArg (result W c) (emb_all _ (by decide) _ y)).symm

end Cert.KernelIdeal.P
-- ==== Proof.Segs.lean ====
module

public import proofs.«01_k».proof.Proof.Talk

@[expose] public section

set_option maxRecDepth 65536

noncomputable section

/-! @main as a list: the host's operations, the two copying calls, the talking call, the host's last operation. -/

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## What a device's arrays hold -/

/-- After the first copying call, -/
abbrev U2 (c : Dev nD) : Valuation τ sig (Elt F) := Function.update (V1 m c) main_v8 (V1 m c main_arg2)
/-- after the second, -/
abbrev U3 (c : Dev nD) : Valuation τ sig (Elt F) := Function.update (U2 m c) main_v9 (U2 m c main_arg3)
/-- after the talking call, -/
abbrev U4 (c : Dev nD) : Valuation τ sig (Elt F) := Function.update (U3 m c) main_v10 (result (U3 m) c)
/-- and at the end. -/
abbrev U5 (c : Dev nD) : Valuation τ sig (Elt F) := StableHlo.after hostOps3 (U4 m c)

theorem U2_of (c : Dev nD) (b : DevRef τ sig) (h : b ≠ Proc.devRef .tc main_v8) : U2 m c b = V1 m c b := Function.update_of_ne h _ _
theorem U3_of (c : Dev nD) (b : DevRef τ sig) (h : b ≠ Proc.devRef .tc main_v9) : U3 m c b = U2 m c b := Function.update_of_ne h _ _
theorem U4_of (c : Dev nD) (b : DevRef τ sig) (h : b ≠ Proc.devRef .tc main_v10) : U4 m c b = U3 m c b := Function.update_of_ne h _ _
theorem U2_out (c : Dev nD) : U2 m c main_v8 = V1 m c main_arg2 := Function.update_self _ _ _
theorem U3_out (c : Dev nD) : U3 m c main_v9 = U2 m c main_arg3 := Function.update_self _ _ _
theorem U4_out (c : Dev nD) : U4 m c main_v10 = result (U3 m) c := Function.update_self _ _ _
theorem U5_of (c : Dev nD) (r : Ref sig .tc) (h : r ∉ hostOps3_W) : U5 m c r = U4 m c r :=
  StableHlo.after_of_writes_sub hostOps3 _ hostOps3_writes h

def pdats : (p : Fin 3) → (c : Dev nD) → Dat τ (Elt F) Unit ℕ UU ℕ (Pipeline.pin (pcfgs (F := F)) adm p) c
  | 0 => dat0 (V1 m) O₀
  | 1 => dat1 (U2 m) O₀
  | 2 => dat2 (U3 m)

/-! ## The calls' levels: what is owed stands above every staging counter -/

theorem owed_high : ∀ j ∈ owedL, 0 < lvI j := by decide

theorem O₀_cut (c : Dev nD) (g : GSem nD τ sig) (i : Unit) (h : 0 < O₀ c g i) : i ∈ L g ∧ (0 : ℕ) < lv g i := by
  obtain ⟨j, hj, rfl⟩ := Ow_pos h
  refine ⟨by rw [L_tc]; exact Finset.mem_singleton_self _, ?_⟩
  rw [lv_cell]
  exact owed_high j hj

theorem low (c : Dev nD) (s : DmaSem sig) (h : s.val < 14) : lv ((c : Thread nD τ), .dma s) () ≤ 0 := by
  show (idx (.dma s)).elim 0 lvI ≤ 0
  rw [show idx (.dma s) = none from dif_neg (by omega)]
  exact le_rfl

theorem stage0_low : ∀ (w : Fin cfg0.W) (s : Fin (cfg0.win w).nbuf), ((cfg0.win w).sem s).val < 14 := by decide
theorem stage1_low : ∀ (w : Fin cfg1.W) (s : Fin (cfg1.win w).nbuf), ((cfg1.win w).sem s).val < 14 := by decide
theorem stage2_low : ∀ (w : Fin cfg2.W) (s : Fin (cfg2.win w).nbuf), ((cfg2.win w).sem s).val < 14 := by decide

/-! ## The segments -/

/-- What rides along until the talking call. -/
def ride (c : Dev nD) : sProp 𝕄 := iprop(Tk (U3 m) c ∗ (∃ r, prngReg c r))
abbrev owing (c : Dev nD) : sProp 𝕄 := iprop(∃ Wd, owes (c : Thread nD τ) (O₀ c) Wd)

abbrev uc : Finset (DevRef τ sig) := Pipeline.ucRefs τ sig
abbrev ar0 : Finset (DevRef τ sig) := Pipeline.arrRefs spec0
abbrev ar1 : Finset (DevRef τ sig) := Pipeline.arrRefs spec1
abbrev ar2 : Finset (DevRef τ sig) := Pipeline.arrRefs spec2
theorem ar0_sub : ar0 ⊆ uc := Pipeline.arrRefs_sub_ucRefs _ (by decide)
theorem ar1_sub : ar1 ⊆ uc := Pipeline.arrRefs_sub_ucRefs _ (by decide)
theorem ar2_sub : ar2 ⊆ uc := Pipeline.arrRefs_sub_ucRefs _ (by decide)
theorem out0_mem : Proc.devRef .tc main_v8 ∈ ar0 := by decide
theorem out1_mem : Proc.devRef .tc main_v9 ∈ ar1 := by decide
theorem out2_mem : Proc.devRef .tc main_v10 ∈ ar2 := by decide

theorem rest_of0 (c : Dev nD) : ∀ b ∈ uc \ ar0, U2 m c b = V1 m c b := fun b hb =>
  U2_of m c b (fun e => (Finset.mem_sdiff.mp hb).2 (e ▸ out0_mem))
theorem rest_of1 (c : Dev nD) : ∀ b ∈ uc \ ar1, U3 m c b = U2 m c b := fun b hb =>
  U3_of m c b (fun e => (Finset.mem_sdiff.mp hb).2 (e ▸ out1_mem))
theorem rest_of2 (c : Dev nD) : ∀ b ∈ uc \ ar2, U4 m c b = U3 m c b := fun b hb =>
  U4_of m c b (fun e => (Finset.mem_sdiff.mp hb).2 (e ▸ out2_mem))

local notation "ℍ" => Pipeline.HostSeg (Ix := Unit) (Name := ℕ) (U := UU) (Lvl := ℕ) (pcfgs (F := F)) defs₀ 𝒱₀ L lv
local notation "ℝ𝕊" => Pipeline.RegionSeg (pcfgs (F := F)) adm (pdats m) () defs₀ 𝒱₀ L lv

def host0 : ℍ := seg0 m 𝒱₀ L lv (fun _ c => iprop(ride m c ∗ owing c))
def host3 : ℍ := Pipeline.HostSeg.ofOps _ _ _ _ _ uc hostOps3
    (fun op h => Pipeline.sub_ucRefs op ((List.forall_iff_forall_mem.mp hostOps3_sub) op h))
    (fun op h => (List.forall_iff_forall_mem.mp hostOps3_fresh) op h) (U4 m)
    (fun c => iprop(Yk c ∗ ∃ Wd, owes (c : Thread nD τ) (0 : CellTallies nD τ sig Unit) Wd))

theorem kit (p : Fin 3) (h : Pipeline.LaunchFacts (nD := nD) (τ := τ) cfgs p) : Pipeline.PLaunchFacts (nD := nD) (τ := τ) (pcfgs (F := F)) p :=
  h.toP

/-! What the windows hold when a call ends. -/

theorem share0 (c : Dev nD) : ∀ w, (pdats m 0 c).share w = fullShare
  | ⟨0, _⟩ => rfl
  | ⟨1, _⟩ => rfl
theorem ends0 (c : Dev nD) : ∀ w, (pdats m 0 c).arrAt w (Pipeline.pin (pcfgs (F := F)) adm 0).N = U2 m c (Pipeline.arrRef (Pipeline.pin (pcfgs (F := F)) adm 0).spec w)
  | ⟨0, _⟩ => ((dat0 (V1 m) O₀ c).arrAt_in 0 rfl _).trans (U2_of m c (Proc.devRef .tc main_arg2) (by decide)).symm
  | ⟨1, _⟩ => (copied0 (V1 m) O₀ c).trans (U2_out m c).symm

theorem share1 (c : Dev nD) : ∀ w, (pdats m 1 c).share w = fullShare
  | ⟨0, _⟩ => rfl
  | ⟨1, _⟩ => rfl
theorem ends1 (c : Dev nD) : ∀ w, (pdats m 1 c).arrAt w (Pipeline.pin (pcfgs (F := F)) adm 1).N = U3 m c (Pipeline.arrRef (Pipeline.pin (pcfgs (F := F)) adm 1).spec w)
  | ⟨0, _⟩ => ((dat1 (U2 m) O₀ c).arrAt_in 0 rfl _).trans (U3_of m c (Proc.devRef .tc main_arg3) (by decide)).symm
  | ⟨1, _⟩ => (copied1 (U2 m) O₀ c).trans (U3_out m c).symm

theorem share2 (c : Dev nD) : ∀ w, (pdats m 2 c).share w = fullShare
  | ⟨0, _⟩ => rfl
  | ⟨1, _⟩ => rfl
  | ⟨2, _⟩ => rfl
  | ⟨3, _⟩ => rfl
  | ⟨4, _⟩ => rfl
  | ⟨5, _⟩ => rfl
theorem ends2 (c : Dev nD) : ∀ w, (pdats m 2 c).arrAt w (Pipeline.pin (pcfgs (F := F)) adm 2).N = U4 m c (Pipeline.arrRef (Pipeline.pin (pcfgs (F := F)) adm 2).spec w)
  | ⟨0, _⟩ => ((dat2 (U3 m) c).arrAt_in 0 rfl _).trans (U4_of m c (Proc.devRef .tc main_arg0) (by decide)).symm
  | ⟨1, _⟩ => ((dat2 (U3 m) c).arrAt_in 1 rfl _).trans (U4_of m c (Proc.devRef .tc main_v6) (by decide)).symm
  | ⟨2, _⟩ => ((dat2 (U3 m) c).arrAt_in 2 rfl _).trans (U4_of m c (Proc.devRef .tc main_v7) (by decide)).symm
  | ⟨3, _⟩ => ((dat2 (U3 m) c).arrAt_in 3 rfl _).trans (U4_of m c (Proc.devRef .tc main_v8) (by decide)).symm
  | ⟨4, _⟩ => ((dat2 (U3 m) c).arrAt_in 4 rfl _).trans (U4_of m c (Proc.devRef .tc main_v9) (by decide)).symm
  | ⟨5, _⟩ => (talked (U3 m) c).trans (U4_out m c).symm

set_option backward.isDefEq.respectTransparency.types false in
def reg0 : ℝ𝕊 0 :=
  Pipeline.RegionSeg.ofHeld (pcfgs (F := F)) adm (pdats m) () defs₀ 𝒱₀ L lv 0 O₀ (fun _ => iprop(emp)) (fun _ => iprop(emp))
    (kit 0 launch0) rfl (fun c => (body0 (V1 m) O₀ c).loose) (fun _ _ => rfl) (fun _ => rfl) (share0 m)
    (fun c => by
      rw [show (pdats m 0 c).Φ 0 = rest0 c from rfl]
      iintro ⟨H, -⟩; iexact H)
    (fun c => by
      rw [show (pdats m 0 c).Φ (Fin.last _) = rest0 c from rfl]
      iintro H
      isplitl [H]; · iexact H
      iempintro)
    (fun _ => 0)
    ⟨fun c w s => by rw [L_tc]; exact Finset.mem_singleton_self _, fun c w s => low c _ (stage0_low w s), O₀_cut⟩
    (fun c => iprop(StableHlo.held (c.tc : Thread nD τ) (uc \ ar0) (V1 m c) ∗ ride m c))
    (V1 m) (U2 m) (fun c w => rfl)
    (ends0 m)

set_option backward.isDefEq.respectTransparency.types false in
def reg1 : ℝ𝕊 1 :=
  Pipeline.RegionSeg.ofHeld (pcfgs (F := F)) adm (pdats m) () defs₀ 𝒱₀ L lv 1 O₀ (fun _ => iprop(emp)) (fun _ => iprop(emp))
    (kit 1 launch1) rfl (fun c => (body1 (U2 m) O₀ c).loose) (fun _ _ => rfl) (fun _ => rfl) (share1 m)
    (fun c => by
      rw [show (pdats m 1 c).Φ 0 = rest1 c from rfl]
      iintro ⟨H, -⟩; iexact H)
    (fun c => by
      rw [show (pdats m 1 c).Φ (Fin.last _) = rest1 c from rfl]
      iintro H
      isplitl [H]; · iexact H
      iempintro)
    (fun _ => 0)
    ⟨fun c w s => by rw [L_tc]; exact Finset.mem_singleton_self _, fun c w s => low c _ (stage1_low w s), O₀_cut⟩
    (fun c => iprop(StableHlo.held (c.tc : Thread nD τ) (uc \ ar1) (U2 m c) ∗ ride m c))
    (U2 m) (U3 m) (fun c w => rfl)
    (ends1 m)

theorem cut2 (c : Dev nD) (t : Fin ((Pipeline.pin (pcfgs (F := F)) adm 2).N + 1)) (g : GSem nD τ sig) (i : Unit) (h : 0 < (pdats (F := F) m 2 c).owed t g i) :
    i ∈ L g ∧ (0 : ℕ) < lv g i := by
  have e : (pdats (F := F) m 2 c).owed t = if t.val = 0 then O₀ c else 0 := rfl
  rw [e] at h
  split at h
  · exact O₀_cut c g i h
  · exact absurd h (Nat.lt_irrefl 0)

theorem in2 (c : Dev nD) : iprop(Pipeline.scopedRest (Pipeline.pin (pcfgs (F := F)) adm 2).spec c ∗ (∃ r, prngReg c r) ∗ StableHlo.held (c.tc : Thread nD τ) ∅ (U3 m c) ∗ Xk (U3 m) c)
    ⊢ (pdats m 2 c).Φ 0 := by
  rw [show (pdats m 2 c).Φ 0 = _ from Φ2_first (U3 m) c 0 rfl]
  iintro ⟨Hs, Hp, -, HX⟩
  isplitl [Hs]; · iexact Hs
  isplitl [Hp]; · iexact Hp
  iexact HX

theorem out2 (c : Dev nD) : (pdats m 2 c).Φ (Fin.last (Pipeline.pin (pcfgs (F := F)) adm 2).N)
    ⊢ iprop(Pipeline.scopedRest (Pipeline.pin (pcfgs (F := F)) adm 2).spec c ∗ (∃ r, prngReg c r) ∗ StableHlo.held (c.tc : Thread nD τ) ∅ (U4 m c)
      ∗ Pipeline.ownSems0 osem2 c ∗ Yk c) := by
  rw [show (pdats m 2 c).Φ (Fin.last _) = _ from Φ2_last (U3 m) c (Fin.last _) (by decide)]
  iintro ⟨Hs, Hp, Ho, HY⟩
  isplitl [Hs]; · iexact Hs
  isplitl [Hp]; · iexact Hp
  isplitr
  · unfold StableHlo.held
    rw [BI.bigSep_empty]
    iempintro
  isplitl [Ho]; · iexact Ho
  iexact HY

set_option backward.isDefEq.respectTransparency.types false in
def reg2 : ℝ𝕊 2 :=
  Pipeline.RegionSeg.ofTalk (pcfgs (F := F)) adm (pdats m) () defs₀ 𝒱₀ L lv 2 osem2 (by decide : Pipeline.OwnSemFacts spec2 osem2)
    ∅ (uc \ ar2) (Finset.empty_subset _) (kit 2 launch2) rfl (fun c => (body2 (U3 m) c).loose)
    (fun _ => 0) O₀ (fun c => (owed2_first (U3 m) c 0 rfl).trans (zero_add _).symm) (fun c => owed2_last (U3 m) c (Fin.last _) (by decide)) (fun _ => rfl)
    (share2 m)
    (U3 m) (U4 m) (fun c b hb => rest_of2 m c b (Finset.mem_sdiff.mp hb).1)
    (Tk (U3 m)) Yk (Xk (U3 m)) Yk (hopen2 (U3 m)) (in2 m) (out2 m)
    (fun c => by iintro H; imodintro; iexact H)
    (fun _ => 0)
    ⟨fun c w s => by rw [L_tc]; exact Finset.mem_singleton_self _, fun c w s => low c _ (stage2_low w s), fun c t g i h => cut2 m c t g i h⟩
    (fun _ => iprop(emp))
    (fun c w => rfl)
    (ends2 m)

/-! ## How they meet -/

theorem enter0 (c : Dev nD) : iprop(StableHlo.held (c : Thread nD τ) uc (V1 m c) ∗ ride m c ∗ owing c) ⊢ (reg0 m).pre c := by
  show _ ⊢ iprop(StableHlo.held (c.tc : Thread nD τ) ar0 (V1 m c) ∗ emp ∗ (StableHlo.held (c.tc : Thread nD τ) (uc \ ar0) (V1 m c) ∗ ride m c) ∗ owing c)
  rw [StableHlo.held_sub_split (c.tc : Thread nD τ) ar0_sub (V1 m c)]
  iintro ⟨⟨Ha, Hr⟩, HR, HO⟩
  isplitl [Ha]; · iexact Ha
  isplitr; · iempintro
  isplitl [Hr HR]
  · isplitl [Hr]; · iexact Hr
    iexact HR
  iexact HO

theorem meet01 (c : Dev nD) : (reg0 m).post c ⊢ (reg1 m).pre c := by
  show iprop(StableHlo.held (c.tc : Thread nD τ) ar0 (U2 m c) ∗ emp ∗ (StableHlo.held (c.tc : Thread nD τ) (uc \ ar0) (V1 m c) ∗ ride m c) ∗ owing c)
    ⊢ iprop(StableHlo.held (c.tc : Thread nD τ) ar1 (U2 m c) ∗ emp ∗ (StableHlo.held (c.tc : Thread nD τ) (uc \ ar1) (U2 m c) ∗ ride m c) ∗ owing c)
  rw [← StableHlo.held_congr (c.tc : Thread nD τ) (rest_of0 m c)]
  iintro ⟨Ha, -, ⟨Hr, HR⟩, HO⟩
  ihave H := (Entails.of_eq (StableHlo.held_sub_split (c.tc : Thread nD τ) ar0_sub (U2 m c)).symm) $$ [Ha Hr]
  · isplitl [Ha]; · iexact Ha
    iexact Hr
  ihave H := (Entails.of_eq (StableHlo.held_sub_split (c.tc : Thread nD τ) ar1_sub (U2 m c))) $$ H
  icases H with ⟨Ha, Hr⟩
  isplitl [Ha]; · iexact Ha
  isplitr; · iempintro
  isplitl [Hr HR]
  · isplitl [Hr]; · iexact Hr
    iexact HR
  iexact HO

theorem meet12 (c : Dev nD) : (reg1 m).post c ⊢ (reg2 m).pre c := by
  show iprop(StableHlo.held (c.tc : Thread nD τ) ar1 (U3 m c) ∗ emp ∗ (StableHlo.held (c.tc : Thread nD τ) (uc \ ar1) (U2 m c) ∗ ride m c) ∗ owing c)
    ⊢ iprop(StableHlo.held (c.tc : Thread nD τ) ar2 (U3 m c) ∗ (∃ r, prngReg c r) ∗ (StableHlo.held (c.tc : Thread nD τ) (uc \ ar2) (U3 m c) ∗ emp)
      ∗ Tk (U3 m) c ∗ ∃ Wd, owes (c : Thread nD τ) (0 + O₀ c) Wd)
  rw [← StableHlo.held_congr (c.tc : Thread nD τ) (rest_of1 m c), zero_add]
  unfold ride
  iintro ⟨Ha, -, ⟨Hr, HT, Hp⟩, HO⟩
  ihave H := (Entails.of_eq (StableHlo.held_sub_split (c.tc : Thread nD τ) ar1_sub (U3 m c)).symm) $$ [Ha Hr]
  · isplitl [Ha]; · iexact Ha
    iexact Hr
  ihave H := (Entails.of_eq (StableHlo.held_sub_split (c.tc : Thread nD τ) ar2_sub (U3 m c))) $$ H
  icases H with ⟨Ha, Hr⟩
  isplitl [Ha]; · iexact Ha
  isplitl [Hp]; · iexact Hp
  isplitl [Hr]
  · isplitl [Hr]; · iexact Hr
    iempintro
  isplitl [HT]; · iexact HT
  iexact HO

theorem leave2 (c : Dev nD) : (reg2 m).post c
    ⊢ iprop(StableHlo.held (c : Thread nD τ) uc (U4 m c) ∗ Yk c ∗ ∃ Wd, owes (c : Thread nD τ) (0 : CellTallies nD τ sig Unit) Wd) := by
  show iprop(StableHlo.held (c.tc : Thread nD τ) ar2 (U4 m c) ∗ (∃ r, prngReg c r) ∗ (StableHlo.held (c.tc : Thread nD τ) (uc \ ar2) (U4 m c) ∗ emp)
      ∗ Yk c ∗ ∃ Wd, owes (c : Thread nD τ) (0 : CellTallies nD τ sig Unit) Wd) ⊢ _
  rw [StableHlo.held_sub_split (c.tc : Thread nD τ) ar2_sub (U4 m c)]
  iintro ⟨Ha, -, ⟨Hr, -⟩, HY, HO⟩
  isplitl [Ha Hr]
  · isplitl [Ha]; · iexact Ha
    iexact Hr
  isplitl [HY]; · iexact HY
  iexact HO

/-- @main as the list. -/
def items : List (Pipeline.Seg (pcfgs (F := F)) adm (pdats m) () defs₀ 𝒱₀ L lv) :=
  [.host (host0 m), .region (reg0 m), .region (reg1 m), .region (reg2 m), .host (host3 m)]

theorem main_items (c : Dev nD) : main (F := F) c = Pipeline.Seg.run (items m) :=
  main_segs adm (pdats m) () 𝒱₀ L lv (host0 m) (host3 m) (reg0 m) (reg1 m) (reg2 m) rfl rfl c

end Cert.KernelIdeal.P
-- ==== Proof.Run.lean ====
module

public import proofs.«01_k».proof.Proof.Segs

@[expose] public section

set_option maxRecDepth 65536

noncomputable section

/-! The launch: every counter's invariant is made, the tokens go to whoever raises, the credit to whoever waits. The run follows. -/

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem cell_inj (a b : Dev nD × Fin 19) (h : cell a.1 a.2 = cell b.1 b.2) : a = b :=
  Prod.ext (congrArg (fun g : GSem nD τ sig => g.1.1) h) (semOf_inj (congrArg Prod.snd h))

def barAt : Dev nD ↪ GSem nD τ sig := ⟨fun c => cell c 18, fun _ _ h => congrArg (fun g : GSem nD τ sig => g.1.1) h⟩
def dmaAt : Dev nD × Fin 18 ↪ GSem nD τ sig :=
  ⟨fun a => cell a.1 a.2.castSucc, fun a b h => by
    have e := cell_inj (a.1, a.2.castSucc) (b.1, b.2.castSucc) h
    exact Prod.ext (congrArg (fun x : Dev nD × Fin 19 => x.1) e) (Fin.castSucc_injective _ (congrArg (fun x : Dev nD × Fin 19 => x.2) e))⟩
def tokAt : Dev nD × Fin 19 ↪ GSem nD τ sig × ℕ × Unit :=
  ⟨fun a => (cell a.1 a.2, 0, ()), fun a b h => cell_inj a b (congrArg Prod.fst h)⟩

abbrev barSet : Finset (GSem nD τ sig) := Finset.univ.map barAt
abbrev dmaSet : Finset (GSem nD τ sig) := Finset.univ.map dmaAt
abbrev tokSet : Finset (GSem nD τ sig × ℕ × Unit) := Finset.univ.map tokAt

theorem apart : Disjoint barSet dmaSet := by
  rw [Finset.disjoint_left]
  rintro g h₁ h₂
  obtain ⟨c, -, rfl⟩ := Finset.mem_map.mp h₁
  obtain ⟨a, -, h⟩ := Finset.mem_map.mp h₂
  have e := congrArg (fun x : Dev nD × Fin 19 => x.2.val) (cell_inj (a.1, a.2.castSucc) (c, 18) h)
  have e' : a.2.val = 18 := e
  omega

theorem cell_mem (c : Dev nD) (i : Fin 19) : cell c i ∈ barSet ∪ dmaSet := by
  refine Fin.lastCases ?_ (fun k => ?_) i
  · exact Finset.mem_union_left _ (Finset.mem_map_of_mem barAt (Finset.mem_univ c))
  · exact Finset.mem_union_right _ (Finset.mem_map_of_mem dmaAt (Finset.mem_univ (c, k)))

abbrev seedE : UR sig nD τ := launchOf barSet dmaSet tokSet
def seed : UU := (initOf (Pipeline.cells (Pipeline.pin (pcfgs (F := F)) adm) cellOf_inj) (Pipeline.launchToks (Pipeline.pin (pcfgs (F := F)) adm) cellOf_inj), seedE)

/-- The protocol's share of the launch rests with device 0 until all devices divide it. -/
def park (c : Dev nD) : sProp 𝕄 := if c = 0 then BI.own (ER (F := F) seedE) else iprop(emp)
theorem park_all : bigSep Finset.univ (park (F := F)) = BI.own (ER (F := F) seedE) := by
  rw [bigSep_univ_at _ (0 : Dev nD), bigSep_congr (s := Finset.univ.erase (0 : Dev nD)) (Ψ := fun _ => (BI.emp : sProp 𝕄))
    fun c hc => by unfold park; rw [if_neg (Finset.ne_of_mem_erase hc)]; rfl, BI.bigSep_emp_const]
  unfold park
  rw [if_pos rfl]
  exact BI.equiv_iff.mp sep_emp

/-! ## Dealing -/

theorem two (Φ Ψ : Dev nD → sProp 𝕄) : bigSep Finset.univ (fun c => iprop(Φ c ∗ Ψ c)) ⊢ iprop(bigSep Finset.univ Φ ∗ bigSep Finset.univ Ψ) :=
  Entails.of_eq (bigSep_sep' _ _ _)
theorem one (Φ Ψ : Dev nD → sProp 𝕄) : iprop(bigSep Finset.univ Φ ∗ bigSep Finset.univ Ψ) ⊢ bigSep Finset.univ (fun c => iprop(Φ c ∗ Ψ c)) :=
  Entails.of_eq (bigSep_sep' _ _ _).symm

theorem who_who (c : Dev nD) (i : Fin 19) : who (who c i) i = c := by
  unfold who
  split
  · exact pr_pr c
  · rfl
def around : Dev nD × Fin 19 ≃ Dev nD × Fin 19 :=
  ⟨fun a => (who a.1 a.2, a.2), fun a => (who a.1 a.2, a.2), fun a => by simp only [who_who], fun a => by simp only [who_who]⟩

theorem toks_deal : bigSep tokSet (fun x => (dutyTok ER x.1 x.2.1 x.2.2 : sProp 𝕄))
    ⊢ bigSep Finset.univ fun c : Dev nD => bigSep Finset.univ fun i : Fin 19 => Tok (F := F) (who c i) i := by
  rw [bigSep_map, bigSep_univ_equiv around, bigSep_univ_prod]
  exact BI.Entails.refl _

theorem openers_deal : bigSep dmaSet (fun g => (openTok ER g : sProp 𝕄))
    ⊢ bigSep Finset.univ fun c : Dev nD => bigSep Finset.univ fun k : Fin 18 => openTok (ER (F := F)) (cell c k.castSucc) := by
  rw [bigSep_map, bigSep_univ_prod]
  exact BI.Entails.refl _

theorem ats_deal : bigSep barSet (fun g => (atPos ER g 0 ∅ 0 : sProp 𝕄)) ⊢ bigSep Finset.univ fun c : Dev nD => At0 (F := F) c 18 := by
  rw [bigSep_map]
  exact BI.Entails.refl _

theorem bars_gather : bigSep Finset.univ (fun c : Dev nD => (semVal (cell c 18) 0 : sProp 𝕄)) ⊢ bigSep barSet (fun g => (semVal g 0 : sProp 𝕄)) :=
  Entails.of_eq (bigSep_map (s := Finset.univ) barAt (Φ := fun g : GSem nD τ sig => (semVal g 0 : sProp 𝕄))).symm

/-! The credit: what the devices owe, summed, is what each device waits for. -/

theorem cred_list (c : Dev nD) (l : List (Fin 19)) (h : l.Nodup) : (cred (Ow c l) : sProp 𝕄) = bigSep l.toFinset fun i => Cr (F := F) c i := by
  induction l with
  | nil => rw [show Ow c [] = 0 from rfl, cred_zero, List.toFinset_nil, BI.bigSep_empty]; rfl
  | cons i l ih =>
    rw [show Ow c (i :: l) = Ow c l + tallyAt (cell c i) () (amt i) from rfl, List.toFinset_cons,
      BI.bigSep_insert (by rw [List.mem_toFinset]; exact (List.nodup_cons.mp h).1), BI.Entails.antisymm (cred_add _ _).1 (cred_add _ _).2,
      ih (List.nodup_cons.mp h).2]
    exact BI.Entails.antisymm BI.sep_comm BI.sep_comm

theorem Ow_own (c : Dev nD) (l : List (Fin 19)) (g : GSem nD τ sig) (h : Ow c l g ≠ 0) : g.1 = (c : Thread nD τ) := by
  obtain ⟨u, hu⟩ := DFunLike.ne_iff.mp h
  obtain ⟨i, -, rfl⟩ := Ow_pos (Nat.pos_of_ne_zero hu)
  rfl

theorem creds (c : Dev nD) : (Pipeline.launchCred O₀ c : sProp 𝕄) ⊢ bigSep owedL.toFinset fun i => Cr (F := F) c i := by
  rw [Pipeline.launchCred_of_sum O₀ (fun d => Ow d owedL) (Equiv.sum_comp swap fun d => Ow d owedL) (fun d g h => Ow_own d owedL g h),
    cred_list c owedL (by decide)]

/-! ## The start -/

abbrev W3 := U3 m

/-- What every device may consult. -/
def known (κ : GSem nD τ sig → ℕ) : sProp 𝕄 :=
  iprop((bigSep (barSet ∪ dmaSet) fun g => cellInv ER (Rd (vals (W3 m))) (κ g) g) ∗ bigSep barSet fun g => reached ER g 0)
instance known_persistent (κ : GSem nD τ sig → ℕ) : BI.Persistent (known m κ) := by unfold known; infer_instance

theorem known_inv (κ : GSem nD τ sig → ℕ) (c : Dev nD) (i : Fin 19) : known m κ ⊢ cellInv ER (Rd (vals (W3 m))) (κ (cell c i)) (cell c i) := by
  have h : (bigSep (barSet ∪ dmaSet) fun g => (cellInv ER (Rd (vals (W3 m))) (κ g) g : sProp 𝕄)) ⊢ cellInv ER (Rd (vals (W3 m))) (κ (cell c i)) (cell c i) :=
    bigSep_elim (cell_mem c i)
  unfold known
  iintro ⟨H, -⟩
  iapply h $$ H

theorem known_bar (κ : GSem nD τ sig → ℕ) (c : Dev nD) : known m κ ⊢ reached (ER (F := F)) (cell c 18) 0 := by
  have h : (bigSep barSet fun g => (reached ER g 0 : sProp 𝕄)) ⊢ reached (ER (F := F)) (cell c 18) 0 :=
    bigSep_elim (Finset.mem_map_of_mem barAt (Finset.mem_univ c))
  unfold known
  iintro ⟨-, H⟩
  iapply h $$ H

theorem known_row (κ : GSem nD τ sig → ℕ) (c : Dev nD) :
    known m κ ⊢ bigSep Finset.univ fun i : Fin 19 => cellInv ER (Rd (vals (W3 m))) (κ (cell c i)) (cell c i) :=
  (bigSep_of_persistent Finset.univ (known m κ)).trans (bigSep_mono fun i _ => known_inv m κ c i)

theorem known_recs (κ : GSem nD τ sig → ℕ) (c : Dev nD) : known m κ ⊢ recs0 (vals (W3 m)) κ c := by
  unfold recs0
  iintro #H
  isplitr; · iapply (known_row m κ c); iexact H
  isplitr; · iapply (known_row m κ (pr c)); iexact H
  isplitr; · iapply (known_bar m κ c); iexact H
  iapply (known_bar m κ (pr c)); iexact H

/-- A device's own part of what the protocol starts with, -/
def own0 (c : Dev nD) : sProp 𝕄 :=
  iprop((bigSep Finset.univ fun i : Fin 19 => Tok (F := F) (who c i) i) ∗ At0 (F := F) c 18 ∗ bigSep Finset.univ fun k : Fin 18 => openTok (ER (F := F)) (cell c k.castSucc))
/-- and the rest of what the launch deals it. -/
def rest (c : Dev nD) : sProp 𝕄 :=
  iprop(StableHlo.held (c : Thread nD τ) uc (V0 m c) ∗ (bigSep owedL.toFinset fun i => Cr (F := F) c i) ∗ owes (c : Thread nD τ) (O₀ c) ∅ ∗ ∃ r, prngReg c r)

abbrev start (c : Dev nD) : sProp 𝕄 := iprop(StableHlo.held (c : Thread nD τ) uc (V0 m c) ∗ ride m c ∗ owing c)
abbrev finish (c : Dev nD) : sProp 𝕄 := iprop(StableHlo.held (c : Thread nD τ) uc (U5 m c) ∗ semVal (cell c 18) 0)

theorem start_intro (κ : GSem nD τ sig → ℕ) (c : Dev nD) : iprop(known m κ ∗ (own0 c ∗ rest m c)) ⊢ start m c := by
  unfold start own0 rest ride Tk rights
  iintro ⟨#HK, ⟨Ht, Ha, Ho⟩, Hh, Hc, HO, Hp⟩
  isplitl [Hh]; · iexact Hh
  isplitr [HO]
  · isplitr [Hp]
    · isplitr
      · iexists κ
        iapply (known_recs m κ c); iexact HK
      isplitl [Ht Hc]
      · isplitl [Ht]; · iexact Ht
        iexact Hc
      isplitl [Ha]; · iexact Ha
      iexact Ho
    iexact Hp
  iexists ∅
  iexact HO

theorem only_barrier : ∀ sm : SemLoc sig, sm.isScoped .tc = false → sm = .reg barrier0 := by decide

theorem barrier_only (c : Dev nD) : (unscopedSems0 c : sProp 𝕄) = semVal (cell c 18) 0 := by
  unfold unscopedSems0
  rw [show (Finset.univ.filter fun sm : SemLoc sig => ¬ sm.isScoped .tc) = {SemLoc.reg barrier0} from by decide, BI.bigSep_singleton]
  rfl

abbrev dealt (c : Dev nD) : sProp 𝕄 :=
  iprop(unscopedBufs c (fun b => m ((c : Thread nD τ).loc b)) ∗ unscopedSems0 c ∗ owes (c : Thread nD τ) (O₀ c) ∅ ∗ Pipeline.launchCred O₀ c ∗ prngReg c (ρ c) ∗ park c)

theorem dealt_split (c : Dev nD) : dealt m ρ c ⊢ iprop(rest m c ∗ (semVal (cell c 18) 0 ∗ park c)) := by
  unfold dealt
  rw [show unscopedBufs c (fun b => m ((c : Thread nD τ).loc b)) = (StableHlo.held (c : Thread nD τ) uc (V0 m c) : sProp 𝕄) from
    Pipeline.unscopedBufs_held c (V0 m c), barrier_only]
  unfold rest
  iintro ⟨Hh, Hs, HO, Hc, Hp, HG⟩
  isplitr [Hs HG]
  · isplitl [Hh]; · iexact Hh
    isplitl [Hc]; · iapply (creds (F := F) c) $$ Hc
    isplitl [HO]; · iexact HO
    iexists (ρ c); iexact Hp
  isplitl [Hs]; · iexact Hs
  iexact HG

theorem dealt_all : bigSep Finset.univ (dealt m ρ) ⊢ iprop(bigSep Finset.univ (rest m) ∗ bigSep Finset.univ (fun c : Dev nD => (semVal (cell c 18) 0 : sProp 𝕄)) ∗ BI.own (ER (F := F) seedE)) := by
  refine (bigSep_mono fun c _ => dealt_split m ρ c).trans ((two _ _).trans ?_)
  refine sep_mono_right ((two _ _).trans ?_)
  rw [park_all]

theorem init : iprop(bigSep Finset.univ (dealt m ρ) ∗ levAts L lv) ⊢ (|={Set.univ}=> bigSep Finset.univ (start m) : sProp 𝕄) := by
  iintro ⟨H, -⟩
  ihave H := (dealt_all m ρ) $$ H
  icases H with ⟨HB, Hv, Hu⟩
  imod (Rounds.fund_launch ER (Rd (vals (W3 m))) apart (fun g _ h => h) tokSet) $$ [Hv Hu] with ⟨%κ, -, #Hinv, #Hr, Hat, Hopen, Htok⟩
  · isplitl [Hv]
    · iapply (bars_gather (F := F)) $$ Hv
    · iexact Hu
  imodintro
  iapply (bigSep_with_persistent (R := known m κ) (Φ := fun c => iprop(own0 c ∗ rest m c)) fun c _ => start_intro m κ c)
  isplitr
  · unfold known
    isplitr; · iexact Hinv
    iexact Hr
  iapply (one own0 (rest m))
  isplitr [HB]
  · unfold own0
    iapply (one _ _)
    isplitl [Htok]; · iapply (toks_deal (F := F)) $$ Htok
    iapply (one _ _)
    isplitl [Hat]; · iapply (ats_deal (F := F)) $$ Hat
    iapply (openers_deal (F := F)) $$ Hopen
  · iexact HB

/-! ## The run -/

theorem uc_mem (r : Ref sig .tc) (h : ¬ (Proc.devRef (τ := τ) .tc r).isScoped) : Proc.devRef .tc r ∈ uc :=
  Finset.mem_filter.mpr ⟨StableHlo.devRef_mem_tcRefs r, h⟩

/-- What the end says of one device. -/
def told (c : Dev nD) (s : MemSt nD τ sig (Elt F)) : Prop :=
  (∀ b ∈ uc, s.mem ((c : Thread nD τ).1, b) = U5 m c b) ∧ s.sem (cell c 18) = 0

theorem read_off (c : Dev nD) (s' : Phys nD τ sig (Elt F)) : iprop(finish m c ∗ SI s') ⊢ (|={Set.univ}=> iprop(⌜told m c s'.mem⌝ ∗ SI s') : sProp 𝕄) := by
  unfold finish StableHlo.held
  iintro ⟨⟨Hh, Hb⟩, HSI⟩
  icombine HSI Hb gives %hb
  ihave Hr := (pointsTo_read_all uc (fun b => ((c : Thread nD τ).1, b)) (U5 m c) s') $$ [Hh HSI]
  · isplitl [Hh] <;> iassumption
  icases Hr with ⟨%h, HSI⟩
  imodintro
  isplitr
  · ipureintro
    exact ⟨h, by simpa using hb⟩
  iexact HSI

theorem kept (c : Dev nD) (r : Ref sig .tc) (h0 : r ∉ hostOps0_W) (h3 : r ∉ hostOps3_W) (h8 : Proc.devRef (τ := τ) .tc r ≠ Proc.devRef .tc main_v8)
    (h9 : Proc.devRef (τ := τ) .tc r ≠ Proc.devRef .tc main_v9) (h10 : Proc.devRef (τ := τ) .tc r ≠ Proc.devRef .tc main_v10) :
    U5 m c r = m ((c : Dev nD), Proc.devRef .tc r) := by
  rw [U5_of m c r h3, U4_of m c _ h10, U3_of m c _ h9, U2_of m c _ h8, V1_of m c r h0]

set_option backward.isDefEq.respectTransparency.types false in
theorem run_main [FloatOps F] : θ_run defs (onTc (τ := τ) (main (F := F))) ⟨m, fun _ => 0, ρ⟩
    (fun r => (∀ c : Dev nD, ∀ b ∈ uc, r.2.mem ((c : Thread nD τ).1, b) = U5 m c b) ∧ r.2.sem = fun _ => 0) :=
  Pipeline.θ_run_regions_kit_sems (pcfgs (F := F)) adm (pdats m) () cellOf_inj EP defs₀ 𝒱₀ L lv m ρ main (items m)
    (fun c Q => by rw [main_items m c])
    (by simp only [items, Pipeline.Seg.pipes_host, Pipeline.Seg.pipes_region, Pipeline.Seg.pipes_nil]; decide)
    (O₀ := O₀) (hL := L_of_ne) (G := park) (u₀ := seed)
    (hu₀ := by
      unfold seed
      iintro Hu
      ihave H := (ownU_pair _ _) $$ Hu
      icases H with ⟨HP, HX⟩
      imodintro
      isplitl [HP]; · iexact HP
      rw [park_all]; iexact HX)
    (T₀ := start m) (Tₙ := finish m)
    (hch := ⟨fun c => .rfl, fun c => enter0 m c, fun c => meet01 m c, fun c => meet12 m c, fun c => leave2 m c, fun c => by
      show iprop(StableHlo.held (c : Thread nD τ) uc (U5 m c) ∗ (Yk c ∗ ∃ Wd, owes (c : Thread nD τ) (0 : CellTallies nD τ sig Unit) Wd))
        ⊢ iprop(finish m c ∗ ∃ Wd, owes (c : Thread nD τ) (0 : CellTallies nD τ sig Unit) Wd)
      unfold Yk
      iintro ⟨Hh, Hb, HO⟩
      isplitr [HO]
      · isplitl [Hh] <;> iassumption
      · iexact HO⟩)
    (hinit := init m ρ) (QY := told m) (hfin := read_off m)
    (hQ := fun s h hs => ⟨fun c => (h c).1, sem_eq_zero hs fun c sm hsm => by
      obtain rfl := only_barrier sm hsm
      exact (h c).2⟩)

end Cert.KernelIdeal.P
-- ==== Proof.Frames.lean ====
module

public import proofs.«01_k».proof.Defs
public import proofs.«01_k».proof.Proof.Gen.Kernel
public import proofs.«01_k».proof.Proof.Gen.ReferenceIdeal.Run
public import proofs.«01_k».proof.Proof.Run

@[expose] public section

set_option maxRecDepth 65536

noncomputable section

/-! The frames: every program ends, with its arguments as they were and every counter at zero. -/

namespace Cert.Proof

open Idealize.ShloMosaic Idealize.ShloMosaic.TcCoe
open Idealize.SL Idealize.SL.Sem

section
open Cert.KernelIdeal Cert.KernelIdeal.Gen Cert.KernelIdeal.P

variable {F : FTy → Type} [FloatOps F]
variable (m : (ℓ : Loc nD τ sig) → Buf (Elt F) ℓ)

theorem kept0 (c : Dev nD) : U5 m c main_arg0 = m ((c.tc : Thread nD τ).loc main_arg0) := kept m c main_arg0 (by decide) (by decide) (by decide) (by decide) (by decide)
theorem kept1 (c : Dev nD) : U5 m c main_arg1 = m ((c.tc : Thread nD τ).loc main_arg1) := kept m c main_arg1 (by decide) (by decide) (by decide) (by decide) (by decide)
theorem kept2 (c : Dev nD) : U5 m c main_arg2 = m ((c.tc : Thread nD τ).loc main_arg2) := kept m c main_arg2 (by decide) (by decide) (by decide) (by decide) (by decide)
theorem kept3 (c : Dev nD) : U5 m c main_arg3 = m ((c.tc : Thread nD τ).loc main_arg3) := kept m c main_arg3 (by decide) (by decide) (by decide) (by decide) (by decide)

/-- What a final state says of the arrays the claims speak of. -/
def Ends (r : PUnit × MemSt nD τ sig (Elt F)) : Prop :=
  (∀ c : Dev nD, r.2.mem ((c.tc : Thread nD τ).loc main_v11) = U5 m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0

theorem run_ends (ρ : Dev nD → PrngReg) :
    θ_run defs (onTc (τ := τ) (main (F := F))) ⟨m, fun _ => 0, ρ⟩ (Ends m) :=
  (θ_run defs _ _).mono (fun _ h => ⟨fun c => ⟨h.1 c (Proc.devRef .tc main_v11) (uc_mem main_v11 (by decide)),
      (h.1 c (Proc.devRef .tc main_arg0) (uc_mem main_arg0 (by decide))).trans (kept0 m c),
      (h.1 c (Proc.devRef .tc main_arg1) (uc_mem main_arg1 (by decide))).trans (kept1 m c),
      (h.1 c (Proc.devRef .tc main_arg2) (uc_mem main_arg2 (by decide))).trans (kept2 m c),
      (h.1 c (Proc.devRef .tc main_arg3) (uc_mem main_arg3 (by decide))).trans (kept3 m c)⟩, h.2⟩) (run_main m ρ)

theorem run_frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_ends m ρ)
end

theorem frame_ideal : Cert.quiescent_KernelIdeal := fun m ρ _ => run_frame (F := Ideal) m ρ

/-! The kernel as printed for machine words is the same text: label by label the same bodies. -/

theorem body_table : Cert.Kernel.defs₀ (F := Bits) = Cert.KernelIdeal.defs₀ (F := Bits) := by
  funext p l a
  match p, l with
  | .tc, ⟨0, _⟩ => rfl
  | .tc, ⟨1, _⟩ => rfl
  | .tc, ⟨2, _⟩ => rfl
  | .scVector _ _, _ => rfl
  | .scScalar _, _ => rfl

theorem table : Cert.Kernel.defs (F := Bits) = Cert.KernelIdeal.defs (F := Bits) := by
  show Pipeline.defs Cert.KernelIdeal.pcfgs (Cert.Kernel.defs₀ (F := Bits)) = _
  rw [body_table]
  rfl

theorem frame_kernel : Cert.quiescent_Kernel := fun m ρ _ => by
  rw [table]
  exact run_frame (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Sorts.lean ====
module

public import proofs.«01_k».proof.Proof.Segs
public import Idealize.ShloMosaic.Lib.SortFacts
public import Idealize.ShloMosaic.Lib.StableHlo.ReadAt
public import Idealize.ShloMosaic.Lib.Pointwise

@[expose] public section

set_option maxRecDepth 65536

noncomputable section

namespace Cert.KernelIdeal.P

open Idealize.ShloMosaic Idealize.ShloMosaic.TcCoe
open Idealize.SL.Sem
open Cert.KernelIdeal.Gen

variable {F : FTy → Type} [FloatOps F]

/-! ## The two sorts of the host -/

theorem along1 (j : S2048.Idx) (h : 0 < S2048.rank) (k : Fin 2048) : j.along ⟨0, h⟩ k = ix1 k := by
  funext a
  match a with
  | ⟨0, _⟩ => exact Function.update_self ..

/-- The order in which the host sorts the rows: position k of the sorted rows holds row `order x k`. -/
def order (x : S2048.Idx → BitVec 32) : Fin 2048 → Fin 2048 :=
  sortedFrom fun k k' => IntOp.cmpi .slt (x (ix1 k)) (x (ix1 k')) == 1#1

theorem sort2_eq (x y : S2048.Idx → BitVec 32) :
    Host.sort2 S2048 0 comparator_i32_i32_d0 x y = (fun j => x (ix1 (order x (j 0))), fun j => y (ix1 (order x (j 0)))) := by
  have hk : ∀ j : S2048.Idx, sortedFrom (fun k k' : Fin 2048 => comparator_i32_i32_d0 (x (j.along ⟨0, Nat.one_pos⟩ k), y (j.along ⟨0, Nat.one_pos⟩ k))
      (x (j.along ⟨0, Nat.one_pos⟩ k'), y (j.along ⟨0, Nat.one_pos⟩ k')) == 1#1) (j 0) = order x (j 0) := fun j =>
    congrFun (congrArg sortedFrom (funext fun k => funext fun k' =>
      congrArg₂ (fun a b => IntOp.cmpi .slt (x a) (x b) == 1#1) (along1 j _ k) (along1 j _ k'))) _
  unfold Host.sort2
  rw [dif_pos Nat.one_pos]
  exact Prod.ext (funext fun j => congrArg x ((along1 j _ _).trans (congrArg ix1 (hk j))))
    (funext fun j => congrArg y ((along1 j _ _).trans (congrArg ix1 (hk j))))

theorem sort2_fst (x y : S2048.Idx → BitVec 32) (r : Fin 2048) :
    (Host.sort2 S2048 0 comparator_i32_i32_d0 x y).1 (ix1 r) = x (ix1 (order x r)) := by
  rw [sort2_eq]; rfl

theorem sort2_snd (x y : S2048.Idx → BitVec 32) (r : Fin 2048) :
    (Host.sort2 S2048 0 comparator_i32_i32_d0 x y).2 (ix1 r) = y (ix1 (order x r)) := by
  rw [sort2_eq]; rfl

/-- The words 0, 1, 2, … order like the numbers. -/
theorem slt_small (a b : Fin 2048) : IntOp.cmpi .slt (BitVec.ofNat 32 a.val) (BitVec.ofNat 32 b.val) = 1#1 ↔ a < b := by
  have ha := a.isLt
  have hb := b.isLt
  have h : (BitVec.ofNat 32 a.val).slt (BitVec.ofNat 32 b.val) = decide (a < b) := by
    rw [BitVec.slt_eq_decide, BitVec.toInt_ofNat', BitVec.toInt_ofNat']
    rw [Int.bmod_eq_of_le (by omega) (by omega), Int.bmod_eq_of_le (by omega) (by omega)]
    simp only [Fin.lt_def]
    congr 1
    simp
  show (bif (BitVec.ofNat 32 a.val).slt (BitVec.ofNat 32 b.val) then 1#1 else 0#1) = 1#1 ↔ _
  rw [h]
  by_cases hab : a < b <;> simp [hab]

/-- Sorting the sorted order's words gives the inverse order. -/
theorem order_inv (x : S2048.Idx → BitVec 32) (p : Fin 2048 → Fin 2048) (hp : Function.Injective p)
    (hx : ∀ k, x (ix1 k) = BitVec.ofNat 32 (p k).val) (j : Fin 2048) : p (order x j) = j := by
  have hb : (fun k k' => IntOp.cmpi .slt (x (ix1 k)) (x (ix1 k')) == 1#1) = fun k k' => decide (p k < p k') := by
    funext k k'
    rw [hx, hx]
    by_cases h : p k < p k'
    · rw [(slt_small _ _).mpr h]; simp [h]
    · have : ¬ IntOp.cmpi .slt (BitVec.ofNat 32 (p k).val) (BitVec.ofNat 32 (p k').val) = 1#1 := fun e => h ((slt_small _ _).mp e)
      simp [h, this]
  have hinj : Function.Injective (order x) := sortedFrom_injective _
  have hmono : StrictMono (p ∘ order x) := by
    intro a b hab
    have h := sortedFrom_noInversion (fun k k' => decide (p k < p k')) (fun k k' => decide (p k < p k'))
      (by intro a b h; simp at h ⊢; exact le_of_lt h) (by intro a b h; exact h)
      (by intro a b c h1 h2; simp at h1 h2 ⊢; exact le_trans h2 h1) a b hab
    have h' : ¬ p (order x b) < p (order x a) := by
      unfold order; rw [hb]; simpa using h
    exact lt_of_le_of_ne (not_lt.mp h') fun e => absurd (hinj (hp e)) hab.ne
  have hs : Function.Surjective (p ∘ order x) := Finite.surjective_of_injective hmono.injective
  have h := Subsingleton.elim (StrictMono.orderIsoOfSurjective _ hmono hs) (OrderIso.refl (Fin 2048))
  exact congrArg (fun e : Fin 2048 ≃o Fin 2048 => e j) h

theorem order_injective (x : S2048.Idx → BitVec 32) : Function.Injective (order x) := sortedFrom_injective _

/-! ## The index table and the sorted assignment, read at an index -/

variable (m : (ℓ : Loc nD τ sig) → Buf (Elt F) ℓ)

/-- The rows' order on device c: position r of the sorted rows holds row `sig c r`. -/
def σ (c : Dev nD) : Fin 2048 → Fin 2048 := order (V0 m c main_arg1)
/-- Where row r lies among the sorted rows. -/
def ρ (c : Dev nD) : Fin 2048 → Fin 2048 := order (fun j => BitVec.ofNat 32 (σ m c (j 0)).val)

/-- The sorted order as words. -/
abbrev permW (c : Dev nD) : S2048.Idx → BitVec 32 := (Host.sort2 S2048 0 comparator_i32_i32_d0 (V0 m c main_arg1) (iotaInDim S2048 32 0)).2
/-- Its inverse as words. -/
abbrev invW (c : Dev nD) : S2048.Idx → BitVec 32 := (Host.sort2 S2048 0 comparator_i32_i32_d0 (permW m c) (iotaInDim S2048 32 0)).2

theorem permW_eq (c : Dev nD) : permW m c = fun j => BitVec.ofNat 32 (σ m c (j 0)).val := by
  funext j
  rw [eq_ix1 j]
  exact sort2_snd _ _ _

theorem invW_eq (c : Dev nD) : invW m c = fun j => BitVec.ofNat 32 (ρ m c (j 0)).val := by
  funext j
  rw [eq_ix1 j]
  unfold invW
  rw [permW_eq]
  exact sort2_snd _ _ _

theorem σ_ρ (c : Dev nD) (r : Fin 2048) : σ m c (ρ m c r) = r := by
  unfold ρ
  exact order_inv (fun j => BitVec.ofNat 32 (σ m c (j 0)).val) (σ m c) (by unfold σ; exact order_injective _) (fun _ => rfl) r

theorem V1_v6 (c : Dev nD) : V1 m c main_v6 = concatenate S2048x2 1
    [⟨S2048x1, broadcastInDim S2048x1 ![0] bcast_S2048_S2048x1_0 (permW m c)⟩, ⟨S2048x1, broadcastInDim S2048x1 ![0] bcast_S2048_S2048x1_0 (invW m c)⟩]
    concatenates_S2048x1_S2048x1_S2048x2_d1 := by
  unfold_abbrev_sides
  after_results <;> rfl

theorem V1_v7 (c : Dev nD) : V1 m c main_v7 = shapeCast S2048x1
    (Host.sort2 S2048 0 comparator_i32_i32_d0 (V0 m c main_arg1) (iotaInDim S2048 32 0)).1 shapeCasts_S2048_S2048x1 := by
  unfold_abbrev_sides
  after_results <;> rfl

theorem v6_perm (c : Dev nD) (r : Fin 2048) : (V1 m c main_v6 : S2048x2.Idx → BitVec 32) (ix2 r 0) = BitVec.ofNat 32 (σ m c r).val := by
  rw [V1_v6, permW_eq]
  pointwise

theorem v6_inv (c : Dev nD) (r : Fin 2048) : (V1 m c main_v6 : S2048x2.Idx → BitVec 32) (ix2 r 1) = BitVec.ofNat 32 (ρ m c r).val := by
  rw [V1_v6, invW_eq]
  pointwise

theorem v7_row (c : Dev nD) (r : Fin 2048) :
    (V1 m c main_v7 : S2048x1.Idx → BitVec 32) (ix2 r 0) = (V0 m c main_arg1 : S2048.Idx → BitVec 32) (ix1 (σ m c r)) := by
  rw [V1_v7]
  pointwise
  exact sort2_fst _ _ _

end Cert.KernelIdeal.P
-- ==== Proof.Select.lean ====
module

public import proofs.«01_k».proof.Proof.Sorts
public import Idealize.ShloMosaic.PureOps.Ideal.Laws

@[expose] public section

set_option maxRecDepth 65536

noncomputable section

namespace Cert.KernelIdeal.P

open Idealize.ShloMosaic Idealize.ShloMosaic.TcCoe
open Idealize.SL.Sem
open Cert.KernelIdeal.Gen

/-- The word of row t of block k. -/
theorem word_at (k : ℕ) (t : ℕ) : IntOp.addi (BitVec.ofNat 32 t) (Scalar.muli (Scf.iv 0#32 1#32 k) 256#32) = BitVec.ofNat 32 (256 * k + t) := by
  show BitVec.ofNat 32 t + (0#32 + BitVec.ofNat 32 k * 1#32) * 256#32 = _
  apply BitVec.eq_of_toNat_eq
  simp only [BitVec.toNat_add, BitVec.toNat_mul, BitVec.toNat_ofNat]
  omega

/-- The value of a comparison for equality. -/
theorem eq_val (a b : BitVec 32) : (FloatOps.sitofp FTy.f32 (BitVec.setWidth 32 (IntOp.cmpi .eq a b)) : Ideal .f32) = if a = b then 1 else 0 := by
  by_cases h : a = b
  · subst h
    rw [if_pos rfl]
    have : IntOp.cmpi .eq a a = 1#1 := by simp [IntOp.cmpi]
    rw [this]
    show (((BitVec.setWidth 32 1#1).toInt : ℝ) : EReal) = 1
    norm_num
  · rw [if_neg h]
    have : IntOp.cmpi .eq a b = 0#1 := by
      show BitVec.ofBool (a == b) = 0#1
      rw [beq_eq_false_iff_ne.mpr h]; rfl
    rw [this]
    show (((BitVec.setWidth 32 0#1).toInt : ℝ) : EReal) = 0
    norm_num

theorem pay29_at (v : Vec Ideal S256x1 .i32) (k : Fin k2_t2_loop.trips) (acc : FVec Ideal S256x1024 .f32) (b : Vec Ideal S256x1024 .bf16)
    (q : Fin 256) (d : Fin 1024) : k2_pay29 v k acc b (ix2 q d)
      = acc (ix2 q d) + ∑ t : Fin 256, (if v (ix2 q 0) = BitVec.ofNat 32 (256 * (bk k).val + t.val) then 1 else 0) * b (ix2 t d) := by
  pointwise [k2_pay29]
  refine congrArg (acc (ix2 q d) + ·) (Finset.sum_congr rfl fun t _ => congrArg (· * b (ix2 t d)) ?_)
  rw [word_at, eq_val]

theorem pay28_at (q : Fin 256) (d : Fin 1024) : (k2_pay28 (F := Ideal)) (ix2 q d) = 0 := by
  pointwise [k2_pay28]

theorem pay30_eq (x : FVec Ideal S256x1024 .f32) : k2_pay30 x = x := by
  funext j
  pointwise [k2_pay30]

/-! ## A gather picks rows -/

/-- A sum of one-hot products picks one term. -/
theorem pick {n : ℕ} (p : Fin n → Prop) [DecidablePred p] (f : Fin n → EReal) (k : Fin n) (hk : ∀ t, p t ↔ t = k) :
    ∑ t : Fin n, (if p t then 1 else 0) * f t = f k := by
  rw [Finset.sum_eq_single k]
  · rw [if_pos ((hk k).mpr rfl), one_mul]
  · intro t _ ht
    rw [if_neg (fun h => ht ((hk t).mp h)), zero_mul]
  · exact fun h => absurd (Finset.mem_univ _) h

theorem pick_none {n : ℕ} (p : Fin n → Prop) [DecidablePred p] (f : Fin n → EReal) (hk : ∀ t, ¬ p t) :
    ∑ t : Fin n, (if p t then 1 else 0) * f t = 0 :=
  Finset.sum_eq_zero fun t _ => by rw [if_neg (hk t), zero_mul]

theorem word_inj {a b : ℕ} (ha : a < 2048) (hb : b < 2048) : BitVec.ofNat 32 a = BitVec.ofNat 32 b ↔ a = b := by
  constructor
  · intro h
    have := congrArg BitVec.toNat h
    simp only [BitVec.toNat_ofNat] at this
    omega
  · rintro rfl; rfl

/-- The running sum after k blocks: the picked row if it lies in them. -/
theorem gacc_at (v : Vec Ideal S256x1 .i32) (X : Fin 8 → Vec Ideal S256x1024 .bf16) (q : Fin 256) (d : Fin 1024) (p : Fin 2048)
    (hv : v (ix2 q 0) = BitVec.ofNat 32 p.val) (k : ℕ) (hk : k ≤ 8) :
    gacc v X k (ix2 q d) = if p.val < 256 * k then X ⟨p.val / 256, by omega⟩ (ix2 ⟨p.val % 256, Nat.mod_lt _ (by decide)⟩ d) else 0 := by
  induction k with
  | zero => rw [if_neg (by omega)]; exact pay28_at q d
  | succ k ih =>
    have hk8 : k < k2_t2_loop.trips := by rw [trips2]; omega
    have hp := p.isLt
    rw [gacc_succ v X ⟨k, hk8⟩, pay29_at, ih (by omega), hv]
    have hbk : (bk ⟨k, hk8⟩).val = k := rfl
    by_cases h1 : p.val < 256 * k
    · rw [if_pos h1, if_pos (by omega), pick_none, add_zero]
      intro t
      have ht := t.isLt
      rw [hbk, word_inj (by omega) (by omega)]; omega
    · rw [if_neg h1, zero_add]
      by_cases h2 : p.val < 256 * (k + 1)
      · rw [if_pos h2]
        have hq : p.val / 256 = k := by omega
        have hX : bk ⟨k, hk8⟩ = (⟨p.val / 256, by omega⟩ : Fin 8) := Fin.ext hq.symm
        rw [pick _ _ ⟨p.val % 256, Nat.mod_lt _ (by decide)⟩, hX]
        intro t
        have ht := t.isLt
        rw [hbk, word_inj (by omega) (by omega), Fin.ext_iff]
        show p.val = 256 * k + t.val ↔ t.val = p.val % 256
        omega
      · rw [if_neg h2, pick_none]
        intro t
        have ht := t.isLt
        rw [hbk, word_inj (by omega) (by omega)]; omega

theorem rows_emb (b : Fin 8) (q : Fin 256) (d : Fin 1024) : (rows b).emb (ix2 q d) = ix2 ⟨256 * b.val + q.val, by omega⟩ d := by
  funext a
  apply Fin.ext
  match a with
  | ⟨0, _⟩ => show 256 * b.val + 1 * q.val = 256 * b.val + q.val; omega
  | ⟨1, _⟩ => show 0 + 1 * d.val = d.val; omega

theorem colR_emb (j : Fin 2) (b : Fin 8) (q : Fin 256) : (colR j b).emb (ix2 q 0) = ix2 ⟨256 * b.val + q.val, by omega⟩ j := by
  funext a
  apply Fin.ext
  match a with
  | ⟨0, _⟩ => show 256 * b.val + 1 * q.val = 256 * b.val + q.val; omega
  | ⟨1, _⟩ => show j.val + 1 * 0 = j.val; omega

theorem glue_at {α : Type} (B : Fin 8 → S256x1024.Idx → α) (r : Fin 2048) (d : Fin 1024) :
    glue B (ix2 r d) = B ⟨r.val / 256, by omega⟩ (ix2 ⟨r.val % 256, Nat.mod_lt _ (by decide)⟩ d) := by
  unfold glue
  congr 1
  funext a
  match a with
  | ⟨0, _⟩ => rfl
  | ⟨1, _⟩ => rfl

/-- **Row r of a gather is the row that the table names.** -/
theorem GATH_at (j : Fin 2) (M : S2048x2.Idx → BitVec 32) (X : S2048x1024.Idx → Ideal .bf16) (p : Fin 2048 → Fin 2048)
    (hM : ∀ r, M (ix2 r j) = BitVec.ofNat 32 (p r).val) (r : Fin 2048) (d : Fin 1024) : GATH j M X (ix2 r d) = X (ix2 (p r) d) := by
  have hr := r.isLt
  have hp := (p r).isLt
  unfold GATH
  rw [glue_at]
  unfold gatherBlock
  rw [pay30_eq, trips2, gacc_at _ _ _ _ (p r) ?_ 8 (le_refl _), if_pos (by omega), rows_emb]
  · congr 2
    apply Fin.ext
    show 256 * ((p r).val / 256) + (p r).val % 256 = (p r).val
    omega
  · show M ((colR j _).emb (ix2 _ 0)) = _
    rw [colR_emb, ← hM]
    congr 2
    apply Fin.ext
    show 256 * (r.val / 256) + r.val % 256 = r.val
    omega

end Cert.KernelIdeal.P
-- ==== Proof.Mlp.lean ====
module

public import proofs.«01_k».proof.Proof.Select

@[expose] public section

set_option maxRecDepth 65536

noncomputable section

namespace Cert.KernelIdeal.P

open Idealize.ShloMosaic Idealize.ShloMosaic.TcCoe
open Idealize.SL.Sem
open Cert.KernelIdeal.Gen

/-! ## One expert on one row -/

/-- The two-layer product with the positive part between. -/
def mlp (x : Fin 1024 → EReal) (w1 : Fin 1024 → Fin 2048 → EReal) (w2 : Fin 2048 → Fin 1024 → EReal) (d : Fin 1024) : EReal :=
  ∑ f : Fin 2048, max (∑ k : Fin 1024, x k * w1 k f) 0 * w2 f d

theorem select_eq (a b : BitVec 32) (u : EReal) : Scalar.select (IntOp.cmpi .eq a b) u 0 = if a = b then u else 0 := by
  by_cases h : a = b
  · subst h
    have : IntOp.cmpi .eq a a = 1#1 := by simp [IntOp.cmpi]
    rw [this, if_pos rfl]; rfl
  · have : IntOp.cmpi .eq a b = 0#1 := by
      show BitVec.ofBool (a == b) = 0#1
      rw [beq_eq_false_iff_ne.mpr h]; rfl
    rw [this, if_neg h]; rfl

theorem pay41_at (x : Vec Ideal S256x1024 .bf16) (s : Vec Ideal S256x1 .i32) (e : BitVec 32) (w1 : Vec Ideal S1x1024x2048 .bf16)
    (w2 : Vec Ideal S1x2048x1024 .bf16) (cur : FVec Ideal S256x1024 .bf16) (q : Fin 256) (d : Fin 1024) :
    k2_pay41 x s e w1 w2 cur (ix2 q d) = cur (ix2 q d) +
      if s (ix2 q 0) = e then mlp (fun k => x (ix2 q k)) (fun k f => w1 (ix3 0 k f)) (fun f d => w2 (ix3 0 f d)) d else 0 := by
  pointwise [k2_pay41]
  refine congrArg (cur (ix2 q d) + ·) ?_
  exact select_eq _ _ _

theorem pay6_at (j : S256x1024.Idx) : (k2_pay6 (F := Ideal)) j = 0 := by
  pointwise [k2_pay6]

/-- The guard is set where some row goes to the expert. -/
theorem guard_at (e : BitVec 32) (s : Vec Ideal S256x1 .i32) (q : Fin 256) (h : s (ix2 q 0) = e) : exGuard (F := Ideal) e s = 1#1 := by
  unfold exGuard
  pointwise [k2_pay40]
  rw [decide_eq_true]
  · rfl
  · rw [Finset.lt_fold_max]
    refine Or.inr ⟨(q, 0), Finset.mem_univ _, ?_⟩
    rw [h, select_eq, if_pos rfl]
    exact zero_lt_one

/-- **One expert's update of a block, read at an index.** -/
theorem exUpd_at (e : BitVec 32) (x : Vec Ideal S256x1024 .bf16) (s : Vec Ideal S256x1 .i32) (w1 : Vec Ideal S1x1024x2048 .bf16)
    (w2 : Vec Ideal S1x2048x1024 .bf16) (cur : FVec Ideal S256x1024 .bf16) (q : Fin 256) (d : Fin 1024) :
    exUpd e x s w1 w2 cur (ix2 q d) = cur (ix2 q d) +
      if s (ix2 q 0) = e then mlp (fun k => x (ix2 q k)) (fun k f => w1 (ix3 0 k f)) (fun f d => w2 (ix3 0 f d)) d else 0 := by
  unfold exUpd
  by_cases hg : exGuard (F := Ideal) e s = 1#1
  · rw [if_pos hg, pay41_at]
  · rw [if_neg hg, if_neg (fun h => hg (guard_at e s q h)), add_zero]

theorem w1R_emb (i : Fin 4) (k : Fin 1024) (f : Fin 2048) : (w1R i).emb (ix3 0 k f) = ix3 i k f := by
  funext a
  apply Fin.ext
  match a with
  | ⟨0, _⟩ => show i.val + 1 * 0 = i.val; omega
  | ⟨1, _⟩ => show 0 + 1 * k.val = k.val; omega
  | ⟨2, _⟩ => show 0 + 1 * f.val = f.val; omega

theorem w2R_emb (i : Fin 4) (f : Fin 2048) (d : Fin 1024) : (w2R i).emb (ix3 0 f d) = ix3 i f d := by
  funext a
  apply Fin.ext
  match a with
  | ⟨0, _⟩ => show i.val + 1 * 0 = i.val; omega
  | ⟨1, _⟩ => show 0 + 1 * f.val = f.val; omega
  | ⟨2, _⟩ => show 0 + 1 * d.val = d.val; omega

theorem oneR_emb (b : Fin 8) (q : Fin 256) : (oneR b).emb (ix2 q 0) = ix2 ⟨256 * b.val + q.val, by omega⟩ 0 := by
  funext a
  apply Fin.ext
  match a with
  | ⟨0, _⟩ => show 256 * b.val + 1 * q.val = 256 * b.val + q.val; omega
  | ⟨1, _⟩ => rfl

/-- What one of a device's experts adds to a row. -/
def term (v : BitVec 32) (x : Fin 1024 → EReal) (s : BitVec 32) (W1 : S4x1024x2048.Idx → EReal) (W2 : S4x2048x1024.Idx → EReal) (d : Fin 1024)
    (i : Fin 4) : EReal :=
  if s = Scalar.addi v (BitVec.ofNat 32 i.val) then mlp x (fun k f => W1 (ix3 i k f)) (fun f d => W2 (ix3 i f d)) d else 0

theorem exBlock_at (v : BitVec 32) (x : Vec Ideal S256x1024 .bf16) (s : Vec Ideal S256x1 .i32) (W1 : S4x1024x2048.Idx → Ideal .bf16)
    (W2 : S4x2048x1024.Idx → Ideal .bf16) (q : Fin 256) (d : Fin 1024) :
    exBlock v x s W1 W2 (ix2 q d) = ∑ i : Fin 4, term v (fun k => x (ix2 q k)) (s (ix2 q 0)) W1 W2 d i := by
  unfold exBlock
  rw [exUpd_at, exUpd_at, exUpd_at, exUpd_at, pay6_at, zero_add, Fin.sum_univ_four]
  simp only [w1R_emb, w2R_emb]
  rfl

/-- **A row after a device's four experts.** -/
theorem EXP_at (v : BitVec 32) (X : S2048x1024.Idx → Ideal .bf16) (s : S2048x1.Idx → BitVec 32) (W1 : S4x1024x2048.Idx → Ideal .bf16)
    (W2 : S4x2048x1024.Idx → Ideal .bf16) (r : Fin 2048) (d : Fin 1024) :
    EXP v X s W1 W2 (ix2 r d) = ∑ i : Fin 4, term v (fun k => X (ix2 r k)) (s (ix2 r 0)) W1 W2 d i := by
  have hr := r.isLt
  have he : (⟨256 * (r.val / 256) + r.val % 256, by omega⟩ : Fin 2048) = r := Fin.ext (by show 256 * (r.val / 256) + r.val % 256 = r.val; omega)
  unfold EXP
  rw [glue_at, exBlock_at]
  simp only [rows_emb, oneR_emb, he]

end Cert.KernelIdeal.P
-- ==== Proof.Result.lean ====
module

public import proofs.«01_k».proof.Proof.Mlp

@[expose] public section

set_option maxRecDepth 65536

noncomputable section

namespace Cert.KernelIdeal.P

open Idealize.ShloMosaic Idealize.ShloMosaic.TcCoe
open Idealize.SL.Sem
open Cert.KernelIdeal.Gen

variable (m : (ℓ : Loc nD τ sig) → Buf (Elt Ideal) ℓ)

/-! ## A row of the kernel's result -/

abbrev argX (c : Dev nD) : S2048x1024.Idx → Ideal .bf16 := V0 m c main_arg0
abbrev argA (c : Dev nD) : S2048.Idx → BitVec 32 := V0 m c main_arg1
abbrev argW (c : Dev nD) : S4x1024x2048.Idx → Ideal .bf16 := V0 m c main_arg2
abbrev argU (c : Dev nD) : S4x2048x1024.Idx → Ideal .bf16 := V0 m c main_arg3

theorem U3_arg0 (c : Dev nD) : U3 m c main_arg0 = argX m c := by
  rw [U3_of m c (Proc.devRef .tc main_arg0) (by decide), U2_of m c (Proc.devRef .tc main_arg0) (by decide)]
  exact V1_of m c main_arg0 (by decide)
theorem U3_v6 (c : Dev nD) : U3 m c main_v6 = V1 m c main_v6 := by
  rw [U3_of m c (Proc.devRef .tc main_v6) (by decide), U2_of m c (Proc.devRef .tc main_v6) (by decide)]
theorem U3_v7 (c : Dev nD) : U3 m c main_v7 = V1 m c main_v7 := by
  rw [U3_of m c (Proc.devRef .tc main_v7) (by decide), U2_of m c (Proc.devRef .tc main_v7) (by decide)]
theorem U3_v8 (c : Dev nD) : U3 m c main_v8 = argW m c := by
  rw [U3_of m c (Proc.devRef .tc main_v8) (by decide), U2_out]
  exact V1_of m c main_arg2 (by decide)
theorem U3_v9 (c : Dev nD) : U3 m c main_v9 = argU m c := by
  rw [U3_out, U2_of m c (Proc.devRef .tc main_arg3) (by decide)]
  exact V1_of m c main_arg3 (by decide)

/-- The share of device e's experts in row r of device c. -/
def share (e c : Dev nD) (r : Fin 2048) (d : Fin 1024) : EReal :=
  ∑ i : Fin 4, term (ebase e) (fun k => argX m c (ix2 r k)) (argA m c (ix1 r)) (argW m e) (argU m e) d i

theorem exp_at (e c : Dev nD) (r : Fin 2048) (d : Fin 1024) :
    EXP (F := Ideal) (ebase e) (GATH 0 (U3 m c main_v6) (U3 m c main_arg0)) (U3 m c main_v7) (U3 m e main_v8) (U3 m e main_v9) (ix2 r d)
      = share m e c (σ m c r) d := by
  rw [EXP_at, U3_v6, U3_v7, U3_v8, U3_v9, U3_arg0]
  unfold share
  rw [v7_row]
  simp only [GATH_at 0 _ _ _ (v6_perm m c)]

/-- The partner's part of a device's result. -/
theorem vals_re (W : Dev nD → Valuation τ sig (Elt Ideal)) (e : Dev nD) : (vals W).re e
    = EXP (F := Ideal) (ebase e) (GATH 0 (W (pr e) main_v6) (W (pr e) main_arg0)) (W (pr e) main_v7) (W e main_v8) (W e main_v9) := by
  unfold vals
  with_reducible rfl

theorem re_pr (W : Dev nD → Valuation τ sig (Elt Ideal)) (c : Dev nD) : (vals W).re (pr c)
    = EXP (F := Ideal) (ebase (pr c)) (GATH 0 (W c main_v6) (W c main_arg0)) (W c main_v7) (W (pr c) main_v8) (W (pr c) main_v9) := by
  rw [vals_re, pr_pr]

theorem result_gen (W : Dev nD → Valuation τ sig (Elt Ideal)) (c : Dev nD) (p : Fin 2048 → Fin 2048)
    (hM : ∀ r, (W c main_v6 : S2048x2.Idx → BitVec 32) (ix2 r 1) = BitVec.ofNat 32 (p r).val) (r : Fin 2048) (d : Fin 1024) (u t : EReal)
    (hu : EXP (F := Ideal) (ebase c) (GATH 0 (W c main_v6) (W c main_arg0)) (W c main_v7) (W c main_v8) (W c main_v9) (ix2 (p r) d) = u)
    (ht : EXP (F := Ideal) (ebase (pr c)) (GATH 0 (W c main_v6) (W c main_arg0)) (W c main_v7) (W (pr c) main_v8) (W (pr c) main_v9) (ix2 (p r) d) = t) :
    result W c (ix2 r d) = u + t := by
  subst hu ht
  rw [← re_pr]
  exact GATH_at 1 (W c main_v6) _ p hM r d

theorem result_at (c : Dev nD) (r : Fin 2048) (d : Fin 1024) :
    result (U3 m) c (ix2 r d) = share m c c r d + share m (pr c) c r d := by
  have h1 := exp_at m c c (ρ m c r) d
  have h2 := exp_at m (pr c) c (ρ m c r) d
  rw [σ_ρ] at h1 h2
  exact result_gen (U3 m) c (ρ m c) (by rw [U3_v6]; exact v6_inv m c) r d _ _ h1 h2

theorem after3 (V : Valuation τ sig (Elt Ideal)) : StableHlo.after hostOps3 V main_v11
    = extf (F := Ideal) (s := S2048x1024) (φ := .bf16) .f32 (V main_v10) bitsLt_bf16_f32 := by
  after_results

theorem U5_v11 (c : Dev nD) : U5 m c main_v11 = result (U3 m) c := by
  unfold U5
  rw [after3, U4_out]
  rfl

/-- **Row r of device c's result: the shares of its own experts and of its partner's.** -/
theorem kernel_at (c : Dev nD) (r : Fin 2048) (d : Fin 1024) :
    (U5 m c main_v11 : S2048x1024.Idx → Ideal .f32) (ix2 r d) = share m c c r d + share m (pr c) c r d := by
  rw [U5_v11]
  exact result_at m c r d

end Cert.KernelIdeal.P
-- ==== Proof.Refers.lean ====
module

public import proofs.«01_k».proof.Proof.Mlp
public import proofs.«01_k».proof.Proof.Gen.ReferenceIdeal.Run

@[expose] public section

set_option maxRecDepth 65536

noncomputable section

namespace Cert.ReferenceIdeal.P

open Idealize.ShloMosaic Idealize.ShloMosaic.TcCoe
open Idealize.SL.Sem
open Cert.ReferenceIdeal Cert.ReferenceIdeal.Gen
open Cert.KernelIdeal.P (mlp select_eq)

variable (m : (ℓ : Loc nD τ sig) → Buf (Elt Ideal) ℓ)

abbrev argX : S4096x1024.Idx → Ideal .bf16 := m ((0 : Dev nD), Proc.devRef .tc main_arg0)
abbrev argA : S4096.Idx → BitVec 32 := m ((0 : Dev nD), Proc.devRef .tc main_arg1)
abbrev argW : S8x1024x2048.Idx → Ideal .bf16 := m ((0 : Dev nD), Proc.devRef .tc main_arg2)
abbrev argU : S8x2048x1024.Idx → Ideal .bf16 := m ((0 : Dev nD), Proc.devRef .tc main_arg3)

/-- Expert e on row r. -/
def full (r : Fin 4096) (d : Fin 1024) (e : Fin 8) : EReal :=
  mlp (fun k => argX m (ix2 r k)) (fun k f => argW m (ix3 e k f)) (fun f d => argU m (ix3 e f d)) d

theorem select_ite (a b : BitVec 32) (u v : EReal) : Scalar.select (IntOp.cmpi .eq a b) u v = if a = b then u else v := by
  by_cases h : a = b
  · subst h
    have : IntOp.cmpi .eq a a = 1#1 := by simp [IntOp.cmpi]
    rw [this, if_pos rfl]; rfl
  · have : IntOp.cmpi .eq a b = 0#1 := by
      show BitVec.ofBool (a == b) = 0#1
      rw [beq_eq_false_iff_ne.mpr h]; rfl
    rw [this, if_neg h]; rfl

/-- A chain of choices by a word, as a sum with one term at most. -/
theorem chain_sum (a : BitVec 32) (u : Fin 8 → EReal) :
    (if a = 7#32 then u 7 else if a = 6#32 then u 6 else if a = 5#32 then u 5 else if a = 4#32 then u 4 else if a = 3#32 then u 3
      else if a = 2#32 then u 2 else if a = 1#32 then u 1 else if a = 0#32 then u 0 else 0)
      = ∑ e : Fin 8, if a = BitVec.ofNat 32 e.val then u e else 0 := by
  rw [Fin.sum_univ_eight]
  by_cases h7 : a = 7#32
  · subst h7; simp
  by_cases h6 : a = 6#32
  · subst h6; simp
  by_cases h5 : a = 5#32
  · subst h5; simp
  by_cases h4 : a = 4#32
  · subst h4; simp
  by_cases h3 : a = 3#32
  · subst h3; simp
  by_cases h2 : a = 2#32
  · subst h2; simp
  by_cases h1 : a = 1#32
  · subst h1; simp
  by_cases h0 : a = 0#32
  · subst h0; simp
  simp [h7, h6, h5, h4, h3, h2, h1, h0]

theorem chain_select (a : BitVec 32) (u : Fin 8 → EReal) :
    (Scalar.select (IntOp.cmpi .eq a 7#32) (u 7)
      (Scalar.select (IntOp.cmpi .eq a 6#32) (u 6)
      (Scalar.select (IntOp.cmpi .eq a 5#32) (u 5)
      (Scalar.select (IntOp.cmpi .eq a 4#32) (u 4)
      (Scalar.select (IntOp.cmpi .eq a 3#32) (u 3)
      (Scalar.select (IntOp.cmpi .eq a 2#32) (u 2)
      (Scalar.select (IntOp.cmpi .eq a 1#32) (u 1)
      (Scalar.select (IntOp.cmpi .eq a 0#32) (u 0) 0))))))))
      = ∑ e : Fin 8, if a = BitVec.ofNat 32 e.val then u e else 0 := by
  simp only [select_ite]
  exact chain_sum a u

/-- **A row of the reference: the expert that the assignment names, or zero.** -/
theorem ref_at (r : Fin 4096) (d : Fin 1024) : (Value.res_main_v99 m 0 : S4096x1024.Idx → Ideal .f32) (ix2 r d)
    = ∑ e : Fin 8, if argA m (ix1 r) = BitVec.ofNat 32 e.val then full m r d e else 0 := by
  pointwise [Value.res_main_v99]
  exact chain_select (argA m (ix1 r)) (full m r d)

end Cert.ReferenceIdeal.P
-- ==== Proof.Equation.lean ====
module

public import proofs.«01_k».proof.Proof.Result
public import proofs.«01_k».proof.Proof.Refers
public import Idealize.ShloMosaic.Lib.Layout

@[expose] public section

set_option maxRecDepth 65536

noncomputable section

namespace Cert.Proof

open Idealize.ShloMosaic Idealize.ShloMosaic.TcCoe
open Idealize.SL.Sem
open Cert.KernelIdeal (nD τ sig)
open Cert.KernelIdeal.P (mlp term share kernel_at pr ebase)

/-! ## What a device holds of the reference's arrays -/

/-- The third mesh coordinate of a device. -/
def zc (c : Dev nD) : Fin 2 := ⟨c.val % 2, Nat.mod_lt _ (by decide)⟩

theorem block2 (c : Dev nD) : ((Layout.meshBlock (r := 2) [2, 2, 2] ![[2], []] c) 0).val = (zc c).val ∧ ((Layout.meshBlock (r := 2) [2, 2, 2] ![[2], []] c) 1).val = 0 := by
  revert c; decide
theorem block1 (c : Dev nD) : ((Layout.meshBlock (r := 1) [2, 2, 2] ![[2]] c) 0).val = (zc c).val := by
  revert c; decide
theorem block3 (c : Dev nD) : ((Layout.meshBlock (r := 3) [2, 2, 2] ![[2], [], []] c) 0).val = (zc c).val
    ∧ ((Layout.meshBlock (r := 3) [2, 2, 2] ![[2], [], []] c) 1).val = 0 ∧ ((Layout.meshBlock (r := 3) [2, 2, 2] ![[2], [], []] c) 2).val = 0 := by
  revert c; decide

theorem ext2 {α : Type} {n0 n1 : ℕ} {f g : (⟨2, ![n0, n1]⟩ : Shape).Idx → α} (h : ∀ r d, f (ix2 r d) = g (ix2 r d)) : f = g :=
  funext fun j => by rw [eq_ix2 j]; exact h _ _

/-- Row r of device c, among all the rows. -/
def row (c : Dev nD) (r : Fin 2048) : Fin 4096 := ⟨(zc c).val * 2048 + r.val, by omega⟩
/-- Expert i of device c, among all the experts. -/
def expert (c : Dev nD) (i : Fin 4) : Fin 8 := ⟨(zc c).val * 4 + i.val, by omega⟩

theorem rows_block {α : Type} (c : Dev nD) (v : (⟨2, ![4096, 1024]⟩ : Shape).Idx → α) (r : Fin 2048) (d : Fin 1024) :
    (Layout.blockN ⟨2, ![2048, 1024]⟩ ⟨2, ![4096, 1024]⟩ (Layout.meshBlock [2, 2, 2] ![[2], []] c) v) (ix2 r d) = v (ix2 (row c r) d) := by
  rw [Layout.blockN_apply]
  congr 1
  funext a
  apply Fin.ext
  rw [Layout.TilesN.idx_val]
  match a with
  | ⟨0, _⟩ => exact congrArg (· * 2048 + r.val) (block2 c).1
  | ⟨1, _⟩ => exact (congrArg (· * 1024 + d.val) (block2 c).2).trans (by show 0 * 1024 + d.val = d.val; omega)

theorem words_block {α : Type} (c : Dev nD) (v : (⟨1, ![4096]⟩ : Shape).Idx → α) (r : Fin 2048) :
    (Layout.blockN ⟨1, ![2048]⟩ ⟨1, ![4096]⟩ (Layout.meshBlock [2, 2, 2] ![[2]] c) v) (ix1 r) = v (ix1 (row c r)) := by
  rw [Layout.blockN_apply]
  congr 1
  funext a
  apply Fin.ext
  rw [Layout.TilesN.idx_val]
  match a with
  | ⟨0, _⟩ => exact congrArg (· * 2048 + r.val) (block1 c)

theorem first_block {α : Type} (c : Dev nD) (v : (⟨3, ![8, 1024, 2048]⟩ : Shape).Idx → α) (i : Fin 4) (k : Fin 1024) (f : Fin 2048) :
    (Layout.blockN ⟨3, ![4, 1024, 2048]⟩ ⟨3, ![8, 1024, 2048]⟩ (Layout.meshBlock [2, 2, 2] ![[2], [], []] c) v) (ix3 i k f) = v (ix3 (expert c i) k f) := by
  rw [Layout.blockN_apply]
  congr 1
  funext a
  apply Fin.ext
  rw [Layout.TilesN.idx_val]
  match a with
  | ⟨0, _⟩ => exact congrArg (· * 4 + i.val) (block3 c).1
  | ⟨1, _⟩ => exact (congrArg (· * 1024 + k.val) (block3 c).2.1).trans (by show 0 * 1024 + k.val = k.val; omega)
  | ⟨2, _⟩ => exact (congrArg (· * 2048 + f.val) (block3 c).2.2).trans (by show 0 * 2048 + f.val = f.val; omega)

theorem second_block {α : Type} (c : Dev nD) (v : (⟨3, ![8, 2048, 1024]⟩ : Shape).Idx → α) (i : Fin 4) (f : Fin 2048) (d : Fin 1024) :
    (Layout.blockN ⟨3, ![4, 2048, 1024]⟩ ⟨3, ![8, 2048, 1024]⟩ (Layout.meshBlock [2, 2, 2] ![[2], [], []] c) v) (ix3 i f d) = v (ix3 (expert c i) f d) := by
  rw [Layout.blockN_apply]
  congr 1
  funext a
  apply Fin.ext
  rw [Layout.TilesN.idx_val]
  match a with
  | ⟨0, _⟩ => exact congrArg (· * 4 + i.val) (block3 c).1
  | ⟨1, _⟩ => exact (congrArg (· * 2048 + f.val) (block3 c).2.1).trans (by show 0 * 2048 + f.val = f.val; omega)
  | ⟨2, _⟩ => exact (congrArg (· * 1024 + d.val) (block3 c).2.2).trans (by show 0 * 1024 + d.val = d.val; omega)

/-! ## The two programs' rows are equal -/

/-- The word of expert i of device c. -/
theorem expert_word (c : Dev nD) (i : Fin 4) : Scalar.addi (ebase c) (BitVec.ofNat 32 i.val) = BitVec.ofNat 32 (expert c i).val := by
  revert c i; decide

/-- A device's and its partner's experts are all the experts. -/
theorem both_sum (c : Dev nD) (f : Fin 8 → EReal) :
    (∑ i : Fin 4, f (expert c i)) + (∑ i : Fin 4, f (expert (pr c) i)) = ∑ e : Fin 8, f e := by
  have hz : zc c = 0 ∨ zc c = 1 := by omega
  have h0 : ∀ c : Dev nD, zc c = 0 → ∀ i : Fin 4, expert c i = Fin.castAdd 4 i := by decide
  have h1 : ∀ c : Dev nD, zc c = 1 → ∀ i : Fin 4, expert c i = Fin.natAdd 4 i := by decide
  have hp : ∀ c : Dev nD, (zc c = 0 → zc (pr c) = 1) ∧ (zc c = 1 → zc (pr c) = 0) := by decide
  have hs : ∑ e : Fin 8, f e = (∑ i : Fin 4, f (Fin.castAdd 4 i)) + ∑ i : Fin 4, f (Fin.natAdd 4 i) := Fin.sum_univ_add (a := 4) (b := 4) f
  rw [hs]
  rcases hz with h | h
  · simp only [h0 c h, h1 (pr c) ((hp c).1 h)]
  · simp only [h1 c h, h0 (pr c) ((hp c).2 h)]
    exact add_comm _ _

section
variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- Every device holds its block of the reference's arguments. -/
structure Blocks : Prop where
  x : ∀ c, Cert.KernelIdeal.P.argX m c = Layout.blockN ⟨2, ![2048, 1024]⟩ ⟨2, ![4096, 1024]⟩ (Layout.meshBlock [2, 2, 2] ![[2], []] c) (Cert.ReferenceIdeal.P.argX m')
  a : ∀ c, Cert.KernelIdeal.P.argA m c = Layout.blockN ⟨1, ![2048]⟩ ⟨1, ![4096]⟩ (Layout.meshBlock [2, 2, 2] ![[2]] c) (Cert.ReferenceIdeal.P.argA m')
  w : ∀ c, Cert.KernelIdeal.P.argW m c = Layout.blockN ⟨3, ![4, 1024, 2048]⟩ ⟨3, ![8, 1024, 2048]⟩ (Layout.meshBlock [2, 2, 2] ![[2], [], []] c) (Cert.ReferenceIdeal.P.argW m')
  u : ∀ c, Cert.KernelIdeal.P.argU m c = Layout.blockN ⟨3, ![4, 2048, 1024]⟩ ⟨3, ![8, 2048, 1024]⟩ (Layout.meshBlock [2, 2, 2] ![[2], [], []] c) (Cert.ReferenceIdeal.P.argU m')

variable {m m'}

theorem share_eq (h : Blocks m m') (e c : Dev nD) (r : Fin 2048) (d : Fin 1024) : share m e c r d
    = ∑ i : Fin 4, if Cert.ReferenceIdeal.P.argA m' (ix1 (row c r)) = BitVec.ofNat 32 (expert e i).val
        then Cert.ReferenceIdeal.P.full m' (row c r) d (expert e i) else 0 := by
  unfold share
  refine Finset.sum_congr rfl fun i _ => ?_
  unfold term Cert.ReferenceIdeal.P.full
  rw [h.x, h.a, h.w, h.u, words_block, expert_word]
  simp only [rows_block, first_block, second_block]

/-- **The kernel's result on device c is block c of the reference's.** -/
theorem result_eq (h : Blocks m m') (c : Dev nD) :
    (Cert.KernelIdeal.P.U5 m c Cert.KernelIdeal.main_v11 : (⟨2, ![2048, 1024]⟩ : Shape).Idx → Ideal .f32)
      = Layout.blockN ⟨2, ![2048, 1024]⟩ ⟨2, ![4096, 1024]⟩ (Layout.meshBlock [2, 2, 2] ![[2], []] c)
          (Cert.ReferenceIdeal.Value.res_main_v99 m' 0 : (⟨2, ![4096, 1024]⟩ : Shape).Idx → Ideal .f32) := by
  refine ext2 fun r d => ?_
  rw [rows_block]
  refine (kernel_at m c r d).trans (Eq.trans ?_ (Cert.ReferenceIdeal.P.ref_at m' (row c r) d).symm)
  rw [share_eq h, share_eq h]
  exact both_sum c fun e => if Cert.ReferenceIdeal.P.argA m' (ix1 (row c r)) = BitVec.ofNat 32 e.val
    then Cert.ReferenceIdeal.P.full m' (row c r) d e else 0

end

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

set_option maxRecDepth 65536

noncomputable section

/-! The claims, put together from the kernel's run and the reference's. -/

namespace Cert.Proof

open Idealize.ShloMosaic Idealize.ShloMosaic.TcCoe
open Idealize.SL Idealize.SL.Sem

/-- Every device ends with its block of the reference's result. -/
theorem algebraic : Cert.algebraic_KernelIdeal_ReferenceIdeal := fun m g m' g' _ h =>
  ⟨Cert.ReferenceIdeal.Value.res_main_v99 m' 0,
    (θ_run Cert.KernelIdeal.defs _ _).mono (fun _ hr c =>
      ⟨(hr.1 c).1.trans (result_eq ⟨fun c => (h c).1, fun c => (h c).2.1, fun c => (h c).2.2.1, fun c => (h c).2.2.2⟩ c), (hr.1 c).2⟩)
      (run_ends (F := Ideal) m g),
    (θ_run Cert.ReferenceIdeal.defs _ _).mono (fun _ hr => hr 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_reference, trivial,
    algebraic⟩

end Cert.Proof
